-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v6) = v1 c
          ∧ r.2.mem ((c.tc : Thread Cert.Reference3Ideal.nD Cert.Reference3Ideal.τ).loc Cert.Reference3Ideal.main_v7) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)) (v3 : (c : Dev Cert.Kernel5Ideal.nD) → Buf (Elt Ideal) ((c.tc : Thread Cert.Kernel5Ideal.nD Cert.Kernel5Ideal.τ).loc Cert.Kernel5Ideal.main_v8_3)) (v4 : (c : Dev Cert.Kernel5Ideal.nD) → Buf (Elt Ideal) ((c.tc : Thread Cert.Kernel5Ideal.nD Cert.Kernel5Ideal.τ).loc Cert.Kernel5Ideal.main_v8_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_v8_3) = v3 c
          ∧ r.2.mem ((c.tc : Thread Cert.Kernel5Ideal.nD Cert.Kernel5Ideal.τ).loc Cert.Kernel5Ideal.main_v8_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_v26) = v1 c
          ∧ r.2.mem ((c.tc : Thread Cert.Reference5Ideal.nD Cert.Reference5Ideal.τ).loc Cert.Reference5Ideal.main_v28) = v2 c
          ∧ r.2.mem ((c.tc : Thread Cert.Reference5Ideal.nD Cert.Reference5Ideal.τ).loc Cert.Reference5Ideal.main_v30) = v3 c
          ∧ r.2.mem ((c.tc : Thread Cert.Reference5Ideal.nD Cert.Reference5Ideal.τ).loc Cert.Reference5Ideal.main_v31) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S4x8192x2048 : Shape := ⟨3, ![4, 8192, 2048]⟩
abbrev S4x8192x3072 : Shape := ⟨3, ![4, 8192, 3072]⟩
abbrev S4x8192x32 : Shape := ⟨3, ![4, 8192, 32]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S_ : Shape := ⟨0, ![]⟩
abbrev S4x8192x128 : Shape := ⟨3, ![4, 8192, 128]⟩
abbrev S128 : Shape := ⟨1, ![128]⟩
abbrev S4x128x8192 : Shape := ⟨3, ![4, 128, 8192]⟩
abbrev S1x3072 : Shape := ⟨2, ![1, 3072]⟩
abbrev S1x128 : Shape := ⟨2, ![1, 128]⟩
abbrev S128x1 : Shape := ⟨2, ![128, 1]⟩
abbrev S32x64 : Shape := ⟨2, ![32, 64]⟩
abbrev S1x2048 : Shape := ⟨2, ![1, 2048]⟩
abbrev S1x128x3072 : Shape := ⟨3, ![1, 128, 3072]⟩
abbrev S1x128x2048 : Shape := ⟨3, ![1, 128, 2048]⟩
abbrev S1x128x128 : Shape := ⟨3, ![1, 128, 128]⟩
abbrev S136x3072 : Shape := ⟨2, ![136, 3072]⟩
abbrev S4x128x512 : Shape := ⟨3, ![4, 128, 512]⟩
abbrev S128x2048 : Shape := ⟨2, ![128, 2048]⟩
abbrev S8x3072 : Shape := ⟨2, ![8, 3072]⟩
abbrev S128x3072 : Shape := ⟨2, ![128, 3072]⟩
abbrev S128x512 : Shape := ⟨2, ![128, 512]⟩
abbrev S128x128 : Shape := ⟨2, ![128, 128]⟩
abbrev S1x128x512 : Shape := ⟨3, ![1, 128, 512]⟩
abbrev S128x256 : Shape := ⟨2, ![128, 256]⟩
abbrev S256x128 : Shape := ⟨2, ![256, 128]⟩
abbrev S1x1 : Shape := ⟨2, ![1, 1]⟩
abbrev S1x512 : Shape := ⟨2, ![1, 512]⟩

abbrev nBuf : Space → Nat
  | .hbm => 29
  | .vmem => 23
  | .smem => 0
  | _ => 0

abbrev bufTy : (tb : Table) → Fin (tcTables nBuf tb) → BufTy
  | .hbm, ⟨0, _⟩ => ⟨S4x8192x2048, .f32⟩
  | .hbm, ⟨1, _⟩ => ⟨S4x8192x3072, .f32⟩
  | .hbm, ⟨2, _⟩ => ⟨S4x8192x32, .f32⟩
  | .hbm, ⟨3, _⟩ => ⟨S4x3072, .f32⟩
  | .hbm, ⟨4, _⟩ => ⟨S3072, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S2048, .f32⟩
  | .hbm, ⟨9, _⟩ => ⟨S_, .i32⟩
  | .hbm, ⟨10, _⟩ => ⟨S_, .f32⟩
  | .hbm, ⟨11, _⟩ => ⟨S4x8192x128, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S4x128x8192, .f32⟩
  | .hbm, ⟨19, _⟩ => ⟨S1x3072, .f32⟩
  | .hbm, ⟨20, _⟩ => ⟨S1x128, .f32⟩
  | .hbm, ⟨21, _⟩ => ⟨S128x1, .f32⟩
  | .hbm, ⟨22, _⟩ => ⟨S1x128, .f32⟩
  | .hbm, ⟨23, _⟩ => ⟨S128x1, .f32⟩
  | .hbm, ⟨24, _⟩ => ⟨S32x64, .f32⟩
  | .hbm, ⟨25, _⟩ => ⟨S2048, .f32⟩
  | .hbm, ⟨26, _⟩ => ⟨S1x2048, .f32⟩
  | .hbm, ⟨27, _⟩ => ⟨S1x2048, .f32⟩
  | .hbm, ⟨28, _⟩ => ⟨S4x8192x2048, .bf16⟩
  | .local _ .vmem, ⟨0, _⟩ => ⟨S1x128x3072, .f32⟩
  | .local _ .vmem, ⟨1, _⟩ => ⟨S1x128x3072, .f32⟩
  | .local _ .vmem, ⟨2, _⟩ => ⟨S1x128x2048, .f32⟩
  | .local _ .vmem, ⟨3, _⟩ => ⟨S1x128x2048, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S4x3072, .f32⟩
  | .local _ .vmem, ⟨9, _⟩ => ⟨S1x3072, .f32⟩
  | .local _ .vmem, ⟨10, _⟩ => ⟨S1x128, .f32⟩
  | .local _ .vmem, ⟨11, _⟩ => ⟨S128x1, .f32⟩
  | .local _ .vmem, ⟨12, _⟩ => ⟨S1x128, .f32⟩
  | .local _ .vmem, ⟨13, _⟩ => ⟨S128x1, .f32⟩
  | .local _ .vmem, ⟨14, _⟩ => ⟨S1x2048, .f32⟩
  | .local _ .vmem, ⟨15, _⟩ => ⟨S1x2048, .f32⟩
  | .local _ .vmem, ⟨16, _⟩ => ⟨S1x128x2048, .bf16⟩
  | .local _ .vmem, ⟨17, _⟩ => ⟨S1x128x2048, .bf16⟩
  | .local _ .vmem, ⟨18, _⟩ => ⟨S136x3072, .f32⟩
  | .local _ .vmem, ⟨19, _⟩ => ⟨S4x128x512, .f32⟩
  | .local _ .vmem, ⟨20, _⟩ => ⟨S128x2048, .bf16⟩
  | .local _ .vmem, ⟨21, _⟩ => ⟨S128x2048, .f32⟩
  | .local _ .vmem, ⟨22, _⟩ => ⟨S1x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_0 : Ref sig .tc := ⟨.hbm, 12, rfl⟩
abbrev main_call1_v0 : Ref sig .tc := ⟨.hbm, 13, rfl⟩
abbrev main_v1 : Ref sig .tc := ⟨.hbm, 14, rfl⟩
abbrev main_c_1 : Ref sig .tc := ⟨.hbm, 15, rfl⟩
abbrev main_call2_v0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![4, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S4x8192x2048 : Shape := ⟨3, ![4, 8192, 2048]⟩
abbrev S4x8192x3072 : Shape := ⟨3, ![4, 8192, 3072]⟩
abbrev S4x8192x32 : Shape := ⟨3, ![4, 8192, 32]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S_ : Shape := ⟨0, ![]⟩
abbrev S4x8195x3072 : Shape := ⟨3, ![4, 8195, 3072]⟩
abbrev S1x3072 : Shape := ⟨2, ![1, 3072]⟩
abbrev S1x1x3072 : Shape := ⟨3, ![1, 1, 3072]⟩
abbrev S4x8192x512 : Shape := ⟨3, ![4, 8192, 512]⟩
abbrev S4x8192x32x64 : Shape := ⟨4, ![4, 8192, 32, 64]⟩
abbrev S1x1x32 : Shape := ⟨3, ![1, 1, 32]⟩
abbrev S4x8192x32x1 : Shape := ⟨4, ![4, 8192, 32, 1]⟩
abbrev S4x64x128x4x8x64 : Shape := ⟨6, ![4, 64, 128, 4, 8, 64]⟩
abbrev S4x64x128x4x8 : Shape := ⟨5, ![4, 64, 128, 4, 8]⟩
abbrev S4x64x128x4x128 : Shape := ⟨5, ![4, 64, 128, 4, 128]⟩
abbrev S4x64x1x4x8 : Shape := ⟨5, ![4, 64, 1, 4, 8]⟩
abbrev S4x64x128x4x8x1 : Shape := ⟨6, ![4, 64, 128, 4, 8, 1]⟩
abbrev S4x64x4x8x64x128 : Shape := ⟨6, ![4, 64, 4, 8, 64, 128]⟩
abbrev S4x64x4x8 : Shape := ⟨4, ![4, 64, 4, 8]⟩
abbrev S4x4x8x64x128 : Shape := ⟨5, ![4, 4, 8, 64, 128]⟩
abbrev S64x4x4x8x64x128 : Shape := ⟨6, ![64, 4, 4, 8, 64, 128]⟩
abbrev S64x4x4x8 : Shape := ⟨4, ![64, 4, 4, 8]⟩
abbrev S1x4x4x8x64x128 : Shape := ⟨6, ![1, 4, 4, 8, 64, 128]⟩
abbrev S1x4x4x8 : Shape := ⟨4, ![1, 4, 4, 8]⟩
abbrev S4x4x8 : Shape := ⟨3, ![4, 4, 8]⟩
abbrev S4x4x8x1x1 : Shape := ⟨5, ![4, 4, 8, 1, 1]⟩
abbrev S4x64x4x8x128 : Shape := ⟨5, ![4, 64, 4, 8, 128]⟩
abbrev S4x64x4x8x128x1 : Shape := ⟨6, ![4, 64, 4, 8, 128, 1]⟩
abbrev S4x64x4x8x1x128 : Shape := ⟨6, ![4, 64, 4, 8, 1, 128]⟩
abbrev S4x64x4x8x128x128 : Shape := ⟨6, ![4, 64, 4, 8, 128, 128]⟩
abbrev S128x128 : Shape := ⟨2, ![128, 128]⟩
abbrev S4x64x4x128x128 : Shape := ⟨5, ![4, 64, 4, 128, 128]⟩
abbrev S4x64x4x1x128x128 : Shape := ⟨6, ![4, 64, 4, 1, 128, 128]⟩
abbrev S32x1 : Shape := ⟨2, ![32, 1]⟩
abbrev S1x1x32x1 : Shape := ⟨4, ![1, 1, 32, 1]⟩
abbrev S4x8192x4x512 : Shape := ⟨4, ![4, 8192, 4, 512]⟩
abbrev S4x8192x4 : Shape := ⟨3, ![4, 8192, 4]⟩
abbrev S4x8192x4x1 : Shape := ⟨4, ![4, 8192, 4, 1]⟩
abbrev S1x1x2048 : Shape := ⟨3, ![1, 1, 2048]⟩

abbrev nBuf : Space → Nat
  | .hbm => 288
  | .vmem => 0
  | .smem => 0
  | _ => 0

abbrev hbmTy0_0 (i : Nat) : BufTy := match i % 128 with
  | 0 => ⟨S4x8192x2048, .f32⟩
  | 1 => ⟨S4x8192x3072, .f32⟩
  | 2 => ⟨S4x8192x32, .f32⟩
  | 3 => ⟨S4x3072, .f32⟩
  | 4 => ⟨S3072, .f32⟩
  | 5 => ⟨S32, .f32⟩
  | 6 => ⟨S32, .f32⟩
  | 7 => ⟨S32, .f32⟩
  | 8 => ⟨S2048, .f32⟩
  | 9 => ⟨S_, .i32⟩
  | 10 => ⟨S_, .f32⟩
  | 11 => ⟨S4x8195x3072, .f32⟩
  | 12 => ⟨S4x8192x3072, .f32⟩
  | 13 => ⟨S1x3072, .f32⟩
  | 14 => ⟨S3072, .f32⟩
  | 15 => ⟨S1x1x3072, .f32⟩
  | 16 => ⟨S4x8192x3072, .f32⟩
  | 17 => ⟨S4x8192x3072, .f32⟩
  | 18 => ⟨S1x1x3072, .f32⟩
  | 19 => ⟨S4x8192x3072, .f32⟩
  | 20 => ⟨S4x8192x3072, .f32⟩
  | 21 => ⟨S4x8192x3072, .f32⟩
  | 22 => ⟨S1x3072, .f32⟩
  | 23 => ⟨S3072, .f32⟩
  | 24 => ⟨S1x1x3072, .f32⟩
  | 25 => ⟨S4x8192x3072, .f32⟩
  | 26 => ⟨S4x8192x3072, .f32⟩
  | 27 => ⟨S4x8192x3072, .f32⟩
  | 28 => ⟨S4x8192x3072, .f32⟩
  | 29 => ⟨S1x3072, .f32⟩
  | 30 => ⟨S3072, .f32⟩
  | 31 => ⟨S1x1x3072, .f32⟩
  | 32 => ⟨S4x8192x3072, .f32⟩
  | 33 => ⟨S4x8192x3072, .f32⟩
  | 34 => ⟨S4x8192x3072, .f32⟩
  | 35 => ⟨S4x8192x3072, .f32⟩
  | 36 => ⟨S1x3072, .f32⟩
  | 37 => ⟨S3072, .f32⟩
  | 38 => ⟨S1x1x3072, .f32⟩
  | 39 => ⟨S4x8192x3072, .f32⟩
  | 40 => ⟨S4x8192x3072, .f32⟩
  | 41 => ⟨S4x8192x3072, .f32⟩
  | 42 => ⟨S4x8192x3072, .f32⟩
  | 43 => ⟨S4x8192x3072, .f32⟩
  | 44 => ⟨S_, .f32⟩
  | 45 => ⟨S4x8192x3072, .f32⟩
  | 46 => ⟨S4x8192x3072, .f32⟩
  | 47 => ⟨S_, .f32⟩
  | 48 => ⟨S4x8192x3072, .f32⟩
  | 49 => ⟨S4x8192x3072, .f32⟩
  | 50 => ⟨S4x8192x3072, .f32⟩
  | 51 => ⟨S4x8192x2048, .f32⟩
  | 52 => ⟨S4x8192x512, .f32⟩
  | 53 => ⟨S4x8192x512, .f32⟩
  | 54 => ⟨S4x8192x32x64, .f32⟩
  | 55 => ⟨S1x1x32, .f32⟩
  | 56 => ⟨S4x8192x32, .f32⟩
  | 57 => ⟨S4x8192x32, .f32⟩
  | 58 => ⟨S_, .f32⟩
  | 59 => ⟨S4x8192x32, .f32⟩
  | 60 => ⟨S4x8192x32, .f32⟩
  | 61 => ⟨S4x8192x32, .f32⟩
  | 62 => ⟨S4x8192x32, .f32⟩
  | 63 => ⟨S4x8192x32, .i1⟩
  | 64 => ⟨S4x8192x32, .f32⟩
  | 65 => ⟨S4x8192x32, .f32⟩
  | 66 => ⟨S4x8192x32, .f32⟩
  | 67 => ⟨S4x8192x32, .f32⟩
  | 68 => ⟨S4x8192x32, .f32⟩
  | 69 => ⟨S4x8192x32, .f32⟩
  | 70 => ⟨S4x8192x32, .f32⟩
  | 71 => ⟨S4x8192x32, .f32⟩
  | 72 => ⟨S32, .f32⟩
  | 73 => ⟨S32, .f32⟩
  | 74 => ⟨S4x8192x32x1, .f32⟩
  | 75 => ⟨S4x8192x32x64, .f32⟩
  | 76 => ⟨S4x8192x32x64, .f32⟩
  | 77 => ⟨S4x64x128x4x8x64, .f32⟩
  | 78 => ⟨S1x1x32, .f32⟩
  | 79 => ⟨S4x8192x32, .f32⟩
  | 80 => ⟨S4x8192x32, .f32⟩
  | 81 => ⟨S4x64x128x4x8, .f32⟩
  | 82 => ⟨S_, .f32⟩
  | 83 => ⟨S_, .f32⟩
  | 84 => ⟨S4x64x128x4x8, .f32⟩
  | 85 => ⟨S4x64x128x4x128, .f32⟩
  | 86 => ⟨S4x64x128x4x128, .f32⟩
  | 87 => ⟨S4x64x1x4x8, .f32⟩
  | 88 => ⟨S4x64x128x4x8, .f32⟩
  | 89 => ⟨S4x64x128x4x8, .f32⟩
  | 90 => ⟨S4x64x128x4x8, .f32⟩
  | 91 => ⟨S4x64x128x4x8x1, .f32⟩
  | 92 => ⟨S4x64x128x4x8x64, .f32⟩
  | 93 => ⟨S4x64x128x4x8x64, .f32⟩
  | 94 => ⟨S4x64x4x8x64x128, .f32⟩
  | 95 => ⟨S4x64x1x4x8, .f32⟩
  | 96 => ⟨S4x64x4x8, .f32⟩
  | 97 => ⟨S4x64x4x8, .f32⟩
  | 98 => ⟨S_, .f32⟩
  | 99 => ⟨S4x4x8x64x128, .f32⟩
  | 100 => ⟨S64x4x4x8x64x128, .f32⟩
  | 101 => ⟨S64x4x4x8, .f32⟩
  | 102 => ⟨S_, .f32⟩
  | 103 => ⟨S64x4x4x8x64x128, .f32⟩
  | 104 => ⟨S_, .i32⟩
  | 105 => ⟨S64x4x4x8x64x128, .f32⟩
  | 106 => ⟨S64x4x4x8, .f32⟩
  | 107 => ⟨S_, .i32⟩
  | 108 => ⟨S4x4x8x64x128, .f32⟩
  | 109 => ⟨S64x4x4x8x64x128, .f32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S1x4x4x8x64x128, .f32⟩
  | 118 => ⟨S4x4x8x64x128, .f32⟩
  | 119 => ⟨S_, .i32⟩
  | 120 => ⟨S_, .i32⟩
  | 121 => ⟨S_, .i32⟩
  | 122 => ⟨S1x4x4x8, .f32⟩
  | 123 => ⟨S4x4x8, .f32⟩
  | 124 => ⟨S4x4x8x1x1, .f32⟩
  | 125 => ⟨S4x4x8x64x128, .f32⟩
  | 126 => ⟨S4x4x8x64x128, .f32⟩
  | 127 => ⟨S4x4x8x64x128, .f32⟩
  | _ => ⟨S4x8192x2048, .f32⟩

abbrev hbmTy0_1 (i : Nat) : BufTy := match i % 128 with
  | 0 => ⟨S1x4x4x8x64x128, .f32⟩
  | 1 => ⟨S_, .i32⟩
  | 2 => ⟨S_, .i32⟩
  | 3 => ⟨S_, .i32⟩
  | 4 => ⟨S_, .i32⟩
  | 5 => ⟨S_, .i32⟩
  | 6 => ⟨S64x4x4x8x64x128, .f32⟩
  | 7 => ⟨S_, .i32⟩
  | 8 => ⟨S_, .i32⟩
  | 9 => ⟨S4x64x4x8x64x128, .f32⟩
  | 10 => ⟨S_, .i32⟩
  | 11 => ⟨S_, .f32⟩
  | 12 => ⟨S4x8195x3072, .f32⟩
  | 13 => ⟨S4x8192x3072, .f32⟩
  | 14 => ⟨S1x3072, .f32⟩
  | 15 => ⟨S3072, .f32⟩
  | 16 => ⟨S1x1x3072, .f32⟩
  | 17 => ⟨S4x8192x3072, .f32⟩
  | 18 => ⟨S4x8192x3072, .f32⟩
  | 19 => ⟨S1x1x3072, .f32⟩
  | 20 => ⟨S4x8192x3072, .f32⟩
  | 21 => ⟨S4x8192x3072, .f32⟩
  | 22 => ⟨S4x8192x3072, .f32⟩
  | 23 => ⟨S1x3072, .f32⟩
  | 24 => ⟨S3072, .f32⟩
  | 25 => ⟨S1x1x3072, .f32⟩
  | 26 => ⟨S4x8192x3072, .f32⟩
  | 27 => ⟨S4x8192x3072, .f32⟩
  | 28 => ⟨S4x8192x3072, .f32⟩
  | 29 => ⟨S4x8192x3072, .f32⟩
  | 30 => ⟨S1x3072, .f32⟩
  | 31 => ⟨S3072, .f32⟩
  | 32 => ⟨S1x1x3072, .f32⟩
  | 33 => ⟨S4x8192x3072, .f32⟩
  | 34 => ⟨S4x8192x3072, .f32⟩
  | 35 => ⟨S4x8192x3072, .f32⟩
  | 36 => ⟨S4x8192x3072, .f32⟩
  | 37 => ⟨S1x3072, .f32⟩
  | 38 => ⟨S3072, .f32⟩
  | 39 => ⟨S1x1x3072, .f32⟩
  | 40 => ⟨S4x8192x3072, .f32⟩
  | 41 => ⟨S4x8192x3072, .f32⟩
  | 42 => ⟨S4x8192x3072, .f32⟩
  | 43 => ⟨S4x8192x3072, .f32⟩
  | 44 => ⟨S4x8192x3072, .f32⟩
  | 45 => ⟨S_, .f32⟩
  | 46 => ⟨S4x8192x3072, .f32⟩
  | 47 => ⟨S4x8192x3072, .f32⟩
  | 48 => ⟨S_, .f32⟩
  | 49 => ⟨S4x8192x3072, .f32⟩
  | 50 => ⟨S4x8192x3072, .f32⟩
  | 51 => ⟨S4x8192x3072, .f32⟩
  | 52 => ⟨S4x8192x2048, .f32⟩
  | 53 => ⟨S4x8192x512, .f32⟩
  | 54 => ⟨S4x8192x512, .f32⟩
  | 55 => ⟨S4x8192x32x64, .f32⟩
  | 56 => ⟨S1x1x32, .f32⟩
  | 57 => ⟨S4x8192x32, .f32⟩
  | 58 => ⟨S4x8192x32, .f32⟩
  | 59 => ⟨S_, .f32⟩
  | 60 => ⟨S4x8192x32, .f32⟩
  | 61 => ⟨S4x8192x32, .f32⟩
  | 62 => ⟨S4x8192x32, .f32⟩
  | 63 => ⟨S4x8192x32, .f32⟩
  | 64 => ⟨S4x8192x32, .i1⟩
  | 65 => ⟨S4x8192x32, .f32⟩
  | 66 => ⟨S4x8192x32, .f32⟩
  | 67 => ⟨S4x8192x32, .f32⟩
  | 68 => ⟨S4x8192x32, .f32⟩
  | 69 => ⟨S4x8192x32, .f32⟩
  | 70 => ⟨S4x8192x32, .f32⟩
  | 71 => ⟨S4x8192x32, .f32⟩
  | 72 => ⟨S4x8192x32, .f32⟩
  | 73 => ⟨S32, .f32⟩
  | 74 => ⟨S32, .f32⟩
  | 75 => ⟨S4x8192x32x1, .f32⟩
  | 76 => ⟨S4x8192x32x64, .f32⟩
  | 77 => ⟨S4x8192x32x64, .f32⟩
  | 78 => ⟨S4x64x128x4x8x64, .f32⟩
  | 79 => ⟨S1x1x32, .f32⟩
  | 80 => ⟨S4x8192x32, .f32⟩
  | 81 => ⟨S4x8192x32, .f32⟩
  | 82 => ⟨S4x64x128x4x8, .f32⟩
  | 83 => ⟨S_, .f32⟩
  | 84 => ⟨S_, .f32⟩
  | 85 => ⟨S4x64x128x4x8, .f32⟩
  | 86 => ⟨S4x64x128x4x128, .f32⟩
  | 87 => ⟨S4x64x128x4x128, .f32⟩
  | 88 => ⟨S4x64x4x8x128, .f32⟩
  | 89 => ⟨S4x64x4x8x128x1, .f32⟩
  | 90 => ⟨S4x64x4x8x1x128, .f32⟩
  | 91 => ⟨S4x64x4x8x128x128, .f32⟩
  | 92 => ⟨S4x64x4x8x128x128, .f32⟩
  | 93 => ⟨S4x64x4x8x128x128, .f32⟩
  | 94 => ⟨S_, .i1⟩
  | 95 => ⟨S128x128, .i1⟩
  | 96 => ⟨S128x128, .i32⟩
  | 97 => ⟨S_, .i32⟩
  | 98 => ⟨S128x128, .i32⟩
  | 99 => ⟨S128x128, .i32⟩
  | 100 => ⟨S128x128, .i32⟩
  | 101 => ⟨S128x128, .i1⟩
  | 102 => ⟨S_, .i1⟩
  | 103 => ⟨S128x128, .i1⟩
  | 104 => ⟨S128x128, .i1⟩
  | 105 => ⟨S_, .f32⟩
  | 106 => ⟨S_, .f32⟩
  | 107 => ⟨S4x64x4x8x128x128, .i1⟩
  | 108 => ⟨S4x64x4x8x128x128, .f32⟩
  | 109 => ⟨S4x64x4x8x128x128, .f32⟩
  | 110 => ⟨S4x64x4x8x128x128, .f32⟩
  | 111 => ⟨S4x64x4x128x128, .f32⟩
  | 112 => ⟨S4x64x4x1x128x128, .f32⟩
  | 113 => ⟨S4x64x4x8x128x128, .f32⟩
  | 114 => ⟨S4x64x4x8x128x128, .f32⟩
  | 115 => ⟨S4x64x4x8x64x128, .f32⟩
  | 116 => ⟨S4x64x128x4x8x64, .f32⟩
  | 117 => ⟨S4x64x4x8x64x128, .f32⟩
  | 118 => ⟨S4x64x128x4x8x64, .f32⟩
  | 119 => ⟨S4x64x128x4x8, .f32⟩
  | 120 => ⟨S4x64x128x4x8x1, .f32⟩
  | 121 => ⟨S4x64x128x4x8x64, .f32⟩
  | 122 => ⟨S4x64x128x4x8x64, .f32⟩
  | 123 => ⟨S4x64x128x4x8x64, .f32⟩
  | 124 => ⟨S4x8192x32x64, .f32⟩
  | 125 => ⟨S32x1, .f32⟩
  | 126 => ⟨S1x1x32x1, .f32⟩
  | 127 => ⟨S4x8192x32x64, .f32⟩
  | _ => ⟨S4x8192x2048, .f32⟩

abbrev hbmTy0_2 (i : Nat) : BufTy := match i % 128 with
  | 0 => ⟨S4x8192x32x64, .f32⟩
  | 1 => ⟨S4x8192x32x64, .f32⟩
  | 2 => ⟨S4x8192x2048, .f32⟩
  | 3 => ⟨S4x8192x2048, .f32⟩
  | 4 => ⟨S4x8192x2048, .f32⟩
  | 5 => ⟨S_, .f32⟩
  | 6 => ⟨S4x8192x2048, .f32⟩
  | 7 => ⟨S4x8192x2048, .f32⟩
  | 8 => ⟨S_, .f32⟩
  | 9 => ⟨S4x8192x2048, .f32⟩
  | 10 => ⟨S4x8192x2048, .f32⟩
  | 11 => ⟨S4x8192x2048, .f32⟩
  | 12 => ⟨S4x8192x2048, .f32⟩
  | 13 => ⟨S4x8192x4x512, .f32⟩
  | 14 => ⟨S4x8192x4x512, .f32⟩
  | 15 => ⟨S_, .f32⟩
  | 16 => ⟨S4x8192x4, .f32⟩
  | 17 => ⟨S4x8192x4x1, .f32⟩
  | 18 => ⟨S_, .f32⟩
  | 19 => ⟨S4x8192x4x1, .f32⟩
  | 20 => ⟨S4x8192x4x1, .f32⟩
  | 21 => ⟨S_, .f32⟩
  | 22 => ⟨S4x8192x4x1, .f32⟩
  | 23 => ⟨S4x8192x4x1, .f32⟩
  | 24 => ⟨S4x8192x4x1, .f32⟩
  | 25 => ⟨S4x8192x4x512, .f32⟩
  | 26 => ⟨S4x8192x4x512, .f32⟩
  | 27 => ⟨S4x8192x2048, .f32⟩
  | 28 => ⟨S1x1x2048, .f32⟩
  | 29 => ⟨S4x8192x2048, .f32⟩
  | 30 => ⟨S4x8192x2048, .f32⟩
  | 31 => ⟨S4x8192x2048, .bf16⟩
  | _ => ⟨S4x8192x2048, .f32⟩

abbrev hbmTy (i : Nat) : BufTy := match i / 128 with
  | 0 => hbmTy0_0 i
  | 1 => hbmTy0_1 i
  | 2 => hbmTy0_2 i
  | _ => ⟨S4x8192x2048, .f32⟩

abbrev bufTy : (tb : Table) → Fin (tcTables nBuf tb) → BufTy
  | .hbm, ⟨i, _⟩ => hbmTy i
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call2_cst : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_call3_call0_cst : Ref sig .tc := ⟨.hbm, 82, rfl⟩
abbrev main_call3_call0_v0 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_0 : Ref sig .tc := ⟨.hbm, 102, rfl⟩
abbrev main_v67 : Ref sig .tc := ⟨.hbm, 103, rfl⟩
abbrev main_c_1 : Ref sig .tc := ⟨.hbm, 104, rfl⟩
abbrev main_v68_0 : Ref sig .tc := ⟨.hbm, 105, rfl⟩
abbrev main_v68_1 : Ref sig .tc := ⟨.hbm, 106, rfl⟩
abbrev main_v68_2 : Ref sig .tc := ⟨.hbm, 107, rfl⟩
abbrev main_v68_3 : Ref sig .tc := ⟨.hbm, 108, rfl⟩
abbrev main_v68_4 : Ref sig .tc := ⟨.hbm, 109, rfl⟩
abbrev main_while0c_c_12 : Ref sig .tc := ⟨.hbm, 110, rfl⟩
abbrev main_while0c_v171 : Ref sig .tc := ⟨.hbm, 111, rfl⟩
abbrev main_while0b_call4_c : Ref sig .tc := ⟨.hbm, 112, rfl⟩
abbrev main_while0b_call4_c_0 : Ref sig .tc := ⟨.hbm, 113, rfl⟩
abbrev main_while0b_call4_c_1 : Ref sig .tc := ⟨.hbm, 114, rfl⟩
abbrev main_while0b_call4_c_2 : Ref sig .tc := ⟨.hbm, 115, rfl⟩
abbrev main_while0b_call4_c_3 : Ref sig .tc := ⟨.hbm, 116, rfl⟩
abbrev main_while0b_call4_v0 : Ref sig .tc := ⟨.hbm, 117, rfl⟩
abbrev main_while0b_v171 : Ref sig .tc := ⟨.hbm, 118, rfl⟩
abbrev main_while0b_call5_c : Ref sig .tc := ⟨.hbm, 119, rfl⟩
abbrev main_while0b_call5_c_0 : Ref sig .tc := ⟨.hbm, 120, rfl⟩
abbrev main_while0b_call5_c_1 : Ref sig .tc := ⟨.hbm, 121, rfl⟩
abbrev main_while0b_call5_v0 : Ref sig .tc := ⟨.hbm, 122, rfl⟩
abbrev main_while0b_v172 : Ref sig .tc := ⟨.hbm, 123, rfl⟩
abbrev main_while0b_v173 : Ref sig .tc := ⟨.hbm, 124, rfl⟩
abbrev main_while0b_v174 : Ref sig .tc := ⟨.hbm, 125, rfl⟩
abbrev main_while0b_v175 : Ref sig .tc := ⟨.hbm, 126, rfl⟩
abbrev main_while0b_v176 : Ref sig .tc := ⟨.hbm, 127, rfl⟩
abbrev main_while0b_call6_v0 : Ref sig .tc := ⟨.hbm, 128, rfl⟩
abbrev main_while0b_call6_c : Ref sig .tc := ⟨.hbm, 129, rfl⟩
abbrev main_while0b_call6_c_0 : Ref sig .tc := ⟨.hbm, 130, rfl⟩
abbrev main_while0b_call6_c_1 : Ref sig .tc := ⟨.hbm, 131, rfl⟩
abbrev main_while0b_call6_c_2 : Ref sig .tc := ⟨.hbm, 132, rfl⟩
abbrev main_while0b_call6_c_3 : Ref sig .tc := ⟨.hbm, 133, rfl⟩
abbrev main_while0b_v177 : Ref sig .tc := ⟨.hbm, 134, rfl⟩
abbrev main_while0b_c_12 : Ref sig .tc := ⟨.hbm, 135, rfl⟩
abbrev main_while0b_v178 : Ref sig .tc := ⟨.hbm, 136, rfl⟩
abbrev main_v69 : Ref sig .tc := ⟨.hbm, 137, rfl⟩
abbrev main_c_2 : Ref sig .tc := ⟨.hbm, 138, rfl⟩
abbrev main_call7_v0 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_call8_v0 : Ref sig .tc := ⟨.hbm, 171, rfl⟩
abbrev main_call8_v1 : Ref sig .tc := ⟨.hbm, 172, rfl⟩
abbrev main_call8_cst : Ref sig .tc := ⟨.hbm, 173, rfl⟩
abbrev main_call8_v2 : Ref sig .tc := ⟨.hbm, 174, rfl⟩
abbrev main_call8_v3 : Ref sig .tc := ⟨.hbm, 175, rfl⟩
abbrev main_call8_cst_0 : Ref sig .tc := ⟨.hbm, 176, rfl⟩
abbrev main_call8_v4 : Ref sig .tc := ⟨.hbm, 177, rfl⟩
abbrev main_call8_v5 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_call9_cst : Ref sig .tc := ⟨.hbm, 187, rfl⟩
abbrev main_call9_v0 : Ref sig .tc := ⟨.hbm, 188, rfl⟩
abbrev main_call9_v1 : Ref sig .tc := ⟨.hbm, 189, rfl⟩
abbrev main_call9_v2 : Ref sig .tc := ⟨.hbm, 190, rfl⟩
abbrev main_call9_v3 : Ref sig .tc := ⟨.hbm, 191, rfl⟩
abbrev main_call9_v4 : Ref sig .tc := ⟨.hbm, 192, rfl⟩
abbrev main_call9_v5 : Ref sig .tc := ⟨.hbm, 193, rfl⟩
abbrev main_call9_v6 : Ref sig .tc := ⟨.hbm, 194, rfl⟩
abbrev main_call9_v7 : Ref sig .tc := ⟨.hbm, 195, rfl⟩
abbrev main_call9_v8 : Ref sig .tc := ⟨.hbm, 196, rfl⟩
abbrev main_call9_v9 : Ref sig .tc := ⟨.hbm, 197, rfl⟩
abbrev main_call9_v10 : Ref sig .tc := ⟨.hbm, 198, rfl⟩
abbrev main_call9_v11 : Ref sig .tc := ⟨.hbm, 199, rfl⟩
abbrev main_v109 : Ref sig .tc := ⟨.hbm, 200, rfl⟩
abbrev main_v110 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_call10_call0_cst : Ref sig .tc := ⟨.hbm, 211, rfl⟩
abbrev main_call10_call0_v0 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_c_3 : Ref sig .tc := ⟨.hbm, 222, rfl⟩
abbrev main_v129 : Ref sig .tc := ⟨.hbm, 223, rfl⟩
abbrev main_call11_v0 : Ref sig .tc := ⟨.hbm, 224, rfl⟩
abbrev main_call11_c : Ref sig .tc := ⟨.hbm, 225, rfl⟩
abbrev main_call11_v1 : Ref sig .tc := ⟨.hbm, 226, rfl⟩
abbrev main_call11_v2 : Ref sig .tc := ⟨.hbm, 227, rfl⟩
abbrev main_call11_v3 : Ref sig .tc := ⟨.hbm, 228, rfl⟩
abbrev main_call11_v4 : Ref sig .tc := ⟨.hbm, 229, rfl⟩
abbrev main_call11_c_0 : Ref sig .tc := ⟨.hbm, 230, rfl⟩
abbrev main_call11_v5 : Ref sig .tc := ⟨.hbm, 231, rfl⟩
abbrev main_v130 : Ref sig .tc := ⟨.hbm, 232, rfl⟩
abbrev main_cst_4 : Ref sig .tc := ⟨.hbm, 233, rfl⟩
abbrev main_call12_v0 : Ref sig .tc := ⟨.hbm, 234, rfl⟩
abbrev main_call12_v1 : Ref sig .tc := ⟨.hbm, 235, rfl⟩
abbrev main_call12_v2 : Ref sig .tc := ⟨.hbm, 236, rfl⟩
abbrev main_v131 : Ref sig .tc := ⟨.hbm, 237, rfl⟩
abbrev main_v132 : Ref sig .tc := ⟨.hbm, 238, rfl⟩
abbrev main_v133 : Ref sig .tc := ⟨.hbm, 239, rfl⟩
abbrev main_v134 : Ref sig .tc := ⟨.hbm, 240, rfl⟩
abbrev main_v135 : Ref sig .tc := ⟨.hbm, 241, rfl⟩
abbrev main_v136 : Ref sig .tc := ⟨.hbm, 242, rfl⟩
abbrev main_v137 : Ref sig .tc := ⟨.hbm, 243, rfl⟩
abbrev main_v138 : Ref sig .tc := ⟨.hbm, 244, rfl⟩
abbrev main_v139 : Ref sig .tc := ⟨.hbm, 245, rfl⟩
abbrev main_v140 : Ref sig .tc := ⟨.hbm, 246, rfl⟩
abbrev main_v141 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_v145 : Ref sig .tc := ⟨.hbm, 251, rfl⟩
abbrev main_v146 : Ref sig .tc := ⟨.hbm, 252, rfl⟩
abbrev main_v147 : Ref sig .tc := ⟨.hbm, 253, rfl⟩
abbrev main_v148 : Ref sig .tc := ⟨.hbm, 254, rfl⟩
abbrev main_v149 : Ref sig .tc := ⟨.hbm, 255, rfl⟩
abbrev main_v150 : Ref sig .tc := ⟨.hbm, 256, rfl⟩
abbrev main_v151 : Ref sig .tc := ⟨.hbm, 257, rfl⟩
abbrev main_v152 : Ref sig .tc := ⟨.hbm, 258, rfl⟩
abbrev main_call13_v0 : Ref sig .tc := ⟨.hbm, 259, rfl⟩
abbrev main_call13_v1 : Ref sig .tc := ⟨.hbm, 260, rfl⟩
abbrev main_call13_cst : Ref sig .tc := ⟨.hbm, 261, rfl⟩
abbrev main_call13_v2 : Ref sig .tc := ⟨.hbm, 262, rfl⟩
abbrev main_call13_v3 : Ref sig .tc := ⟨.hbm, 263, rfl⟩
abbrev main_call13_cst_0 : Ref sig .tc := ⟨.hbm, 264, rfl⟩
abbrev main_call13_v4 : Ref sig .tc := ⟨.hbm, 265, rfl⟩
abbrev main_call13_v5 : Ref sig .tc := ⟨.hbm, 266, rfl⟩
abbrev main_v153 : Ref sig .tc := ⟨.hbm, 267, rfl⟩
abbrev main_v154 : Ref sig .tc := ⟨.hbm, 268, rfl⟩
abbrev main_v155 : Ref sig .tc := ⟨.hbm, 269, rfl⟩
abbrev main_v156 : Ref sig .tc := ⟨.hbm, 270, rfl⟩
abbrev main_cst_5 : Ref sig .tc := ⟨.hbm, 271, rfl⟩
abbrev main_v157 : Ref sig .tc := ⟨.hbm, 272, rfl⟩
abbrev main_v158 : Ref sig .tc := ⟨.hbm, 273, rfl⟩
abbrev main_cst_6 : Ref sig .tc := ⟨.hbm, 274, rfl⟩
abbrev main_v159 : Ref sig .tc := ⟨.hbm, 275, rfl⟩
abbrev main_v160 : Ref sig .tc := ⟨.hbm, 276, rfl⟩
abbrev main_cst_7 : Ref sig .tc := ⟨.hbm, 277, rfl⟩
abbrev main_v161 : Ref sig .tc := ⟨.hbm, 278, rfl⟩
abbrev main_v162 : Ref sig .tc := ⟨.hbm, 279, rfl⟩
abbrev main_v163 : Ref sig .tc := ⟨.hbm, 280, rfl⟩
abbrev main_v164 : Ref sig .tc := ⟨.hbm, 281, rfl⟩
abbrev main_v165 : Ref sig .tc := ⟨.hbm, 282, rfl⟩
abbrev main_v166 : Ref sig .tc := ⟨.hbm, 283, rfl⟩
abbrev main_v167 : Ref sig .tc := ⟨.hbm, 284, rfl⟩
abbrev main_v168 : Ref sig .tc := ⟨.hbm, 285, rfl⟩
abbrev main_v169 : Ref sig .tc := ⟨.hbm, 286, rfl⟩
abbrev main_v170 : Ref sig .tc := ⟨.hbm, 287, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4x8192x1024 : Shape := ⟨3, ![4, 8192, 1024]⟩
abbrev S1024x5632 : Shape := ⟨2, ![1024, 5632]⟩
abbrev S2816x1024 : Shape := ⟨2, ![2816, 1024]⟩
abbrev S1024 : Shape := ⟨1, ![1024]⟩
abbrev S1x1024x5632 : Shape := ⟨3, ![1, 1024, 5632]⟩
abbrev S1x2816x1024 : Shape := ⟨3, ![1, 2816, 1024]⟩
abbrev S1x1024x2x11x256 : Shape := ⟨5, ![1, 1024, 2, 11, 256]⟩
abbrev S1x2x11x1024x256 : Shape := ⟨5, ![1, 2, 11, 1024, 256]⟩
abbrev S1x22x1024x256 : Shape := ⟨4, ![1, 22, 1024, 256]⟩
abbrev S1x11x256x1024 : Shape := ⟨4, ![1, 11, 256, 1024]⟩
abbrev S32768x1024 : Shape := ⟨2, ![32768, 1024]⟩
abbrev S22x1024x256 : Shape := ⟨3, ![22, 1024, 256]⟩
abbrev S11x256x1024 : Shape := ⟨3, ![11, 256, 1024]⟩
abbrev S1x1024 : Shape := ⟨2, ![1, 1024]⟩
abbrev S1024x1024 : Shape := ⟨2, ![1024, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S1024x1 : Shape := ⟨2, ![1024, 1]⟩

abbrev nBuf : Space → Nat
  | .hbm => 19
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1x1024x5632, .f32⟩
  | .hbm, ⟨6, _⟩ => ⟨S1x2816x1024, .f32⟩
  | .hbm, ⟨7, _⟩ => ⟨S1x1024x5632, .bf16⟩
  | .hbm, ⟨8, _⟩ => ⟨S1x1024x2x11x256, .bf16⟩
  | .hbm, ⟨9, _⟩ => ⟨S1x2x11x1024x256, .bf16⟩
  | .hbm, ⟨10, _⟩ => ⟨S1x22x1024x256, .bf16⟩
  | .hbm, ⟨11, _⟩ => ⟨S1x2816x1024, .bf16⟩
  | .hbm, ⟨12, _⟩ => ⟨S1x11x256x1024, .bf16⟩
  | .hbm, ⟨13, _⟩ => ⟨S32768x1024, .f32⟩
  | .hbm, ⟨14, _⟩ => ⟨S22x1024x256, .bf16⟩
  | .hbm, ⟨15, _⟩ => ⟨S11x256x1024, .bf16⟩
  | .hbm, ⟨16, _⟩ => ⟨S1x1024, .f32⟩
  | .hbm, ⟨17, _⟩ => ⟨S1x1024, .f32⟩
  | .hbm, ⟨18, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S22x1024x256, .bf16⟩
  | .local _ .vmem, ⟨3, _⟩ => ⟨S11x256x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S22x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S11x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4x8192x1024 : Shape := ⟨3, ![4, 8192, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S4x8192x5632 : Shape := ⟨3, ![4, 8192, 5632]⟩
abbrev S4x8192x2816 : Shape := ⟨3, ![4, 8192, 2816]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4x8192x1024, .f32⟩
  | .hbm, ⟨7, _⟩ => ⟨S4x8192x1024, .f32⟩
  | .hbm, ⟨8, _⟩ => ⟨S4x8192x5632, .f32⟩
  | .hbm, ⟨9, _⟩ => ⟨S4x8192x2816, .f32⟩
  | .hbm, ⟨10, _⟩ => ⟨S4x8192x2816, .f32⟩
  | .hbm, ⟨11, _⟩ => ⟨S4x8192x2816, .f32⟩
  | .hbm, ⟨12, _⟩ => ⟨S4x8192x2816, .f32⟩
  | .hbm, ⟨13, _⟩ => ⟨S_, .f32⟩
  | .hbm, ⟨14, _⟩ => ⟨S4x8192x2816, .f32⟩
  | .hbm, ⟨15, _⟩ => ⟨S4x8192x2816, .f32⟩
  | .hbm, ⟨16, _⟩ => ⟨S_, .f32⟩
  | .hbm, ⟨17, _⟩ => ⟨S4x8192x2816, .f32⟩
  | .hbm, ⟨18, _⟩ => ⟨S4x8192x2816, .f32⟩
  | .hbm, ⟨19, _⟩ => ⟨S4x8192x2816, .f32⟩
  | .hbm, ⟨20, _⟩ => ⟨S4x8192x2816, .f32⟩
  | .hbm, ⟨21, _⟩ => ⟨S4x8192x1024, .f32⟩
  | .hbm, ⟨22, _⟩ => ⟨S_, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x8192, .f32⟩
  | .hbm, ⟨28, _⟩ => ⟨S4x8192x1, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x8192, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S4x8192x1024, .f32⟩
  | .hbm, ⟨42, _⟩ => ⟨S4x8192x1024, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x1, .f32⟩
  | .hbm, ⟨47, _⟩ => ⟨S4x8192x1024, .f32⟩
  | .hbm, ⟨48, _⟩ => ⟨S4x8192x1024, .f32⟩
  | .hbm, ⟨49, _⟩ => ⟨S1x1x1024, .f32⟩
  | .hbm, ⟨50, _⟩ => ⟨S4x8192x1024, .f32⟩
  | .hbm, ⟨51, _⟩ => ⟨S4x8192x1024, .f32⟩
  | .hbm, ⟨52, _⟩ => ⟨S1x1x1024, .f32⟩
  | .hbm, ⟨53, _⟩ => ⟨S4x8192x1024, .f32⟩
  | .hbm, ⟨54, _⟩ => ⟨S4x8192x1024, .f32⟩
  | .hbm, ⟨55, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel3.lean ====
abbrev S4x8192x1024 : Shape := ⟨3, ![4, 8192, 1024]⟩
abbrev S1024x5152 : Shape := ⟨2, ![1024, 5152]⟩
abbrev S1024x32 : Shape := ⟨2, ![1024, 32]⟩
abbrev S_ : Shape := ⟨0, ![]⟩
abbrev S1024x128 : Shape := ⟨2, ![1024, 128]⟩
abbrev S32768x1024 : Shape := ⟨2, ![32768, 1024]⟩
abbrev S1024x2048 : Shape := ⟨2, ![1024, 2048]⟩
abbrev S1024x3072 : Shape := ⟨2, ![1024, 3072]⟩
abbrev S32768x2048 : Shape := ⟨2, ![32768, 2048]⟩
abbrev S32768x3072 : Shape := ⟨2, ![32768, 3072]⟩
abbrev S32768x128 : Shape := ⟨2, ![32768, 128]⟩
abbrev S512x1024 : Shape := ⟨2, ![512, 1024]⟩
abbrev S512x2048 : Shape := ⟨2, ![512, 2048]⟩
abbrev S512x3072 : Shape := ⟨2, ![512, 3072]⟩
abbrev S512x128 : Shape := ⟨2, ![512, 128]⟩

abbrev nBuf : Space → Nat
  | .hbm => 13
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S1024x5152, .f32⟩
  | .hbm, ⟨2, _⟩ => ⟨S1024x5152, .bf16⟩
  | .hbm, ⟨3, _⟩ => ⟨S1024x32, .bf16⟩
  | .hbm, ⟨4, _⟩ => ⟨S_, .i32⟩
  | .hbm, ⟨5, _⟩ => ⟨S_, .bf16⟩
  | .hbm, ⟨6, _⟩ => ⟨S1024x128, .bf16⟩
  | .hbm, ⟨7, _⟩ => ⟨S32768x1024, .f32⟩
  | .hbm, ⟨8, _⟩ => ⟨S1024x2048, .bf16⟩
  | .hbm, ⟨9, _⟩ => ⟨S1024x3072, .bf16⟩
  | .hbm, ⟨10, _⟩ => ⟨S32768x2048, .f32⟩
  | .hbm, ⟨11, _⟩ => ⟨S32768x3072, .f32⟩
  | .hbm, ⟨12, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1024x3072, .bf16⟩
  | .local _ .vmem, ⟨4, _⟩ => ⟨S1024x128, .bf16⟩
  | .local _ .vmem, ⟨5, _⟩ => ⟨S512x2048, .f32⟩
  | .local _ .vmem, ⟨6, _⟩ => ⟨S512x2048, .f32⟩
  | .local _ .vmem, ⟨7, _⟩ => ⟨S512x3072, .f32⟩
  | .local _ .vmem, ⟨8, _⟩ => ⟨S512x3072, .f32⟩
  | .local _ .vmem, ⟨9, _⟩ => ⟨S512x128, .f32⟩
  | .local _ .vmem, ⟨10, _⟩ => ⟨S512x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S4x8192x1024 : Shape := ⟨3, ![4, 8192, 1024]⟩
abbrev S1024x5152 : Shape := ⟨2, ![1024, 5152]⟩
abbrev S4x8192x5152 : Shape := ⟨3, ![4, 8192, 5152]⟩
abbrev S4x8192x2048 : Shape := ⟨3, ![4, 8192, 2048]⟩
abbrev S4x8192x3072 : Shape := ⟨3, ![4, 8192, 3072]⟩
abbrev S4x8192x32 : Shape := ⟨3, ![4, 8192, 32]⟩
abbrev S_ : Shape := ⟨0, ![]⟩
abbrev S4x8192x128 : Shape := ⟨3, ![4, 8192, 128]⟩
abbrev S32768x2048 : Shape := ⟨2, ![32768, 2048]⟩
abbrev S32768x3072 : Shape := ⟨2, ![32768, 3072]⟩
abbrev S32768x128 : Shape := ⟨2, ![32768, 128]⟩

abbrev nBuf : Space → Nat
  | .hbm => 12
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x5152, .f32⟩
  | .hbm, ⟨2, _⟩ => ⟨S4x8192x5152, .f32⟩
  | .hbm, ⟨3, _⟩ => ⟨S4x8192x2048, .f32⟩
  | .hbm, ⟨4, _⟩ => ⟨S4x8192x3072, .f32⟩
  | .hbm, ⟨5, _⟩ => ⟨S4x8192x32, .f32⟩
  | .hbm, ⟨6, _⟩ => ⟨S_, .i32⟩
  | .hbm, ⟨7, _⟩ => ⟨S_, .f32⟩
  | .hbm, ⟨8, _⟩ => ⟨S4x8192x128, .f32⟩
  | .hbm, ⟨9, _⟩ => ⟨S32768x2048, .f32⟩
  | .hbm, ⟨10, _⟩ => ⟨S32768x3072, .f32⟩
  | .hbm, ⟨11, _⟩ => ⟨S32768x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x8192x2048 : Shape := ⟨3, ![4, 8192, 2048]⟩
abbrev S2048x1024 : Shape := ⟨2, ![2048, 1024]⟩
abbrev S1024 : Shape := ⟨1, ![1024]⟩
abbrev S32768x1024 : Shape := ⟨2, ![32768, 1024]⟩
abbrev S32768x2048 : Shape := ⟨2, ![32768, 2048]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x8192x2048, .bf16⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S32768x1024, .f32⟩
  | .hbm, ⟨6, _⟩ => ⟨S32768x2048, .bf16⟩
  | .hbm, ⟨7, _⟩ => ⟨S2048x1024, .bf16⟩
  | .hbm, ⟨8, _⟩ => ⟨S1x1024, .f32⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S4x8192x1024 : Shape := ⟨3, ![4, 8192, 1024]⟩
abbrev S4x8192x2048 : Shape := ⟨3, ![4, 8192, 2048]⟩
abbrev S2048x1024 : Shape := ⟨2, ![2048, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x2048, .bf16⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4x8192x1024, .f32⟩
  | .hbm, ⟨7, _⟩ => ⟨S4x8192x1024, .f32⟩
  | .hbm, ⟨8, _⟩ => ⟨S4x8192x2048, .f32⟩
  | .hbm, ⟨9, _⟩ => ⟨S4x8192x1024, .f32⟩
  | .hbm, ⟨10, _⟩ => ⟨S4x8192x1024, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S4x8192x1024, .f32⟩
  | .hbm, ⟨27, _⟩ => ⟨S4x8192x1024, .f32⟩
  | .hbm, ⟨28, _⟩ => ⟨S_, .f32⟩
  | .hbm, ⟨29, _⟩ => ⟨S4x8192x1, .f32⟩
  | .hbm, ⟨30, _⟩ => ⟨S4x8192x1, .f32⟩
  | .hbm, ⟨31, _⟩ => ⟨S4x8192x1, .f32⟩
  | .hbm, ⟨32, _⟩ => ⟨S4x8192x1024, .f32⟩
  | .hbm, ⟨33, _⟩ => ⟨S4x8192x1024, .f32⟩
  | .hbm, ⟨34, _⟩ => ⟨S1x1x1024, .f32⟩
  | .hbm, ⟨35, _⟩ => ⟨S4x8192x1024, .f32⟩
  | .hbm, ⟨36, _⟩ => ⟨S4x8192x1024, .f32⟩
  | .hbm, ⟨37, _⟩ => ⟨S1x1x1024, .f32⟩
  | .hbm, ⟨38, _⟩ => ⟨S4x8192x1024, .f32⟩
  | .hbm, ⟨39, _⟩ => ⟨S4x8192x1024, .f32⟩
  | .hbm, ⟨40, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel5.lean ====
abbrev S4x8192x1024 : Shape := ⟨3, ![4, 8192, 1024]⟩
abbrev S1024x1864 : Shape := ⟨2, ![1024, 1864]⟩
abbrev S256 : Shape := ⟨1, ![256]⟩
abbrev S1024x72 : Shape := ⟨2, ![1024, 72]⟩
abbrev S_ : Shape := ⟨0, ![]⟩
abbrev S1024x128 : Shape := ⟨2, ![1024, 128]⟩
abbrev S32768x1024 : Shape := ⟨2, ![32768, 1024]⟩
abbrev S1024x1024 : Shape := ⟨2, ![1024, 1024]⟩
abbrev S1024x256 : Shape := ⟨2, ![1024, 256]⟩
abbrev S1024x512 : Shape := ⟨2, ![1024, 512]⟩
abbrev S1x256 : Shape := ⟨2, ![1, 256]⟩
abbrev S32768x256 : Shape := ⟨2, ![32768, 256]⟩
abbrev S32768x512 : Shape := ⟨2, ![32768, 512]⟩
abbrev S32768x64 : Shape := ⟨2, ![32768, 64]⟩
abbrev S32768x8 : Shape := ⟨2, ![32768, 8]⟩
abbrev S512x1024 : Shape := ⟨2, ![512, 1024]⟩
abbrev S512x256 : Shape := ⟨2, ![512, 256]⟩
abbrev S512x512 : Shape := ⟨2, ![512, 512]⟩
abbrev S512x64 : Shape := ⟨2, ![512, 64]⟩
abbrev S512x8 : Shape := ⟨2, ![512, 8]⟩
abbrev S512 : Shape := ⟨1, ![512]⟩
abbrev S512x1 : Shape := ⟨2, ![512, 1]⟩
abbrev S512x128 : Shape := ⟨2, ![512, 128]⟩

abbrev nBuf : Space → Nat
  | .hbm => 18
  | .vmem => 17
  | .smem => 0
  | _ => 0

abbrev bufTy : (tb : Table) → Fin (tcTables nBuf tb) → BufTy
  | .hbm, ⟨0, _⟩ => ⟨S4x8192x1024, .f32⟩
  | .hbm, ⟨1, _⟩ => ⟨S1024x1864, .f32⟩
  | .hbm, ⟨2, _⟩ => ⟨S256, .f32⟩
  | .hbm, ⟨3, _⟩ => ⟨S1024x1864, .bf16⟩
  | .hbm, ⟨4, _⟩ => ⟨S1024x72, .bf16⟩
  | .hbm, ⟨5, _⟩ => ⟨S_, .i32⟩
  | .hbm, ⟨6, _⟩ => ⟨S_, .bf16⟩
  | .hbm, ⟨7, _⟩ => ⟨S1024x128, .bf16⟩
  | .hbm, ⟨8, _⟩ => ⟨S32768x1024, .f32⟩
  | .hbm, ⟨9, _⟩ => ⟨S1024x1024, .bf16⟩
  | .hbm, ⟨10, _⟩ => ⟨S1024x256, .bf16⟩
  | .hbm, ⟨11, _⟩ => ⟨S1024x512, .bf16⟩
  | .hbm, ⟨12, _⟩ => ⟨S1x256, .f32⟩
  | .hbm, ⟨13, _⟩ => ⟨S32768x1024, .bf16⟩
  | .hbm, ⟨14, _⟩ => ⟨S32768x256, .bf16⟩
  | .hbm, ⟨15, _⟩ => ⟨S32768x512, .bf16⟩
  | .hbm, ⟨16, _⟩ => ⟨S32768x64, .bf16⟩
  | .hbm, ⟨17, _⟩ => ⟨S32768x8, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x256, .bf16⟩
  | .local _ .vmem, ⟨4, _⟩ => ⟨S1024x512, .bf16⟩
  | .local _ .vmem, ⟨5, _⟩ => ⟨S1024x128, .bf16⟩
  | .local _ .vmem, ⟨6, _⟩ => ⟨S1x256, .f32⟩
  | .local _ .vmem, ⟨7, _⟩ => ⟨S512x1024, .bf16⟩
  | .local _ .vmem, ⟨8, _⟩ => ⟨S512x1024, .bf16⟩
  | .local _ .vmem, ⟨9, _⟩ => ⟨S512x256, .bf16⟩
  | .local _ .vmem, ⟨10, _⟩ => ⟨S512x256, .bf16⟩
  | .local _ .vmem, ⟨11, _⟩ => ⟨S512x512, .bf16⟩
  | .local _ .vmem, ⟨12, _⟩ => ⟨S512x512, .bf16⟩
  | .local _ .vmem, ⟨13, _⟩ => ⟨S512x64, .bf16⟩
  | .local _ .vmem, ⟨14, _⟩ => ⟨S512x64, .bf16⟩
  | .local _ .vmem, ⟨15, _⟩ => ⟨S512x8, .f32⟩
  | .local _ .vmem, ⟨16, _⟩ => ⟨S512x8, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S4x8192x1024 : Shape := ⟨3, ![4, 8192, 1024]⟩
abbrev S1024x1864 : Shape := ⟨2, ![1024, 1864]⟩
abbrev S256 : Shape := ⟨1, ![256]⟩
abbrev S4x8192x1864 : Shape := ⟨3, ![4, 8192, 1864]⟩
abbrev S4x8192x256 : Shape := ⟨3, ![4, 8192, 256]⟩
abbrev S4x8192x512 : Shape := ⟨3, ![4, 8192, 512]⟩
abbrev S4x8192x64 : Shape := ⟨3, ![4, 8192, 64]⟩
abbrev S4x8192x8 : Shape := ⟨3, ![4, 8192, 8]⟩
abbrev S_ : Shape := ⟨0, ![]⟩
abbrev S4x8192 : Shape := ⟨2, ![4, 8192]⟩
abbrev S4x8192x1 : Shape := ⟨3, ![4, 8192, 1]⟩
abbrev S1x1x256 : Shape := ⟨3, ![1, 1, 256]⟩
abbrev S32768x1024 : Shape := ⟨2, ![32768, 1024]⟩
abbrev S32768x256 : Shape := ⟨2, ![32768, 256]⟩
abbrev S32768x512 : Shape := ⟨2, ![32768, 512]⟩
abbrev S32768x64 : Shape := ⟨2, ![32768, 64]⟩
abbrev S32768x8 : Shape := ⟨2, ![32768, 8]⟩

abbrev nBuf : Space → Nat
  | .hbm => 40
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x1864, .f32⟩
  | .hbm, ⟨2, _⟩ => ⟨S256, .f32⟩
  | .hbm, ⟨3, _⟩ => ⟨S4x8192x1864, .f32⟩
  | .hbm, ⟨4, _⟩ => ⟨S4x8192x1024, .f32⟩
  | .hbm, ⟨5, _⟩ => ⟨S4x8192x256, .f32⟩
  | .hbm, ⟨6, _⟩ => ⟨S4x8192x512, .f32⟩
  | .hbm, ⟨7, _⟩ => ⟨S4x8192x64, .f32⟩
  | .hbm, ⟨8, _⟩ => ⟨S4x8192x8, .f32⟩
  | .hbm, ⟨9, _⟩ => ⟨S4x8192x256, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x256, .f32⟩
  | .hbm, ⟨21, _⟩ => ⟨S4x8192x256, .f32⟩
  | .hbm, ⟨22, _⟩ => ⟨S1x1x256, .f32⟩
  | .hbm, ⟨23, _⟩ => ⟨S4x8192x256, .f32⟩
  | .hbm, ⟨24, _⟩ => ⟨S4x8192x256, .f32⟩
  | .hbm, ⟨25, _⟩ => ⟨S_, .f32⟩
  | .hbm, ⟨26, _⟩ => ⟨S4x8192x8, .f32⟩
  | .hbm, ⟨27, _⟩ => ⟨S4x8192x8, .f32⟩
  | .hbm, ⟨28, _⟩ => ⟨S_, .f32⟩
  | .hbm, ⟨29, _⟩ => ⟨S4x8192x8, .f32⟩
  | .hbm, ⟨30, _⟩ => ⟨S4x8192x8, .f32⟩
  | .hbm, ⟨31, _⟩ => ⟨S32768x1024, .f32⟩
  | .hbm, ⟨32, _⟩ => ⟨S32768x1024, .bf16⟩
  | .hbm, ⟨33, _⟩ => ⟨S32768x256, .f32⟩
  | .hbm, ⟨34, _⟩ => ⟨S32768x256, .bf16⟩
  | .hbm, ⟨35, _⟩ => ⟨S32768x512, .f32⟩
  | .hbm, ⟨36, _⟩ => ⟨S32768x512, .bf16⟩
  | .hbm, ⟨37, _⟩ => ⟨S32768x64, .f32⟩
  | .hbm, ⟨38, _⟩ => ⟨S32768x64, .bf16⟩
  | .hbm, ⟨39, _⟩ => ⟨S32768x8, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Kernel6.lean ====
abbrev S4x8192x1024 : Shape := ⟨3, ![4, 8192, 1024]⟩
abbrev S32768x1024 : Shape := ⟨2, ![32768, 1024]⟩
abbrev S32768x256 : Shape := ⟨2, ![32768, 256]⟩
abbrev S32768x512 : Shape := ⟨2, ![32768, 512]⟩
abbrev S32768x64 : Shape := ⟨2, ![32768, 64]⟩
abbrev S32768x8 : Shape := ⟨2, ![32768, 8]⟩
abbrev S256 : Shape := ⟨1, ![256]⟩
abbrev S16x64x256 : Shape := ⟨3, ![16, 64, 256]⟩
abbrev S16x256x64 : Shape := ⟨3, ![16, 256, 64]⟩
abbrev S1024x1024 : Shape := ⟨2, ![1024, 1024]⟩
abbrev S1024 : Shape := ⟨1, ![1024]⟩
abbrev S_ : Shape := ⟨0, ![]⟩
abbrev S1x1 : Shape := ⟨2, ![1, 1]⟩
abbrev S4x8192x512 : Shape := ⟨3, ![4, 8192, 512]⟩
abbrev S4x8192x8 : Shape := ⟨3, ![4, 8192, 8]⟩
abbrev S4x8x8192 : Shape := ⟨3, ![4, 8, 8192]⟩
abbrev S4x8192x256 : Shape := ⟨3, ![4, 8192, 256]⟩
abbrev S4x256x8192 : Shape := ⟨3, ![4, 256, 8192]⟩
abbrev S4x8192x64 : Shape := ⟨3, ![4, 8192, 64]⟩
abbrev S1x1024 : Shape := ⟨2, ![1, 1024]⟩
abbrev S1x128x1024 : Shape := ⟨3, ![1, 128, 1024]⟩
abbrev S1x128x512 : Shape := ⟨3, ![1, 128, 512]⟩
abbrev S1x8x128 : Shape := ⟨3, ![1, 8, 128]⟩
abbrev S1x8192x256 : Shape := ⟨3, ![1, 8192, 256]⟩
abbrev S1x256x8192 : Shape := ⟨3, ![1, 256, 8192]⟩
abbrev S1x8192x64 : Shape := ⟨3, ![1, 8192, 64]⟩
abbrev S8192x128 : Shape := ⟨2, ![8192, 128]⟩
abbrev S256x2048 : Shape := ⟨2, ![256, 2048]⟩
abbrev S4x256x64 : Shape := ⟨3, ![4, 256, 64]⟩
abbrev S1x2048 : Shape := ⟨2, ![1, 2048]⟩
abbrev S1024x128 : Shape := ⟨2, ![1024, 128]⟩
abbrev S1x128 : Shape := ⟨2, ![1, 128]⟩
abbrev S1x256x64 : Shape := ⟨3, ![1, 256, 64]⟩
abbrev S256x64 : Shape := ⟨2, ![256, 64]⟩
abbrev S1x128x64 : Shape := ⟨3, ![1, 128, 64]⟩
abbrev S128x64 : Shape := ⟨2, ![128, 64]⟩
abbrev S256x128 : Shape := ⟨2, ![256, 128]⟩
abbrev S128 : Shape := ⟨1, ![128]⟩
abbrev S8x128 : Shape := ⟨2, ![8, 128]⟩
abbrev S1x4096x64 : Shape := ⟨3, ![1, 4096, 64]⟩
abbrev S4096x64 : Shape := ⟨2, ![4096, 64]⟩
abbrev S4096x128 : Shape := ⟨2, ![4096, 128]⟩
abbrev S4096x256 : Shape := ⟨2, ![4096, 256]⟩
abbrev S1x2048x64 : Shape := ⟨3, ![1, 2048, 64]⟩
abbrev S2048x64 : Shape := ⟨2, ![2048, 64]⟩
abbrev S2048x128 : Shape := ⟨2, ![2048, 128]⟩
abbrev S2048x256 : Shape := ⟨2, ![2048, 256]⟩
abbrev S1x1024x64 : Shape := ⟨3, ![1, 1024, 64]⟩
abbrev S1024x64 : Shape := ⟨2, ![1024, 64]⟩
abbrev S1024x256 : Shape := ⟨2, ![1024, 256]⟩
abbrev S1x512x64 : Shape := ⟨3, ![1, 512, 64]⟩
abbrev S512x64 : Shape := ⟨2, ![512, 64]⟩
abbrev S512x128 : Shape := ⟨2, ![512, 128]⟩
abbrev S512x256 : Shape := ⟨2, ![512, 256]⟩
abbrev S64x128 : Shape := ⟨2, ![64, 128]⟩
abbrev S8x64x128 : Shape := ⟨3, ![8, 64, 128]⟩
abbrev S1x1x128 : Shape := ⟨3, ![1, 1, 128]⟩
abbrev S1 : Shape := ⟨1, ![1]⟩
abbrev S1x1x1 : Shape := ⟨3, ![1, 1, 1]⟩
abbrev S1x1x2048 : Shape := ⟨3, ![1, 1, 2048]⟩
abbrev S1x4096x256 : Shape := ⟨3, ![1, 4096, 256]⟩
abbrev S1x256x4096 : Shape := ⟨3, ![1, 256, 4096]⟩
abbrev S256x4096 : Shape := ⟨2, ![256, 4096]⟩
abbrev S256x256 : Shape := ⟨2, ![256, 256]⟩
abbrev S1x256 : Shape := ⟨2, ![1, 256]⟩
abbrev S1x2048x256 : Shape := ⟨3, ![1, 2048, 256]⟩
abbrev S1x256x2048 : Shape := ⟨3, ![1, 256, 2048]⟩
abbrev S1x1024x256 : Shape := ⟨3, ![1, 1024, 256]⟩
abbrev S1x256x1024 : Shape := ⟨3, ![1, 256, 1024]⟩
abbrev S256x1024 : Shape := ⟨2, ![256, 1024]⟩
abbrev S1x512x256 : Shape := ⟨3, ![1, 512, 256]⟩
abbrev S1x256x512 : Shape := ⟨3, ![1, 256, 512]⟩
abbrev S256x512 : Shape := ⟨2, ![256, 512]⟩
abbrev S1x64x256 : Shape := ⟨3, ![1, 64, 256]⟩
abbrev S64x256 : Shape := ⟨2, ![64, 256]⟩
abbrev S128x1024 : Shape := ⟨2, ![128, 1024]⟩
abbrev S128x1 : Shape := ⟨2, ![128, 1]⟩

abbrev nBuf : Space → Nat
  | .hbm => 34
  | .vmem => 30
  | .smem => 0
  | _ => 0

abbrev bufTy : (tb : Table) → Fin (tcTables nBuf tb) → BufTy
  | .hbm, ⟨0, _⟩ => ⟨S4x8192x1024, .f32⟩
  | .hbm, ⟨1, _⟩ => ⟨S32768x1024, .bf16⟩
  | .hbm, ⟨2, _⟩ => ⟨S32768x256, .bf16⟩
  | .hbm, ⟨3, _⟩ => ⟨S32768x512, .bf16⟩
  | .hbm, ⟨4, _⟩ => ⟨S32768x64, .bf16⟩
  | .hbm, ⟨5, _⟩ => ⟨S32768x8, .f32⟩
  | .hbm, ⟨6, _⟩ => ⟨S256, .f32⟩
  | .hbm, ⟨7, _⟩ => ⟨S16x64x256, .f32⟩
  | .hbm, ⟨8, _⟩ => ⟨S16x256x64, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S256, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x1, .f32⟩
  | .hbm, ⟨18, _⟩ => ⟨S4x8192x1024, .bf16⟩
  | .hbm, ⟨19, _⟩ => ⟨S4x8192x512, .bf16⟩
  | .hbm, ⟨20, _⟩ => ⟨S4x8192x8, .f32⟩
  | .hbm, ⟨21, _⟩ => ⟨S4x8x8192, .f32⟩
  | .hbm, ⟨22, _⟩ => ⟨S4x8192x256, .bf16⟩
  | .hbm, ⟨23, _⟩ => ⟨S4x8192x256, .bf16⟩
  | .hbm, ⟨24, _⟩ => ⟨S4x256x8192, .bf16⟩
  | .hbm, ⟨25, _⟩ => ⟨S4x8192x64, .bf16⟩
  | .hbm, ⟨26, _⟩ => ⟨S16x256x64, .f32⟩
  | .hbm, ⟨27, _⟩ => ⟨S16x256x64, .bf16⟩
  | .hbm, ⟨28, _⟩ => ⟨S16x64x256, .f32⟩
  | .hbm, ⟨29, _⟩ => ⟨S16x64x256, .bf16⟩
  | .hbm, ⟨30, _⟩ => ⟨S1024x1024, .bf16⟩
  | .hbm, ⟨31, _⟩ => ⟨S1x1024, .f32⟩
  | .hbm, ⟨32, _⟩ => ⟨S1x1024, .f32⟩
  | .hbm, ⟨33, _⟩ => ⟨S4x8192x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .bf16⟩
  | .local _ .vmem, ⟨3, _⟩ => ⟨S1x128x1024, .bf16⟩
  | .local _ .vmem, ⟨4, _⟩ => ⟨S1x128x512, .bf16⟩
  | .local _ .vmem, ⟨5, _⟩ => ⟨S1x128x512, .bf16⟩
  | .local _ .vmem, ⟨6, _⟩ => ⟨S1x8x128, .f32⟩
  | .local _ .vmem, ⟨7, _⟩ => ⟨S1x8x128, .f32⟩
  | .local _ .vmem, ⟨8, _⟩ => ⟨S16x256x64, .bf16⟩
  | .local _ .vmem, ⟨9, _⟩ => ⟨S1x8192x256, .bf16⟩
  | .local _ .vmem, ⟨10, _⟩ => ⟨S1x256x8192, .bf16⟩
  | .local _ .vmem, ⟨11, _⟩ => ⟨S1x8192x64, .bf16⟩
  | .local _ .vmem, ⟨12, _⟩ => ⟨S16x64x256, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1, .f32⟩
  | .local _ .vmem, ⟨17, _⟩ => ⟨S1x128x1024, .f32⟩
  | .local _ .vmem, ⟨18, _⟩ => ⟨S1x128x1024, .f32⟩
  | .local _ .vmem, ⟨19, _⟩ => ⟨S8192x128, .i32⟩
  | .local _ .vmem, ⟨20, _⟩ => ⟨S256x2048, .bf16⟩
  | .local _ .vmem, ⟨21, _⟩ => ⟨S4x256x64, .bf16⟩
  | .local _ .vmem, ⟨22, _⟩ => ⟨S256x2048, .f32⟩
  | .local _ .vmem, ⟨23, _⟩ => ⟨S1x2048, .f32⟩
  | .local _ .vmem, ⟨24, _⟩ => ⟨S1x2048, .f32⟩
  | .local _ .vmem, ⟨25, _⟩ => ⟨S1x2048, .f32⟩
  | .local _ .vmem, ⟨26, _⟩ => ⟨S1024x128, .f32⟩
  | .local _ .vmem, ⟨27, _⟩ => ⟨S1x128, .i32⟩
  | .local _ .vmem, ⟨28, _⟩ => ⟨S1x128, .i32⟩
  | .local _ .vmem, ⟨29, _⟩ => ⟨S1x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_scratch10 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [BitOps F]

abbrev grid0 : Pipeline.Grid := ⟨2, ![4, 64], ![false, false]⟩

@[reducible] def k0_t1_loop (i : grid0.Coords) : Scf.Loop 32 :=
  let c0_i32_266 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let v453 : BitVec 32 := Scalar.subi v452 c0_i32_266
  let c1_i32_267 : BitVec 32 := 1#32
  let v455 : BitVec 32 := Scalar.divsi v453 c1_i32_267
  let v456 : BitVec 32 := Scalar.muli v455 c1_i32_267
  let v457 : BitVec 32 := Scalar.addi c0_i32_266 v456
  let c1_i32_268 : BitVec 32 := 1#32
  ⟨c0_i32_266, v457, c1_i32_268⟩
def k0_mult1 (i : grid0.Coords) (k0_t1 : Fin (k0_t1_loop i).trips) : BitVec 32 :=
  let c0_i32_570 : BitVec 32 := 0#32
  let c0_i32_266 : BitVec 32 := 0#32
  let c1_i32_268 : BitVec 32 := 1#32
  let arg27 : BitVec 32 := Scf.iv c0_i32_266 c1_i32_268 k0_t1
  let c8_i32_569 : BitVec 32 := 8#32
  let v876 : BitVec 32 := Scalar.muli arg27 c8_i32_569
  let v877 : BitVec 32 := Scalar.addi c0_i32_570 v876
  let c512_i32_571 : BitVec 32 := 512#32
  let v878 : BitVec 32 := Scalar.muli v877 c512_i32_571
  v878
def k0_off1 (i : grid0.Coords) (k0_t1 : Fin (k0_t1_loop i).trips) : Fin 3 → Nat :=
  let c0_572 : Index := 0#32
  let c0_i32_570 : BitVec 32 := 0#32
  let c0_i32_266 : BitVec 32 := 0#32
  let c1_i32_268 : BitVec 32 := 1#32
  let arg27 : BitVec 32 := Scf.iv c0_i32_266 c1_i32_268 k0_t1
  let c8_i32_569 : BitVec 32 := 8#32
  let v876 : BitVec 32 := Scalar.muli arg27 c8_i32_569
  let v877 : BitVec 32 := Scalar.addi c0_i32_570 v876
  let c512_i32_571 : BitVec 32 := 512#32
  let v878 : BitVec 32 := Scalar.muli v877 c512_i32_571
  let v879 : BitVec 32 := v878
  let v880 : Index := Scalar.indexCast v879
  let c0_573 : Index := 0#32
  ![0, v880.toNat, 0]
def k0_off2 (i : grid0.Coords) (k0_t1 : Fin (k0_t1_loop i).trips) : Fin 2 → Nat :=
  let c0_i32_570 : BitVec 32 := 0#32
  let c0_i32_266 : BitVec 32 := 0#32
  let c1_i32_268 : BitVec 32 := 1#32
  let arg27 : BitVec 32 := Scf.iv c0_i32_266 c1_i32_268 k0_t1
  let c8_i32_569 : BitVec 32 := 8#32
  let v876 : BitVec 32 := Scalar.muli arg27 c8_i32_569
  let v877 : BitVec 32 := Scalar.addi c0_i32_570 v876
  let c512_i32_571 : BitVec 32 := 512#32
  let v878 : BitVec 32 := Scalar.muli v877 c512_i32_571
  let v879 : BitVec 32 := v878
  let v965 : Index := Scalar.indexCast v879
  let c0_600 : Index := 0#32
  ![v965.toNat, 0]
@[reducible] def k0_t2_loop (i : grid0.Coords) : Scf.Loop 32 :=
  let c0_i32_266 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let v453 : BitVec 32 := Scalar.subi v452 c0_i32_266
  let c1_i32_267 : BitVec 32 := 1#32
  let v455 : BitVec 32 := Scalar.divsi v453 c1_i32_267
  let v456 : BitVec 32 := Scalar.muli v455 c1_i32_267
  let v457 : BitVec 32 := Scalar.addi c0_i32_266 v456
  let v454 : BitVec 32 := Scalar.addi c0_i32_266 v453
  let c1_i32_269 : BitVec 32 := 1#32
  ⟨v457, v454, c1_i32_269⟩
def k0_mult2 (i : grid0.Coords) (k0_t2 : Fin (k0_t2_loop i).trips) : BitVec 32 :=
  let c0_i32_570 : BitVec 32 := 0#32
  let c0_i32_266 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let v453 : BitVec 32 := Scalar.subi v452 c0_i32_266
  let c1_i32_267 : BitVec 32 := 1#32
  let v455 : BitVec 32 := Scalar.divsi v453 c1_i32_267
  let v456 : BitVec 32 := Scalar.muli v455 c1_i32_267
  let v457 : BitVec 32 := Scalar.addi c0_i32_266 v456
  let c1_i32_269 : BitVec 32 := 1#32
  let arg27 : BitVec 32 := Scf.iv v457 c1_i32_269 k0_t2
  let c8_i32_569 : BitVec 32 := 8#32
  let v876 : BitVec 32 := Scalar.muli arg27 c8_i32_569
  let v877 : BitVec 32 := Scalar.addi c0_i32_570 v876
  let c512_i32_571 : BitVec 32 := 512#32
  let v878 : BitVec 32 := Scalar.muli v877 c512_i32_571
  v878
def k0_off3 (i : grid0.Coords) (k0_t2 : Fin (k0_t2_loop i).trips) : Fin 3 → Nat :=
  let c0_572 : Index := 0#32
  let c0_i32_570 : BitVec 32 := 0#32
  let c0_i32_266 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let v453 : BitVec 32 := Scalar.subi v452 c0_i32_266
  let c1_i32_267 : BitVec 32 := 1#32
  let v455 : BitVec 32 := Scalar.divsi v453 c1_i32_267
  let v456 : BitVec 32 := Scalar.muli v455 c1_i32_267
  let v457 : BitVec 32 := Scalar.addi c0_i32_266 v456
  let c1_i32_269 : BitVec 32 := 1#32
  let arg27 : BitVec 32 := Scf.iv v457 c1_i32_269 k0_t2
  let c8_i32_569 : BitVec 32 := 8#32
  let v876 : BitVec 32 := Scalar.muli arg27 c8_i32_569
  let v877 : BitVec 32 := Scalar.addi c0_i32_570 v876
  let c512_i32_571 : BitVec 32 := 512#32
  let v878 : BitVec 32 := Scalar.muli v877 c512_i32_571
  let v879 : BitVec 32 := v878
  let v880 : Index := Scalar.indexCast v879
  let c0_573 : Index := 0#32
  ![0, v880.toNat, 0]
def k0_off4 (i : grid0.Coords) (k0_t2 : Fin (k0_t2_loop i).trips) : Fin 2 → Nat :=
  let c0_i32_570 : BitVec 32 := 0#32
  let c0_i32_266 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let v453 : BitVec 32 := Scalar.subi v452 c0_i32_266
  let c1_i32_267 : BitVec 32 := 1#32
  let v455 : BitVec 32 := Scalar.divsi v453 c1_i32_267
  let v456 : BitVec 32 := Scalar.muli v455 c1_i32_267
  let v457 : BitVec 32 := Scalar.addi c0_i32_266 v456
  let c1_i32_269 : BitVec 32 := 1#32
  let arg27 : BitVec 32 := Scf.iv v457 c1_i32_269 k0_t2
  let c8_i32_569 : BitVec 32 := 8#32
  let v876 : BitVec 32 := Scalar.muli arg27 c8_i32_569
  let v877 : BitVec 32 := Scalar.addi c0_i32_570 v876
  let c512_i32_571 : BitVec 32 := 512#32
  let v878 : BitVec 32 := Scalar.muli v877 c512_i32_571
  let v879 : BitVec 32 := v878
  let v965 : Index := Scalar.indexCast v879
  let c0_600 : Index := 0#32
  ![v965.toNat, 0]
@[reducible] def k0_t3_loop (i : grid0.Coords) : Scf.Loop 32 :=
  let c0_i32_279 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_271 : BitVec 32 := 0#32
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let v460 : BitVec 32 := Scalar.subi v21 v459
  let c0_i32_272 : BitVec 32 := 0#32
  let v462 : BitVec 1 := Scalar.cmpi .sgt v460 c0_i32_272
  let v463 : BitVec 32 := Scalar.extui v462
  let c0_i32_273 : BitVec 32 := 0#32
  let v464 : BitVec 1 := Scalar.cmpi .slt v460 c0_i32_273
  let v465 : BitVec 32 := Scalar.extui v464
  let v466 : BitVec 32 := Scalar.subi v463 v465
  let c4_i32 : BitVec 32 := 4#32
  let c0_i32_274 : BitVec 32 := 0#32
  let v467 : BitVec 1 := Scalar.cmpi .sgt c4_i32 c0_i32_274
  let v468 : BitVec 32 := Scalar.extui v467
  let c0_i32_275 : BitVec 32 := 0#32
  let v469 : BitVec 1 := Scalar.cmpi .slt c4_i32 c0_i32_275
  let v470 : BitVec 32 := Scalar.extui v469
  let v471 : BitVec 32 := Scalar.subi v468 v470
  let v472 : BitVec 1 := Scalar.cmpi .ne v466 v471
  let v473 : BitVec 32 := Scalar.remsi v460 c4_i32
  let c0_i32_276 : BitVec 32 := 0#32
  let v474 : BitVec 1 := Scalar.cmpi .ne v473 c0_i32_276
  let v475 : BitVec 1 := Scalar.andi v472 v474
  let v461 : BitVec 32 := Scalar.divsi v460 c4_i32
  let c1_i32_277 : BitVec 32 := 1#32
  let v476 : BitVec 32 := Scalar.subi v461 c1_i32_277
  let v477 : BitVec 32 := Scalar.select v475 v476 v461
  let v478 : BitVec 32 := Scalar.subi v477 c0_i32_279
  let c1_i32_280 : BitVec 32 := 1#32
  let v480 : BitVec 32 := Scalar.divsi v478 c1_i32_280
  let v481 : BitVec 32 := Scalar.muli v480 c1_i32_280
  let v482 : BitVec 32 := Scalar.addi c0_i32_279 v481
  let c1_i32_281 : BitVec 32 := 1#32
  ⟨c0_i32_279, v482, c1_i32_281⟩
def k0_mult3 (i : grid0.Coords) (k0_t3 : Fin (k0_t3_loop i).trips) : BitVec 32 :=
  let c0_i32_271 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let c0_i32_279 : BitVec 32 := 0#32
  let c1_i32_281 : BitVec 32 := 1#32
  let arg27 : BitVec 32 := Scf.iv c0_i32_279 c1_i32_281 k0_t3
  let c4_i32_569 : BitVec 32 := 4#32
  let v876 : BitVec 32 := Scalar.muli arg27 c4_i32_569
  let v877 : BitVec 32 := Scalar.addi v459 v876
  let c512_i32_570 : BitVec 32 := 512#32
  let v878 : BitVec 32 := Scalar.muli v877 c512_i32_570
  v878
def k0_off5 (i : grid0.Coords) (k0_t3 : Fin (k0_t3_loop i).trips) : Fin 3 → Nat :=
  let c0_571 : Index := 0#32
  let c0_i32_271 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let c0_i32_279 : BitVec 32 := 0#32
  let c1_i32_281 : BitVec 32 := 1#32
  let arg27 : BitVec 32 := Scf.iv c0_i32_279 c1_i32_281 k0_t3
  let c4_i32_569 : BitVec 32 := 4#32
  let v876 : BitVec 32 := Scalar.muli arg27 c4_i32_569
  let v877 : BitVec 32 := Scalar.addi v459 v876
  let c512_i32_570 : BitVec 32 := 512#32
  let v878 : BitVec 32 := Scalar.muli v877 c512_i32_570
  let v879 : BitVec 32 := v878
  let v880 : Index := Scalar.indexCast v879
  let c0_572 : Index := 0#32
  ![0, v880.toNat, 0]
def k0_off6 (i : grid0.Coords) (k0_t3 : Fin (k0_t3_loop i).trips) : Fin 2 → Nat :=
  let c0_i32_271 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let c0_i32_279 : BitVec 32 := 0#32
  let c1_i32_281 : BitVec 32 := 1#32
  let arg27 : BitVec 32 := Scf.iv c0_i32_279 c1_i32_281 k0_t3
  let c4_i32_569 : BitVec 32 := 4#32
  let v876 : BitVec 32 := Scalar.muli arg27 c4_i32_569
  let v877 : BitVec 32 := Scalar.addi v459 v876
  let c512_i32_570 : BitVec 32 := 512#32
  let v878 : BitVec 32 := Scalar.muli v877 c512_i32_570
  let v879 : BitVec 32 := v878
  let v965 : Index := Scalar.indexCast v879
  let c0_599 : Index := 0#32
  ![v965.toNat, 0]
@[reducible] def k0_t4_loop (i : grid0.Coords) : Scf.Loop 32 :=
  let c0_i32_279 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_271 : BitVec 32 := 0#32
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let v460 : BitVec 32 := Scalar.subi v21 v459
  let c0_i32_272 : BitVec 32 := 0#32
  let v462 : BitVec 1 := Scalar.cmpi .sgt v460 c0_i32_272
  let v463 : BitVec 32 := Scalar.extui v462
  let c0_i32_273 : BitVec 32 := 0#32
  let v464 : BitVec 1 := Scalar.cmpi .slt v460 c0_i32_273
  let v465 : BitVec 32 := Scalar.extui v464
  let v466 : BitVec 32 := Scalar.subi v463 v465
  let c4_i32 : BitVec 32 := 4#32
  let c0_i32_274 : BitVec 32 := 0#32
  let v467 : BitVec 1 := Scalar.cmpi .sgt c4_i32 c0_i32_274
  let v468 : BitVec 32 := Scalar.extui v467
  let c0_i32_275 : BitVec 32 := 0#32
  let v469 : BitVec 1 := Scalar.cmpi .slt c4_i32 c0_i32_275
  let v470 : BitVec 32 := Scalar.extui v469
  let v471 : BitVec 32 := Scalar.subi v468 v470
  let v472 : BitVec 1 := Scalar.cmpi .ne v466 v471
  let v473 : BitVec 32 := Scalar.remsi v460 c4_i32
  let c0_i32_276 : BitVec 32 := 0#32
  let v474 : BitVec 1 := Scalar.cmpi .ne v473 c0_i32_276
  let v475 : BitVec 1 := Scalar.andi v472 v474
  let v461 : BitVec 32 := Scalar.divsi v460 c4_i32
  let c1_i32_277 : BitVec 32 := 1#32
  let v476 : BitVec 32 := Scalar.subi v461 c1_i32_277
  let v477 : BitVec 32 := Scalar.select v475 v476 v461
  let v478 : BitVec 32 := Scalar.subi v477 c0_i32_279
  let c1_i32_280 : BitVec 32 := 1#32
  let v480 : BitVec 32 := Scalar.divsi v478 c1_i32_280
  let v481 : BitVec 32 := Scalar.muli v480 c1_i32_280
  let v482 : BitVec 32 := Scalar.addi c0_i32_279 v481
  let v479 : BitVec 32 := Scalar.addi c0_i32_279 v478
  let c1_i32_282 : BitVec 32 := 1#32
  ⟨v482, v479, c1_i32_282⟩
def k0_mult4 (i : grid0.Coords) (k0_t4 : Fin (k0_t4_loop i).trips) : BitVec 32 :=
  let c0_i32_271 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let c0_i32_279 : BitVec 32 := 0#32
  let v460 : BitVec 32 := Scalar.subi v21 v459
  let c0_i32_272 : BitVec 32 := 0#32
  let v462 : BitVec 1 := Scalar.cmpi .sgt v460 c0_i32_272
  let v463 : BitVec 32 := Scalar.extui v462
  let c0_i32_273 : BitVec 32 := 0#32
  let v464 : BitVec 1 := Scalar.cmpi .slt v460 c0_i32_273
  let v465 : BitVec 32 := Scalar.extui v464
  let v466 : BitVec 32 := Scalar.subi v463 v465
  let c4_i32 : BitVec 32 := 4#32
  let c0_i32_274 : BitVec 32 := 0#32
  let v467 : BitVec 1 := Scalar.cmpi .sgt c4_i32 c0_i32_274
  let v468 : BitVec 32 := Scalar.extui v467
  let c0_i32_275 : BitVec 32 := 0#32
  let v469 : BitVec 1 := Scalar.cmpi .slt c4_i32 c0_i32_275
  let v470 : BitVec 32 := Scalar.extui v469
  let v471 : BitVec 32 := Scalar.subi v468 v470
  let v472 : BitVec 1 := Scalar.cmpi .ne v466 v471
  let v473 : BitVec 32 := Scalar.remsi v460 c4_i32
  let c0_i32_276 : BitVec 32 := 0#32
  let v474 : BitVec 1 := Scalar.cmpi .ne v473 c0_i32_276
  let v475 : BitVec 1 := Scalar.andi v472 v474
  let v461 : BitVec 32 := Scalar.divsi v460 c4_i32
  let c1_i32_277 : BitVec 32 := 1#32
  let v476 : BitVec 32 := Scalar.subi v461 c1_i32_277
  let v477 : BitVec 32 := Scalar.select v475 v476 v461
  let v478 : BitVec 32 := Scalar.subi v477 c0_i32_279
  let c1_i32_280 : BitVec 32 := 1#32
  let v480 : BitVec 32 := Scalar.divsi v478 c1_i32_280
  let v481 : BitVec 32 := Scalar.muli v480 c1_i32_280
  let v482 : BitVec 32 := Scalar.addi c0_i32_279 v481
  let c1_i32_282 : BitVec 32 := 1#32
  let arg27 : BitVec 32 := Scf.iv v482 c1_i32_282 k0_t4
  let c4_i32_569 : BitVec 32 := 4#32
  let v876 : BitVec 32 := Scalar.muli arg27 c4_i32_569
  let v877 : BitVec 32 := Scalar.addi v459 v876
  let c512_i32_570 : BitVec 32 := 512#32
  let v878 : BitVec 32 := Scalar.muli v877 c512_i32_570
  v878
def k0_off7 (i : grid0.Coords) (k0_t4 : Fin (k0_t4_loop i).trips) : Fin 3 → Nat :=
  let c0_571 : Index := 0#32
  let c0_i32_271 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let c0_i32_279 : BitVec 32 := 0#32
  let v460 : BitVec 32 := Scalar.subi v21 v459
  let c0_i32_272 : BitVec 32 := 0#32
  let v462 : BitVec 1 := Scalar.cmpi .sgt v460 c0_i32_272
  let v463 : BitVec 32 := Scalar.extui v462
  let c0_i32_273 : BitVec 32 := 0#32
  let v464 : BitVec 1 := Scalar.cmpi .slt v460 c0_i32_273
  let v465 : BitVec 32 := Scalar.extui v464
  let v466 : BitVec 32 := Scalar.subi v463 v465
  let c4_i32 : BitVec 32 := 4#32
  let c0_i32_274 : BitVec 32 := 0#32
  let v467 : BitVec 1 := Scalar.cmpi .sgt c4_i32 c0_i32_274
  let v468 : BitVec 32 := Scalar.extui v467
  let c0_i32_275 : BitVec 32 := 0#32
  let v469 : BitVec 1 := Scalar.cmpi .slt c4_i32 c0_i32_275
  let v470 : BitVec 32 := Scalar.extui v469
  let v471 : BitVec 32 := Scalar.subi v468 v470
  let v472 : BitVec 1 := Scalar.cmpi .ne v466 v471
  let v473 : BitVec 32 := Scalar.remsi v460 c4_i32
  let c0_i32_276 : BitVec 32 := 0#32
  let v474 : BitVec 1 := Scalar.cmpi .ne v473 c0_i32_276
  let v475 : BitVec 1 := Scalar.andi v472 v474
  let v461 : BitVec 32 := Scalar.divsi v460 c4_i32
  let c1_i32_277 : BitVec 32 := 1#32
  let v476 : BitVec 32 := Scalar.subi v461 c1_i32_277
  let v477 : BitVec 32 := Scalar.select v475 v476 v461
  let v478 : BitVec 32 := Scalar.subi v477 c0_i32_279
  let c1_i32_280 : BitVec 32 := 1#32
  let v480 : BitVec 32 := Scalar.divsi v478 c1_i32_280
  let v481 : BitVec 32 := Scalar.muli v480 c1_i32_280
  let v482 : BitVec 32 := Scalar.addi c0_i32_279 v481
  let c1_i32_282 : BitVec 32 := 1#32
  let arg27 : BitVec 32 := Scf.iv v482 c1_i32_282 k0_t4
  let c4_i32_569 : BitVec 32 := 4#32
  let v876 : BitVec 32 := Scalar.muli arg27 c4_i32_569
  let v877 : BitVec 32 := Scalar.addi v459 v876
  let c512_i32_570 : BitVec 32 := 512#32
  let v878 : BitVec 32 := Scalar.muli v877 c512_i32_570
  let v879 : BitVec 32 := v878
  let v880 : Index := Scalar.indexCast v879
  let c0_572 : Index := 0#32
  ![0, v880.toNat, 0]
def k0_off8 (i : grid0.Coords) (k0_t4 : Fin (k0_t4_loop i).trips) : Fin 2 → Nat :=
  let c0_i32_271 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let c0_i32_279 : BitVec 32 := 0#32
  let v460 : BitVec 32 := Scalar.subi v21 v459
  let c0_i32_272 : BitVec 32 := 0#32
  let v462 : BitVec 1 := Scalar.cmpi .sgt v460 c0_i32_272
  let v463 : BitVec 32 := Scalar.extui v462
  let c0_i32_273 : BitVec 32 := 0#32
  let v464 : BitVec 1 := Scalar.cmpi .slt v460 c0_i32_273
  let v465 : BitVec 32 := Scalar.extui v464
  let v466 : BitVec 32 := Scalar.subi v463 v465
  let c4_i32 : BitVec 32 := 4#32
  let c0_i32_274 : BitVec 32 := 0#32
  let v467 : BitVec 1 := Scalar.cmpi .sgt c4_i32 c0_i32_274
  let v468 : BitVec 32 := Scalar.extui v467
  let c0_i32_275 : BitVec 32 := 0#32
  let v469 : BitVec 1 := Scalar.cmpi .slt c4_i32 c0_i32_275
  let v470 : BitVec 32 := Scalar.extui v469
  let v471 : BitVec 32 := Scalar.subi v468 v470
  let v472 : BitVec 1 := Scalar.cmpi .ne v466 v471
  let v473 : BitVec 32 := Scalar.remsi v460 c4_i32
  let c0_i32_276 : BitVec 32 := 0#32
  let v474 : BitVec 1 := Scalar.cmpi .ne v473 c0_i32_276
  let v475 : BitVec 1 := Scalar.andi v472 v474
  let v461 : BitVec 32 := Scalar.divsi v460 c4_i32
  let c1_i32_277 : BitVec 32 := 1#32
  let v476 : BitVec 32 := Scalar.subi v461 c1_i32_277
  let v477 : BitVec 32 := Scalar.select v475 v476 v461
  let v478 : BitVec 32 := Scalar.subi v477 c0_i32_279
  let c1_i32_280 : BitVec 32 := 1#32
  let v480 : BitVec 32 := Scalar.divsi v478 c1_i32_280
  let v481 : BitVec 32 := Scalar.muli v480 c1_i32_280
  let v482 : BitVec 32 := Scalar.addi c0_i32_279 v481
  let c1_i32_282 : BitVec 32 := 1#32
  let arg27 : BitVec 32 := Scf.iv v482 c1_i32_282 k0_t4
  let c4_i32_569 : BitVec 32 := 4#32
  let v876 : BitVec 32 := Scalar.muli arg27 c4_i32_569
  let v877 : BitVec 32 := Scalar.addi v459 v876
  let c512_i32_570 : BitVec 32 := 512#32
  let v878 : BitVec 32 := Scalar.muli v877 c512_i32_570
  let v879 : BitVec 32 := v878
  let v965 : Index := Scalar.indexCast v879
  let c0_599 : Index := 0#32
  ![v965.toNat, 0]
@[reducible] def k0_t5_loop (i : grid0.Coords) : Scf.Loop 32 :=
  let c0_i32_291 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_271 : BitVec 32 := 0#32
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let v460 : BitVec 32 := Scalar.subi v21 v459
  let c0_i32_272 : BitVec 32 := 0#32
  let v462 : BitVec 1 := Scalar.cmpi .sgt v460 c0_i32_272
  let v463 : BitVec 32 := Scalar.extui v462
  let c0_i32_273 : BitVec 32 := 0#32
  let v464 : BitVec 1 := Scalar.cmpi .slt v460 c0_i32_273
  let v465 : BitVec 32 := Scalar.extui v464
  let v466 : BitVec 32 := Scalar.subi v463 v465
  let c4_i32 : BitVec 32 := 4#32
  let c0_i32_274 : BitVec 32 := 0#32
  let v467 : BitVec 1 := Scalar.cmpi .sgt c4_i32 c0_i32_274
  let v468 : BitVec 32 := Scalar.extui v467
  let c0_i32_275 : BitVec 32 := 0#32
  let v469 : BitVec 1 := Scalar.cmpi .slt c4_i32 c0_i32_275
  let v470 : BitVec 32 := Scalar.extui v469
  let v471 : BitVec 32 := Scalar.subi v468 v470
  let v472 : BitVec 1 := Scalar.cmpi .ne v466 v471
  let v473 : BitVec 32 := Scalar.remsi v460 c4_i32
  let c0_i32_276 : BitVec 32 := 0#32
  let v474 : BitVec 1 := Scalar.cmpi .ne v473 c0_i32_276
  let v475 : BitVec 1 := Scalar.andi v472 v474
  let v461 : BitVec 32 := Scalar.divsi v460 c4_i32
  let c1_i32_277 : BitVec 32 := 1#32
  let v476 : BitVec 32 := Scalar.subi v461 c1_i32_277
  let v477 : BitVec 32 := Scalar.select v475 v476 v461
  let c4_i32_283 : BitVec 32 := 4#32
  let v483 : BitVec 32 := Scalar.muli v477 c4_i32_283
  let v484 : BitVec 32 := Scalar.addi v459 v483
  let v485 : BitVec 32 := Scalar.subi v21 v484
  let c0_i32_284 : BitVec 32 := 0#32
  let v487 : BitVec 1 := Scalar.cmpi .sgt v485 c0_i32_284
  let v488 : BitVec 32 := Scalar.extui v487
  let c0_i32_285 : BitVec 32 := 0#32
  let v489 : BitVec 1 := Scalar.cmpi .slt v485 c0_i32_285
  let v490 : BitVec 32 := Scalar.extui v489
  let v491 : BitVec 32 := Scalar.subi v488 v490
  let c2_i32 : BitVec 32 := 2#32
  let c0_i32_286 : BitVec 32 := 0#32
  let v492 : BitVec 1 := Scalar.cmpi .sgt c2_i32 c0_i32_286
  let v493 : BitVec 32 := Scalar.extui v492
  let c0_i32_287 : BitVec 32 := 0#32
  let v494 : BitVec 1 := Scalar.cmpi .slt c2_i32 c0_i32_287
  let v495 : BitVec 32 := Scalar.extui v494
  let v496 : BitVec 32 := Scalar.subi v493 v495
  let v497 : BitVec 1 := Scalar.cmpi .ne v491 v496
  let v498 : BitVec 32 := Scalar.remsi v485 c2_i32
  let c0_i32_288 : BitVec 32 := 0#32
  let v499 : BitVec 1 := Scalar.cmpi .ne v498 c0_i32_288
  let v500 : BitVec 1 := Scalar.andi v497 v499
  let v486 : BitVec 32 := Scalar.divsi v485 c2_i32
  let c1_i32_289 : BitVec 32 := 1#32
  let v501 : BitVec 32 := Scalar.subi v486 c1_i32_289
  let v502 : BitVec 32 := Scalar.select v500 v501 v486
  let v503 : BitVec 32 := Scalar.subi v502 c0_i32_291
  let c1_i32_292 : BitVec 32 := 1#32
  let v505 : BitVec 32 := Scalar.divsi v503 c1_i32_292
  let v506 : BitVec 32 := Scalar.muli v505 c1_i32_292
  let v507 : BitVec 32 := Scalar.addi c0_i32_291 v506
  let c1_i32_293 : BitVec 32 := 1#32
  ⟨c0_i32_291, v507, c1_i32_293⟩
def k0_mult5 (i : grid0.Coords) (k0_t5 : Fin (k0_t5_loop i).trips) : BitVec 32 :=
  let c0_i32_271 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let v460 : BitVec 32 := Scalar.subi v21 v459
  let c0_i32_272 : BitVec 32 := 0#32
  let v462 : BitVec 1 := Scalar.cmpi .sgt v460 c0_i32_272
  let v463 : BitVec 32 := Scalar.extui v462
  let c0_i32_273 : BitVec 32 := 0#32
  let v464 : BitVec 1 := Scalar.cmpi .slt v460 c0_i32_273
  let v465 : BitVec 32 := Scalar.extui v464
  let v466 : BitVec 32 := Scalar.subi v463 v465
  let c4_i32 : BitVec 32 := 4#32
  let c0_i32_274 : BitVec 32 := 0#32
  let v467 : BitVec 1 := Scalar.cmpi .sgt c4_i32 c0_i32_274
  let v468 : BitVec 32 := Scalar.extui v467
  let c0_i32_275 : BitVec 32 := 0#32
  let v469 : BitVec 1 := Scalar.cmpi .slt c4_i32 c0_i32_275
  let v470 : BitVec 32 := Scalar.extui v469
  let v471 : BitVec 32 := Scalar.subi v468 v470
  let v472 : BitVec 1 := Scalar.cmpi .ne v466 v471
  let v473 : BitVec 32 := Scalar.remsi v460 c4_i32
  let c0_i32_276 : BitVec 32 := 0#32
  let v474 : BitVec 1 := Scalar.cmpi .ne v473 c0_i32_276
  let v475 : BitVec 1 := Scalar.andi v472 v474
  let v461 : BitVec 32 := Scalar.divsi v460 c4_i32
  let c1_i32_277 : BitVec 32 := 1#32
  let v476 : BitVec 32 := Scalar.subi v461 c1_i32_277
  let v477 : BitVec 32 := Scalar.select v475 v476 v461
  let c4_i32_283 : BitVec 32 := 4#32
  let v483 : BitVec 32 := Scalar.muli v477 c4_i32_283
  let v484 : BitVec 32 := Scalar.addi v459 v483
  let c0_i32_291 : BitVec 32 := 0#32
  let c1_i32_293 : BitVec 32 := 1#32
  let arg27 : BitVec 32 := Scf.iv c0_i32_291 c1_i32_293 k0_t5
  let c2_i32_569 : BitVec 32 := 2#32
  let v876 : BitVec 32 := Scalar.muli arg27 c2_i32_569
  let v877 : BitVec 32 := Scalar.addi v484 v876
  let c512_i32_570 : BitVec 32 := 512#32
  let v878 : BitVec 32 := Scalar.muli v877 c512_i32_570
  v878
def k0_off9 (i : grid0.Coords) (k0_t5 : Fin (k0_t5_loop i).trips) : Fin 3 → Nat :=
  let c0_571 : Index := 0#32
  let c0_i32_271 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let v460 : BitVec 32 := Scalar.subi v21 v459
  let c0_i32_272 : BitVec 32 := 0#32
  let v462 : BitVec 1 := Scalar.cmpi .sgt v460 c0_i32_272
  let v463 : BitVec 32 := Scalar.extui v462
  let c0_i32_273 : BitVec 32 := 0#32
  let v464 : BitVec 1 := Scalar.cmpi .slt v460 c0_i32_273
  let v465 : BitVec 32 := Scalar.extui v464
  let v466 : BitVec 32 := Scalar.subi v463 v465
  let c4_i32 : BitVec 32 := 4#32
  let c0_i32_274 : BitVec 32 := 0#32
  let v467 : BitVec 1 := Scalar.cmpi .sgt c4_i32 c0_i32_274
  let v468 : BitVec 32 := Scalar.extui v467
  let c0_i32_275 : BitVec 32 := 0#32
  let v469 : BitVec 1 := Scalar.cmpi .slt c4_i32 c0_i32_275
  let v470 : BitVec 32 := Scalar.extui v469
  let v471 : BitVec 32 := Scalar.subi v468 v470
  let v472 : BitVec 1 := Scalar.cmpi .ne v466 v471
  let v473 : BitVec 32 := Scalar.remsi v460 c4_i32
  let c0_i32_276 : BitVec 32 := 0#32
  let v474 : BitVec 1 := Scalar.cmpi .ne v473 c0_i32_276
  let v475 : BitVec 1 := Scalar.andi v472 v474
  let v461 : BitVec 32 := Scalar.divsi v460 c4_i32
  let c1_i32_277 : BitVec 32 := 1#32
  let v476 : BitVec 32 := Scalar.subi v461 c1_i32_277
  let v477 : BitVec 32 := Scalar.select v475 v476 v461
  let c4_i32_283 : BitVec 32 := 4#32
  let v483 : BitVec 32 := Scalar.muli v477 c4_i32_283
  let v484 : BitVec 32 := Scalar.addi v459 v483
  let c0_i32_291 : BitVec 32 := 0#32
  let c1_i32_293 : BitVec 32 := 1#32
  let arg27 : BitVec 32 := Scf.iv c0_i32_291 c1_i32_293 k0_t5
  let c2_i32_569 : BitVec 32 := 2#32
  let v876 : BitVec 32 := Scalar.muli arg27 c2_i32_569
  let v877 : BitVec 32 := Scalar.addi v484 v876
  let c512_i32_570 : BitVec 32 := 512#32
  let v878 : BitVec 32 := Scalar.muli v877 c512_i32_570
  let v879 : BitVec 32 := v878
  let v880 : Index := Scalar.indexCast v879
  let c0_572 : Index := 0#32
  ![0, v880.toNat, 0]
def k0_off10 (i : grid0.Coords) (k0_t5 : Fin (k0_t5_loop i).trips) : Fin 2 → Nat :=
  let c0_i32_271 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let v460 : BitVec 32 := Scalar.subi v21 v459
  let c0_i32_272 : BitVec 32 := 0#32
  let v462 : BitVec 1 := Scalar.cmpi .sgt v460 c0_i32_272
  let v463 : BitVec 32 := Scalar.extui v462
  let c0_i32_273 : BitVec 32 := 0#32
  let v464 : BitVec 1 := Scalar.cmpi .slt v460 c0_i32_273
  let v465 : BitVec 32 := Scalar.extui v464
  let v466 : BitVec 32 := Scalar.subi v463 v465
  let c4_i32 : BitVec 32 := 4#32
  let c0_i32_274 : BitVec 32 := 0#32
  let v467 : BitVec 1 := Scalar.cmpi .sgt c4_i32 c0_i32_274
  let v468 : BitVec 32 := Scalar.extui v467
  let c0_i32_275 : BitVec 32 := 0#32
  let v469 : BitVec 1 := Scalar.cmpi .slt c4_i32 c0_i32_275
  let v470 : BitVec 32 := Scalar.extui v469
  let v471 : BitVec 32 := Scalar.subi v468 v470
  let v472 : BitVec 1 := Scalar.cmpi .ne v466 v471
  let v473 : BitVec 32 := Scalar.remsi v460 c4_i32
  let c0_i32_276 : BitVec 32 := 0#32
  let v474 : BitVec 1 := Scalar.cmpi .ne v473 c0_i32_276
  let v475 : BitVec 1 := Scalar.andi v472 v474
  let v461 : BitVec 32 := Scalar.divsi v460 c4_i32
  let c1_i32_277 : BitVec 32 := 1#32
  let v476 : BitVec 32 := Scalar.subi v461 c1_i32_277
  let v477 : BitVec 32 := Scalar.select v475 v476 v461
  let c4_i32_283 : BitVec 32 := 4#32
  let v483 : BitVec 32 := Scalar.muli v477 c4_i32_283
  let v484 : BitVec 32 := Scalar.addi v459 v483
  let c0_i32_291 : BitVec 32 := 0#32
  let c1_i32_293 : BitVec 32 := 1#32
  let arg27 : BitVec 32 := Scf.iv c0_i32_291 c1_i32_293 k0_t5
  let c2_i32_569 : BitVec 32 := 2#32
  let v876 : BitVec 32 := Scalar.muli arg27 c2_i32_569
  let v877 : BitVec 32 := Scalar.addi v484 v876
  let c512_i32_570 : BitVec 32 := 512#32
  let v878 : BitVec 32 := Scalar.muli v877 c512_i32_570
  let v879 : BitVec 32 := v878
  let v965 : Index := Scalar.indexCast v879
  let c0_599 : Index := 0#32
  ![v965.toNat, 0]
@[reducible] def k0_t6_loop (i : grid0.Coords) : Scf.Loop 32 :=
  let c0_i32_291 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_271 : BitVec 32 := 0#32
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let v460 : BitVec 32 := Scalar.subi v21 v459
  let c0_i32_272 : BitVec 32 := 0#32
  let v462 : BitVec 1 := Scalar.cmpi .sgt v460 c0_i32_272
  let v463 : BitVec 32 := Scalar.extui v462
  let c0_i32_273 : BitVec 32 := 0#32
  let v464 : BitVec 1 := Scalar.cmpi .slt v460 c0_i32_273
  let v465 : BitVec 32 := Scalar.extui v464
  let v466 : BitVec 32 := Scalar.subi v463 v465
  let c4_i32 : BitVec 32 := 4#32
  let c0_i32_274 : BitVec 32 := 0#32
  let v467 : BitVec 1 := Scalar.cmpi .sgt c4_i32 c0_i32_274
  let v468 : BitVec 32 := Scalar.extui v467
  let c0_i32_275 : BitVec 32 := 0#32
  let v469 : BitVec 1 := Scalar.cmpi .slt c4_i32 c0_i32_275
  let v470 : BitVec 32 := Scalar.extui v469
  let v471 : BitVec 32 := Scalar.subi v468 v470
  let v472 : BitVec 1 := Scalar.cmpi .ne v466 v471
  let v473 : BitVec 32 := Scalar.remsi v460 c4_i32
  let c0_i32_276 : BitVec 32 := 0#32
  let v474 : BitVec 1 := Scalar.cmpi .ne v473 c0_i32_276
  let v475 : BitVec 1 := Scalar.andi v472 v474
  let v461 : BitVec 32 := Scalar.divsi v460 c4_i32
  let c1_i32_277 : BitVec 32 := 1#32
  let v476 : BitVec 32 := Scalar.subi v461 c1_i32_277
  let v477 : BitVec 32 := Scalar.select v475 v476 v461
  let c4_i32_283 : BitVec 32 := 4#32
  let v483 : BitVec 32 := Scalar.muli v477 c4_i32_283
  let v484 : BitVec 32 := Scalar.addi v459 v483
  let v485 : BitVec 32 := Scalar.subi v21 v484
  let c0_i32_284 : BitVec 32 := 0#32
  let v487 : BitVec 1 := Scalar.cmpi .sgt v485 c0_i32_284
  let v488 : BitVec 32 := Scalar.extui v487
  let c0_i32_285 : BitVec 32 := 0#32
  let v489 : BitVec 1 := Scalar.cmpi .slt v485 c0_i32_285
  let v490 : BitVec 32 := Scalar.extui v489
  let v491 : BitVec 32 := Scalar.subi v488 v490
  let c2_i32 : BitVec 32 := 2#32
  let c0_i32_286 : BitVec 32 := 0#32
  let v492 : BitVec 1 := Scalar.cmpi .sgt c2_i32 c0_i32_286
  let v493 : BitVec 32 := Scalar.extui v492
  let c0_i32_287 : BitVec 32 := 0#32
  let v494 : BitVec 1 := Scalar.cmpi .slt c2_i32 c0_i32_287
  let v495 : BitVec 32 := Scalar.extui v494
  let v496 : BitVec 32 := Scalar.subi v493 v495
  let v497 : BitVec 1 := Scalar.cmpi .ne v491 v496
  let v498 : BitVec 32 := Scalar.remsi v485 c2_i32
  let c0_i32_288 : BitVec 32 := 0#32
  let v499 : BitVec 1 := Scalar.cmpi .ne v498 c0_i32_288
  let v500 : BitVec 1 := Scalar.andi v497 v499
  let v486 : BitVec 32 := Scalar.divsi v485 c2_i32
  let c1_i32_289 : BitVec 32 := 1#32
  let v501 : BitVec 32 := Scalar.subi v486 c1_i32_289
  let v502 : BitVec 32 := Scalar.select v500 v501 v486
  let v503 : BitVec 32 := Scalar.subi v502 c0_i32_291
  let c1_i32_292 : BitVec 32 := 1#32
  let v505 : BitVec 32 := Scalar.divsi v503 c1_i32_292
  let v506 : BitVec 32 := Scalar.muli v505 c1_i32_292
  let v507 : BitVec 32 := Scalar.addi c0_i32_291 v506
  let v504 : BitVec 32 := Scalar.addi c0_i32_291 v503
  let c1_i32_294 : BitVec 32 := 1#32
  ⟨v507, v504, c1_i32_294⟩
def k0_mult6 (i : grid0.Coords) (k0_t6 : Fin (k0_t6_loop i).trips) : BitVec 32 :=
  let c0_i32_271 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let v460 : BitVec 32 := Scalar.subi v21 v459
  let c0_i32_272 : BitVec 32 := 0#32
  let v462 : BitVec 1 := Scalar.cmpi .sgt v460 c0_i32_272
  let v463 : BitVec 32 := Scalar.extui v462
  let c0_i32_273 : BitVec 32 := 0#32
  let v464 : BitVec 1 := Scalar.cmpi .slt v460 c0_i32_273
  let v465 : BitVec 32 := Scalar.extui v464
  let v466 : BitVec 32 := Scalar.subi v463 v465
  let c4_i32 : BitVec 32 := 4#32
  let c0_i32_274 : BitVec 32 := 0#32
  let v467 : BitVec 1 := Scalar.cmpi .sgt c4_i32 c0_i32_274
  let v468 : BitVec 32 := Scalar.extui v467
  let c0_i32_275 : BitVec 32 := 0#32
  let v469 : BitVec 1 := Scalar.cmpi .slt c4_i32 c0_i32_275
  let v470 : BitVec 32 := Scalar.extui v469
  let v471 : BitVec 32 := Scalar.subi v468 v470
  let v472 : BitVec 1 := Scalar.cmpi .ne v466 v471
  let v473 : BitVec 32 := Scalar.remsi v460 c4_i32
  let c0_i32_276 : BitVec 32 := 0#32
  let v474 : BitVec 1 := Scalar.cmpi .ne v473 c0_i32_276
  let v475 : BitVec 1 := Scalar.andi v472 v474
  let v461 : BitVec 32 := Scalar.divsi v460 c4_i32
  let c1_i32_277 : BitVec 32 := 1#32
  let v476 : BitVec 32 := Scalar.subi v461 c1_i32_277
  let v477 : BitVec 32 := Scalar.select v475 v476 v461
  let c4_i32_283 : BitVec 32 := 4#32
  let v483 : BitVec 32 := Scalar.muli v477 c4_i32_283
  let v484 : BitVec 32 := Scalar.addi v459 v483
  let c0_i32_291 : BitVec 32 := 0#32
  let v485 : BitVec 32 := Scalar.subi v21 v484
  let c0_i32_284 : BitVec 32 := 0#32
  let v487 : BitVec 1 := Scalar.cmpi .sgt v485 c0_i32_284
  let v488 : BitVec 32 := Scalar.extui v487
  let c0_i32_285 : BitVec 32 := 0#32
  let v489 : BitVec 1 := Scalar.cmpi .slt v485 c0_i32_285
  let v490 : BitVec 32 := Scalar.extui v489
  let v491 : BitVec 32 := Scalar.subi v488 v490
  let c2_i32 : BitVec 32 := 2#32
  let c0_i32_286 : BitVec 32 := 0#32
  let v492 : BitVec 1 := Scalar.cmpi .sgt c2_i32 c0_i32_286
  let v493 : BitVec 32 := Scalar.extui v492
  let c0_i32_287 : BitVec 32 := 0#32
  let v494 : BitVec 1 := Scalar.cmpi .slt c2_i32 c0_i32_287
  let v495 : BitVec 32 := Scalar.extui v494
  let v496 : BitVec 32 := Scalar.subi v493 v495
  let v497 : BitVec 1 := Scalar.cmpi .ne v491 v496
  let v498 : BitVec 32 := Scalar.remsi v485 c2_i32
  let c0_i32_288 : BitVec 32 := 0#32
  let v499 : BitVec 1 := Scalar.cmpi .ne v498 c0_i32_288
  let v500 : BitVec 1 := Scalar.andi v497 v499
  let v486 : BitVec 32 := Scalar.divsi v485 c2_i32
  let c1_i32_289 : BitVec 32 := 1#32
  let v501 : BitVec 32 := Scalar.subi v486 c1_i32_289
  let v502 : BitVec 32 := Scalar.select v500 v501 v486
  let v503 : BitVec 32 := Scalar.subi v502 c0_i32_291
  let c1_i32_292 : BitVec 32 := 1#32
  let v505 : BitVec 32 := Scalar.divsi v503 c1_i32_292
  let v506 : BitVec 32 := Scalar.muli v505 c1_i32_292
  let v507 : BitVec 32 := Scalar.addi c0_i32_291 v506
  let c1_i32_294 : BitVec 32 := 1#32
  let arg27 : BitVec 32 := Scf.iv v507 c1_i32_294 k0_t6
  let c2_i32_569 : BitVec 32 := 2#32
  let v876 : BitVec 32 := Scalar.muli arg27 c2_i32_569
  let v877 : BitVec 32 := Scalar.addi v484 v876
  let c512_i32_570 : BitVec 32 := 512#32
  let v878 : BitVec 32 := Scalar.muli v877 c512_i32_570
  v878
def k0_off11 (i : grid0.Coords) (k0_t6 : Fin (k0_t6_loop i).trips) : Fin 3 → Nat :=
  let c0_571 : Index := 0#32
  let c0_i32_271 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let v460 : BitVec 32 := Scalar.subi v21 v459
  let c0_i32_272 : BitVec 32 := 0#32
  let v462 : BitVec 1 := Scalar.cmpi .sgt v460 c0_i32_272
  let v463 : BitVec 32 := Scalar.extui v462
  let c0_i32_273 : BitVec 32 := 0#32
  let v464 : BitVec 1 := Scalar.cmpi .slt v460 c0_i32_273
  let v465 : BitVec 32 := Scalar.extui v464
  let v466 : BitVec 32 := Scalar.subi v463 v465
  let c4_i32 : BitVec 32 := 4#32
  let c0_i32_274 : BitVec 32 := 0#32
  let v467 : BitVec 1 := Scalar.cmpi .sgt c4_i32 c0_i32_274
  let v468 : BitVec 32 := Scalar.extui v467
  let c0_i32_275 : BitVec 32 := 0#32
  let v469 : BitVec 1 := Scalar.cmpi .slt c4_i32 c0_i32_275
  let v470 : BitVec 32 := Scalar.extui v469
  let v471 : BitVec 32 := Scalar.subi v468 v470
  let v472 : BitVec 1 := Scalar.cmpi .ne v466 v471
  let v473 : BitVec 32 := Scalar.remsi v460 c4_i32
  let c0_i32_276 : BitVec 32 := 0#32
  let v474 : BitVec 1 := Scalar.cmpi .ne v473 c0_i32_276
  let v475 : BitVec 1 := Scalar.andi v472 v474
  let v461 : BitVec 32 := Scalar.divsi v460 c4_i32
  let c1_i32_277 : BitVec 32 := 1#32
  let v476 : BitVec 32 := Scalar.subi v461 c1_i32_277
  let v477 : BitVec 32 := Scalar.select v475 v476 v461
  let c4_i32_283 : BitVec 32 := 4#32
  let v483 : BitVec 32 := Scalar.muli v477 c4_i32_283
  let v484 : BitVec 32 := Scalar.addi v459 v483
  let c0_i32_291 : BitVec 32 := 0#32
  let v485 : BitVec 32 := Scalar.subi v21 v484
  let c0_i32_284 : BitVec 32 := 0#32
  let v487 : BitVec 1 := Scalar.cmpi .sgt v485 c0_i32_284
  let v488 : BitVec 32 := Scalar.extui v487
  let c0_i32_285 : BitVec 32 := 0#32
  let v489 : BitVec 1 := Scalar.cmpi .slt v485 c0_i32_285
  let v490 : BitVec 32 := Scalar.extui v489
  let v491 : BitVec 32 := Scalar.subi v488 v490
  let c2_i32 : BitVec 32 := 2#32
  let c0_i32_286 : BitVec 32 := 0#32
  let v492 : BitVec 1 := Scalar.cmpi .sgt c2_i32 c0_i32_286
  let v493 : BitVec 32 := Scalar.extui v492
  let c0_i32_287 : BitVec 32 := 0#32
  let v494 : BitVec 1 := Scalar.cmpi .slt c2_i32 c0_i32_287
  let v495 : BitVec 32 := Scalar.extui v494
  let v496 : BitVec 32 := Scalar.subi v493 v495
  let v497 : BitVec 1 := Scalar.cmpi .ne v491 v496
  let v498 : BitVec 32 := Scalar.remsi v485 c2_i32
  let c0_i32_288 : BitVec 32 := 0#32
  let v499 : BitVec 1 := Scalar.cmpi .ne v498 c0_i32_288
  let v500 : BitVec 1 := Scalar.andi v497 v499
  let v486 : BitVec 32 := Scalar.divsi v485 c2_i32
  let c1_i32_289 : BitVec 32 := 1#32
  let v501 : BitVec 32 := Scalar.subi v486 c1_i32_289
  let v502 : BitVec 32 := Scalar.select v500 v501 v486
  let v503 : BitVec 32 := Scalar.subi v502 c0_i32_291
  let c1_i32_292 : BitVec 32 := 1#32
  let v505 : BitVec 32 := Scalar.divsi v503 c1_i32_292
  let v506 : BitVec 32 := Scalar.muli v505 c1_i32_292
  let v507 : BitVec 32 := Scalar.addi c0_i32_291 v506
  let c1_i32_294 : BitVec 32 := 1#32
  let arg27 : BitVec 32 := Scf.iv v507 c1_i32_294 k0_t6
  let c2_i32_569 : BitVec 32 := 2#32
  let v876 : BitVec 32 := Scalar.muli arg27 c2_i32_569
  let v877 : BitVec 32 := Scalar.addi v484 v876
  let c512_i32_570 : BitVec 32 := 512#32
  let v878 : BitVec 32 := Scalar.muli v877 c512_i32_570
  let v879 : BitVec 32 := v878
  let v880 : Index := Scalar.indexCast v879
  let c0_572 : Index := 0#32
  ![0, v880.toNat, 0]
def k0_off12 (i : grid0.Coords) (k0_t6 : Fin (k0_t6_loop i).trips) : Fin 2 → Nat :=
  let c0_i32_271 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let v460 : BitVec 32 := Scalar.subi v21 v459
  let c0_i32_272 : BitVec 32 := 0#32
  let v462 : BitVec 1 := Scalar.cmpi .sgt v460 c0_i32_272
  let v463 : BitVec 32 := Scalar.extui v462
  let c0_i32_273 : BitVec 32 := 0#32
  let v464 : BitVec 1 := Scalar.cmpi .slt v460 c0_i32_273
  let v465 : BitVec 32 := Scalar.extui v464
  let v466 : BitVec 32 := Scalar.subi v463 v465
  let c4_i32 : BitVec 32 := 4#32
  let c0_i32_274 : BitVec 32 := 0#32
  let v467 : BitVec 1 := Scalar.cmpi .sgt c4_i32 c0_i32_274
  let v468 : BitVec 32 := Scalar.extui v467
  let c0_i32_275 : BitVec 32 := 0#32
  let v469 : BitVec 1 := Scalar.cmpi .slt c4_i32 c0_i32_275
  let v470 : BitVec 32 := Scalar.extui v469
  let v471 : BitVec 32 := Scalar.subi v468 v470
  let v472 : BitVec 1 := Scalar.cmpi .ne v466 v471
  let v473 : BitVec 32 := Scalar.remsi v460 c4_i32
  let c0_i32_276 : BitVec 32 := 0#32
  let v474 : BitVec 1 := Scalar.cmpi .ne v473 c0_i32_276
  let v475 : BitVec 1 := Scalar.andi v472 v474
  let v461 : BitVec 32 := Scalar.divsi v460 c4_i32
  let c1_i32_277 : BitVec 32 := 1#32
  let v476 : BitVec 32 := Scalar.subi v461 c1_i32_277
  let v477 : BitVec 32 := Scalar.select v475 v476 v461
  let c4_i32_283 : BitVec 32 := 4#32
  let v483 : BitVec 32 := Scalar.muli v477 c4_i32_283
  let v484 : BitVec 32 := Scalar.addi v459 v483
  let c0_i32_291 : BitVec 32 := 0#32
  let v485 : BitVec 32 := Scalar.subi v21 v484
  let c0_i32_284 : BitVec 32 := 0#32
  let v487 : BitVec 1 := Scalar.cmpi .sgt v485 c0_i32_284
  let v488 : BitVec 32 := Scalar.extui v487
  let c0_i32_285 : BitVec 32 := 0#32
  let v489 : BitVec 1 := Scalar.cmpi .slt v485 c0_i32_285
  let v490 : BitVec 32 := Scalar.extui v489
  let v491 : BitVec 32 := Scalar.subi v488 v490
  let c2_i32 : BitVec 32 := 2#32
  let c0_i32_286 : BitVec 32 := 0#32
  let v492 : BitVec 1 := Scalar.cmpi .sgt c2_i32 c0_i32_286
  let v493 : BitVec 32 := Scalar.extui v492
  let c0_i32_287 : BitVec 32 := 0#32
  let v494 : BitVec 1 := Scalar.cmpi .slt c2_i32 c0_i32_287
  let v495 : BitVec 32 := Scalar.extui v494
  let v496 : BitVec 32 := Scalar.subi v493 v495
  let v497 : BitVec 1 := Scalar.cmpi .ne v491 v496
  let v498 : BitVec 32 := Scalar.remsi v485 c2_i32
  let c0_i32_288 : BitVec 32 := 0#32
  let v499 : BitVec 1 := Scalar.cmpi .ne v498 c0_i32_288
  let v500 : BitVec 1 := Scalar.andi v497 v499
  let v486 : BitVec 32 := Scalar.divsi v485 c2_i32
  let c1_i32_289 : BitVec 32 := 1#32
  let v501 : BitVec 32 := Scalar.subi v486 c1_i32_289
  let v502 : BitVec 32 := Scalar.select v500 v501 v486
  let v503 : BitVec 32 := Scalar.subi v502 c0_i32_291
  let c1_i32_292 : BitVec 32 := 1#32
  let v505 : BitVec 32 := Scalar.divsi v503 c1_i32_292
  let v506 : BitVec 32 := Scalar.muli v505 c1_i32_292
  let v507 : BitVec 32 := Scalar.addi c0_i32_291 v506
  let c1_i32_294 : BitVec 32 := 1#32
  let arg27 : BitVec 32 := Scf.iv v507 c1_i32_294 k0_t6
  let c2_i32_569 : BitVec 32 := 2#32
  let v876 : BitVec 32 := Scalar.muli arg27 c2_i32_569
  let v877 : BitVec 32 := Scalar.addi v484 v876
  let c512_i32_570 : BitVec 32 := 512#32
  let v878 : BitVec 32 := Scalar.muli v877 c512_i32_570
  let v879 : BitVec 32 := v878
  let v965 : Index := Scalar.indexCast v879
  let c0_599 : Index := 0#32
  ![v965.toNat, 0]
@[reducible] def k0_t7_loop (i : grid0.Coords) : Scf.Loop 32 :=
  let c0_i32_304 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_271 : BitVec 32 := 0#32
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let v460 : BitVec 32 := Scalar.subi v21 v459
  let c0_i32_272 : BitVec 32 := 0#32
  let v462 : BitVec 1 := Scalar.cmpi .sgt v460 c0_i32_272
  let v463 : BitVec 32 := Scalar.extui v462
  let c0_i32_273 : BitVec 32 := 0#32
  let v464 : BitVec 1 := Scalar.cmpi .slt v460 c0_i32_273
  let v465 : BitVec 32 := Scalar.extui v464
  let v466 : BitVec 32 := Scalar.subi v463 v465
  let c4_i32 : BitVec 32 := 4#32
  let c0_i32_274 : BitVec 32 := 0#32
  let v467 : BitVec 1 := Scalar.cmpi .sgt c4_i32 c0_i32_274
  let v468 : BitVec 32 := Scalar.extui v467
  let c0_i32_275 : BitVec 32 := 0#32
  let v469 : BitVec 1 := Scalar.cmpi .slt c4_i32 c0_i32_275
  let v470 : BitVec 32 := Scalar.extui v469
  let v471 : BitVec 32 := Scalar.subi v468 v470
  let v472 : BitVec 1 := Scalar.cmpi .ne v466 v471
  let v473 : BitVec 32 := Scalar.remsi v460 c4_i32
  let c0_i32_276 : BitVec 32 := 0#32
  let v474 : BitVec 1 := Scalar.cmpi .ne v473 c0_i32_276
  let v475 : BitVec 1 := Scalar.andi v472 v474
  let v461 : BitVec 32 := Scalar.divsi v460 c4_i32
  let c1_i32_277 : BitVec 32 := 1#32
  let v476 : BitVec 32 := Scalar.subi v461 c1_i32_277
  let v477 : BitVec 32 := Scalar.select v475 v476 v461
  let c4_i32_283 : BitVec 32 := 4#32
  let v483 : BitVec 32 := Scalar.muli v477 c4_i32_283
  let v484 : BitVec 32 := Scalar.addi v459 v483
  let v485 : BitVec 32 := Scalar.subi v21 v484
  let c0_i32_284 : BitVec 32 := 0#32
  let v487 : BitVec 1 := Scalar.cmpi .sgt v485 c0_i32_284
  let v488 : BitVec 32 := Scalar.extui v487
  let c0_i32_285 : BitVec 32 := 0#32
  let v489 : BitVec 1 := Scalar.cmpi .slt v485 c0_i32_285
  let v490 : BitVec 32 := Scalar.extui v489
  let v491 : BitVec 32 := Scalar.subi v488 v490
  let c2_i32 : BitVec 32 := 2#32
  let c0_i32_286 : BitVec 32 := 0#32
  let v492 : BitVec 1 := Scalar.cmpi .sgt c2_i32 c0_i32_286
  let v493 : BitVec 32 := Scalar.extui v492
  let c0_i32_287 : BitVec 32 := 0#32
  let v494 : BitVec 1 := Scalar.cmpi .slt c2_i32 c0_i32_287
  let v495 : BitVec 32 := Scalar.extui v494
  let v496 : BitVec 32 := Scalar.subi v493 v495
  let v497 : BitVec 1 := Scalar.cmpi .ne v491 v496
  let v498 : BitVec 32 := Scalar.remsi v485 c2_i32
  let c0_i32_288 : BitVec 32 := 0#32
  let v499 : BitVec 1 := Scalar.cmpi .ne v498 c0_i32_288
  let v500 : BitVec 1 := Scalar.andi v497 v499
  let v486 : BitVec 32 := Scalar.divsi v485 c2_i32
  let c1_i32_289 : BitVec 32 := 1#32
  let v501 : BitVec 32 := Scalar.subi v486 c1_i32_289
  let v502 : BitVec 32 := Scalar.select v500 v501 v486
  let c2_i32_295 : BitVec 32 := 2#32
  let v508 : BitVec 32 := Scalar.muli v502 c2_i32_295
  let v509 : BitVec 32 := Scalar.addi v484 v508
  let v510 : BitVec 32 := Scalar.subi v21 v509
  let c0_i32_297 : BitVec 32 := 0#32
  let v512 : BitVec 1 := Scalar.cmpi .sgt v510 c0_i32_297
  let v513 : BitVec 32 := Scalar.extui v512
  let c0_i32_298 : BitVec 32 := 0#32
  let v514 : BitVec 1 := Scalar.cmpi .slt v510 c0_i32_298
  let v515 : BitVec 32 := Scalar.extui v514
  let v516 : BitVec 32 := Scalar.subi v513 v515
  let c1_i32_296 : BitVec 32 := 1#32
  let c0_i32_299 : BitVec 32 := 0#32
  let v517 : BitVec 1 := Scalar.cmpi .sgt c1_i32_296 c0_i32_299
  let v518 : BitVec 32 := Scalar.extui v517
  let c0_i32_300 : BitVec 32 := 0#32
  let v519 : BitVec 1 := Scalar.cmpi .slt c1_i32_296 c0_i32_300
  let v520 : BitVec 32 := Scalar.extui v519
  let v521 : BitVec 32 := Scalar.subi v518 v520
  let v522 : BitVec 1 := Scalar.cmpi .ne v516 v521
  let v523 : BitVec 32 := Scalar.remsi v510 c1_i32_296
  let c0_i32_301 : BitVec 32 := 0#32
  let v524 : BitVec 1 := Scalar.cmpi .ne v523 c0_i32_301
  let v525 : BitVec 1 := Scalar.andi v522 v524
  let v511 : BitVec 32 := Scalar.divsi v510 c1_i32_296
  let c1_i32_302 : BitVec 32 := 1#32
  let v526 : BitVec 32 := Scalar.subi v511 c1_i32_302
  let v527 : BitVec 32 := Scalar.select v525 v526 v511
  let v528 : BitVec 32 := Scalar.subi v527 c0_i32_304
  let c1_i32_305 : BitVec 32 := 1#32
  let v530 : BitVec 32 := Scalar.divsi v528 c1_i32_305
  let v531 : BitVec 32 := Scalar.muli v530 c1_i32_305
  let v532 : BitVec 32 := Scalar.addi c0_i32_304 v531
  let c1_i32_306 : BitVec 32 := 1#32
  ⟨c0_i32_304, v532, c1_i32_306⟩
def k0_mult7 (i : grid0.Coords) (k0_t7 : Fin (k0_t7_loop i).trips) : BitVec 32 :=
  let c0_i32_271 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let v460 : BitVec 32 := Scalar.subi v21 v459
  let c0_i32_272 : BitVec 32 := 0#32
  let v462 : BitVec 1 := Scalar.cmpi .sgt v460 c0_i32_272
  let v463 : BitVec 32 := Scalar.extui v462
  let c0_i32_273 : BitVec 32 := 0#32
  let v464 : BitVec 1 := Scalar.cmpi .slt v460 c0_i32_273
  let v465 : BitVec 32 := Scalar.extui v464
  let v466 : BitVec 32 := Scalar.subi v463 v465
  let c4_i32 : BitVec 32 := 4#32
  let c0_i32_274 : BitVec 32 := 0#32
  let v467 : BitVec 1 := Scalar.cmpi .sgt c4_i32 c0_i32_274
  let v468 : BitVec 32 := Scalar.extui v467
  let c0_i32_275 : BitVec 32 := 0#32
  let v469 : BitVec 1 := Scalar.cmpi .slt c4_i32 c0_i32_275
  let v470 : BitVec 32 := Scalar.extui v469
  let v471 : BitVec 32 := Scalar.subi v468 v470
  let v472 : BitVec 1 := Scalar.cmpi .ne v466 v471
  let v473 : BitVec 32 := Scalar.remsi v460 c4_i32
  let c0_i32_276 : BitVec 32 := 0#32
  let v474 : BitVec 1 := Scalar.cmpi .ne v473 c0_i32_276
  let v475 : BitVec 1 := Scalar.andi v472 v474
  let v461 : BitVec 32 := Scalar.divsi v460 c4_i32
  let c1_i32_277 : BitVec 32 := 1#32
  let v476 : BitVec 32 := Scalar.subi v461 c1_i32_277
  let v477 : BitVec 32 := Scalar.select v475 v476 v461
  let c4_i32_283 : BitVec 32 := 4#32
  let v483 : BitVec 32 := Scalar.muli v477 c4_i32_283
  let v484 : BitVec 32 := Scalar.addi v459 v483
  let v485 : BitVec 32 := Scalar.subi v21 v484
  let c0_i32_284 : BitVec 32 := 0#32
  let v487 : BitVec 1 := Scalar.cmpi .sgt v485 c0_i32_284
  let v488 : BitVec 32 := Scalar.extui v487
  let c0_i32_285 : BitVec 32 := 0#32
  let v489 : BitVec 1 := Scalar.cmpi .slt v485 c0_i32_285
  let v490 : BitVec 32 := Scalar.extui v489
  let v491 : BitVec 32 := Scalar.subi v488 v490
  let c2_i32 : BitVec 32 := 2#32
  let c0_i32_286 : BitVec 32 := 0#32
  let v492 : BitVec 1 := Scalar.cmpi .sgt c2_i32 c0_i32_286
  let v493 : BitVec 32 := Scalar.extui v492
  let c0_i32_287 : BitVec 32 := 0#32
  let v494 : BitVec 1 := Scalar.cmpi .slt c2_i32 c0_i32_287
  let v495 : BitVec 32 := Scalar.extui v494
  let v496 : BitVec 32 := Scalar.subi v493 v495
  let v497 : BitVec 1 := Scalar.cmpi .ne v491 v496
  let v498 : BitVec 32 := Scalar.remsi v485 c2_i32
  let c0_i32_288 : BitVec 32 := 0#32
  let v499 : BitVec 1 := Scalar.cmpi .ne v498 c0_i32_288
  let v500 : BitVec 1 := Scalar.andi v497 v499
  let v486 : BitVec 32 := Scalar.divsi v485 c2_i32
  let c1_i32_289 : BitVec 32 := 1#32
  let v501 : BitVec 32 := Scalar.subi v486 c1_i32_289
  let v502 : BitVec 32 := Scalar.select v500 v501 v486
  let c2_i32_295 : BitVec 32 := 2#32
  let v508 : BitVec 32 := Scalar.muli v502 c2_i32_295
  let v509 : BitVec 32 := Scalar.addi v484 v508
  let c0_i32_304 : BitVec 32 := 0#32
  let c1_i32_306 : BitVec 32 := 1#32
  let arg27 : BitVec 32 := Scf.iv c0_i32_304 c1_i32_306 k0_t7
  let c1_i32_569 : BitVec 32 := 1#32
  let v876 : BitVec 32 := Scalar.muli arg27 c1_i32_569
  let v877 : BitVec 32 := Scalar.addi v509 v876
  let c512_i32_570 : BitVec 32 := 512#32
  let v878 : BitVec 32 := Scalar.muli v877 c512_i32_570
  v878
def k0_off13 (i : grid0.Coords) (k0_t7 : Fin (k0_t7_loop i).trips) : Fin 3 → Nat :=
  let c0_571 : Index := 0#32
  let c0_i32_271 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let v460 : BitVec 32 := Scalar.subi v21 v459
  let c0_i32_272 : BitVec 32 := 0#32
  let v462 : BitVec 1 := Scalar.cmpi .sgt v460 c0_i32_272
  let v463 : BitVec 32 := Scalar.extui v462
  let c0_i32_273 : BitVec 32 := 0#32
  let v464 : BitVec 1 := Scalar.cmpi .slt v460 c0_i32_273
  let v465 : BitVec 32 := Scalar.extui v464
  let v466 : BitVec 32 := Scalar.subi v463 v465
  let c4_i32 : BitVec 32 := 4#32
  let c0_i32_274 : BitVec 32 := 0#32
  let v467 : BitVec 1 := Scalar.cmpi .sgt c4_i32 c0_i32_274
  let v468 : BitVec 32 := Scalar.extui v467
  let c0_i32_275 : BitVec 32 := 0#32
  let v469 : BitVec 1 := Scalar.cmpi .slt c4_i32 c0_i32_275
  let v470 : BitVec 32 := Scalar.extui v469
  let v471 : BitVec 32 := Scalar.subi v468 v470
  let v472 : BitVec 1 := Scalar.cmpi .ne v466 v471
  let v473 : BitVec 32 := Scalar.remsi v460 c4_i32
  let c0_i32_276 : BitVec 32 := 0#32
  let v474 : BitVec 1 := Scalar.cmpi .ne v473 c0_i32_276
  let v475 : BitVec 1 := Scalar.andi v472 v474
  let v461 : BitVec 32 := Scalar.divsi v460 c4_i32
  let c1_i32_277 : BitVec 32 := 1#32
  let v476 : BitVec 32 := Scalar.subi v461 c1_i32_277
  let v477 : BitVec 32 := Scalar.select v475 v476 v461
  let c4_i32_283 : BitVec 32 := 4#32
  let v483 : BitVec 32 := Scalar.muli v477 c4_i32_283
  let v484 : BitVec 32 := Scalar.addi v459 v483
  let v485 : BitVec 32 := Scalar.subi v21 v484
  let c0_i32_284 : BitVec 32 := 0#32
  let v487 : BitVec 1 := Scalar.cmpi .sgt v485 c0_i32_284
  let v488 : BitVec 32 := Scalar.extui v487
  let c0_i32_285 : BitVec 32 := 0#32
  let v489 : BitVec 1 := Scalar.cmpi .slt v485 c0_i32_285
  let v490 : BitVec 32 := Scalar.extui v489
  let v491 : BitVec 32 := Scalar.subi v488 v490
  let c2_i32 : BitVec 32 := 2#32
  let c0_i32_286 : BitVec 32 := 0#32
  let v492 : BitVec 1 := Scalar.cmpi .sgt c2_i32 c0_i32_286
  let v493 : BitVec 32 := Scalar.extui v492
  let c0_i32_287 : BitVec 32 := 0#32
  let v494 : BitVec 1 := Scalar.cmpi .slt c2_i32 c0_i32_287
  let v495 : BitVec 32 := Scalar.extui v494
  let v496 : BitVec 32 := Scalar.subi v493 v495
  let v497 : BitVec 1 := Scalar.cmpi .ne v491 v496
  let v498 : BitVec 32 := Scalar.remsi v485 c2_i32
  let c0_i32_288 : BitVec 32 := 0#32
  let v499 : BitVec 1 := Scalar.cmpi .ne v498 c0_i32_288
  let v500 : BitVec 1 := Scalar.andi v497 v499
  let v486 : BitVec 32 := Scalar.divsi v485 c2_i32
  let c1_i32_289 : BitVec 32 := 1#32
  let v501 : BitVec 32 := Scalar.subi v486 c1_i32_289
  let v502 : BitVec 32 := Scalar.select v500 v501 v486
  let c2_i32_295 : BitVec 32 := 2#32
  let v508 : BitVec 32 := Scalar.muli v502 c2_i32_295
  let v509 : BitVec 32 := Scalar.addi v484 v508
  let c0_i32_304 : BitVec 32 := 0#32
  let c1_i32_306 : BitVec 32 := 1#32
  let arg27 : BitVec 32 := Scf.iv c0_i32_304 c1_i32_306 k0_t7
  let c1_i32_569 : BitVec 32 := 1#32
  let v876 : BitVec 32 := Scalar.muli arg27 c1_i32_569
  let v877 : BitVec 32 := Scalar.addi v509 v876
  let c512_i32_570 : BitVec 32 := 512#32
  let v878 : BitVec 32 := Scalar.muli v877 c512_i32_570
  let v879 : BitVec 32 := v878
  let v880 : Index := Scalar.indexCast v879
  let c0_572 : Index := 0#32
  ![0, v880.toNat, 0]
def k0_off14 (i : grid0.Coords) (k0_t7 : Fin (k0_t7_loop i).trips) : Fin 2 → Nat :=
  let c0_i32_271 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let v460 : BitVec 32 := Scalar.subi v21 v459
  let c0_i32_272 : BitVec 32 := 0#32
  let v462 : BitVec 1 := Scalar.cmpi .sgt v460 c0_i32_272
  let v463 : BitVec 32 := Scalar.extui v462
  let c0_i32_273 : BitVec 32 := 0#32
  let v464 : BitVec 1 := Scalar.cmpi .slt v460 c0_i32_273
  let v465 : BitVec 32 := Scalar.extui v464
  let v466 : BitVec 32 := Scalar.subi v463 v465
  let c4_i32 : BitVec 32 := 4#32
  let c0_i32_274 : BitVec 32 := 0#32
  let v467 : BitVec 1 := Scalar.cmpi .sgt c4_i32 c0_i32_274
  let v468 : BitVec 32 := Scalar.extui v467
  let c0_i32_275 : BitVec 32 := 0#32
  let v469 : BitVec 1 := Scalar.cmpi .slt c4_i32 c0_i32_275
  let v470 : BitVec 32 := Scalar.extui v469
  let v471 : BitVec 32 := Scalar.subi v468 v470
  let v472 : BitVec 1 := Scalar.cmpi .ne v466 v471
  let v473 : BitVec 32 := Scalar.remsi v460 c4_i32
  let c0_i32_276 : BitVec 32 := 0#32
  let v474 : BitVec 1 := Scalar.cmpi .ne v473 c0_i32_276
  let v475 : BitVec 1 := Scalar.andi v472 v474
  let v461 : BitVec 32 := Scalar.divsi v460 c4_i32
  let c1_i32_277 : BitVec 32 := 1#32
  let v476 : BitVec 32 := Scalar.subi v461 c1_i32_277
  let v477 : BitVec 32 := Scalar.select v475 v476 v461
  let c4_i32_283 : BitVec 32 := 4#32
  let v483 : BitVec 32 := Scalar.muli v477 c4_i32_283
  let v484 : BitVec 32 := Scalar.addi v459 v483
  let v485 : BitVec 32 := Scalar.subi v21 v484
  let c0_i32_284 : BitVec 32 := 0#32
  let v487 : BitVec 1 := Scalar.cmpi .sgt v485 c0_i32_284
  let v488 : BitVec 32 := Scalar.extui v487
  let c0_i32_285 : BitVec 32 := 0#32
  let v489 : BitVec 1 := Scalar.cmpi .slt v485 c0_i32_285
  let v490 : BitVec 32 := Scalar.extui v489
  let v491 : BitVec 32 := Scalar.subi v488 v490
  let c2_i32 : BitVec 32 := 2#32
  let c0_i32_286 : BitVec 32 := 0#32
  let v492 : BitVec 1 := Scalar.cmpi .sgt c2_i32 c0_i32_286
  let v493 : BitVec 32 := Scalar.extui v492
  let c0_i32_287 : BitVec 32 := 0#32
  let v494 : BitVec 1 := Scalar.cmpi .slt c2_i32 c0_i32_287
  let v495 : BitVec 32 := Scalar.extui v494
  let v496 : BitVec 32 := Scalar.subi v493 v495
  let v497 : BitVec 1 := Scalar.cmpi .ne v491 v496
  let v498 : BitVec 32 := Scalar.remsi v485 c2_i32
  let c0_i32_288 : BitVec 32 := 0#32
  let v499 : BitVec 1 := Scalar.cmpi .ne v498 c0_i32_288
  let v500 : BitVec 1 := Scalar.andi v497 v499
  let v486 : BitVec 32 := Scalar.divsi v485 c2_i32
  let c1_i32_289 : BitVec 32 := 1#32
  let v501 : BitVec 32 := Scalar.subi v486 c1_i32_289
  let v502 : BitVec 32 := Scalar.select v500 v501 v486
  let c2_i32_295 : BitVec 32 := 2#32
  let v508 : BitVec 32 := Scalar.muli v502 c2_i32_295
  let v509 : BitVec 32 := Scalar.addi v484 v508
  let c0_i32_304 : BitVec 32 := 0#32
  let c1_i32_306 : BitVec 32 := 1#32
  let arg27 : BitVec 32 := Scf.iv c0_i32_304 c1_i32_306 k0_t7
  let c1_i32_569 : BitVec 32 := 1#32
  let v876 : BitVec 32 := Scalar.muli arg27 c1_i32_569
  let v877 : BitVec 32 := Scalar.addi v509 v876
  let c512_i32_570 : BitVec 32 := 512#32
  let v878 : BitVec 32 := Scalar.muli v877 c512_i32_570
  let v879 : BitVec 32 := v878
  let v965 : Index := Scalar.indexCast v879
  let c0_599 : Index := 0#32
  ![v965.toNat, 0]
@[reducible] def k0_t8_loop (i : grid0.Coords) : Scf.Loop 32 :=
  let c0_i32_304 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_271 : BitVec 32 := 0#32
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let v460 : BitVec 32 := Scalar.subi v21 v459
  let c0_i32_272 : BitVec 32 := 0#32
  let v462 : BitVec 1 := Scalar.cmpi .sgt v460 c0_i32_272
  let v463 : BitVec 32 := Scalar.extui v462
  let c0_i32_273 : BitVec 32 := 0#32
  let v464 : BitVec 1 := Scalar.cmpi .slt v460 c0_i32_273
  let v465 : BitVec 32 := Scalar.extui v464
  let v466 : BitVec 32 := Scalar.subi v463 v465
  let c4_i32 : BitVec 32 := 4#32
  let c0_i32_274 : BitVec 32 := 0#32
  let v467 : BitVec 1 := Scalar.cmpi .sgt c4_i32 c0_i32_274
  let v468 : BitVec 32 := Scalar.extui v467
  let c0_i32_275 : BitVec 32 := 0#32
  let v469 : BitVec 1 := Scalar.cmpi .slt c4_i32 c0_i32_275
  let v470 : BitVec 32 := Scalar.extui v469
  let v471 : BitVec 32 := Scalar.subi v468 v470
  let v472 : BitVec 1 := Scalar.cmpi .ne v466 v471
  let v473 : BitVec 32 := Scalar.remsi v460 c4_i32
  let c0_i32_276 : BitVec 32 := 0#32
  let v474 : BitVec 1 := Scalar.cmpi .ne v473 c0_i32_276
  let v475 : BitVec 1 := Scalar.andi v472 v474
  let v461 : BitVec 32 := Scalar.divsi v460 c4_i32
  let c1_i32_277 : BitVec 32 := 1#32
  let v476 : BitVec 32 := Scalar.subi v461 c1_i32_277
  let v477 : BitVec 32 := Scalar.select v475 v476 v461
  let c4_i32_283 : BitVec 32 := 4#32
  let v483 : BitVec 32 := Scalar.muli v477 c4_i32_283
  let v484 : BitVec 32 := Scalar.addi v459 v483
  let v485 : BitVec 32 := Scalar.subi v21 v484
  let c0_i32_284 : BitVec 32 := 0#32
  let v487 : BitVec 1 := Scalar.cmpi .sgt v485 c0_i32_284
  let v488 : BitVec 32 := Scalar.extui v487
  let c0_i32_285 : BitVec 32 := 0#32
  let v489 : BitVec 1 := Scalar.cmpi .slt v485 c0_i32_285
  let v490 : BitVec 32 := Scalar.extui v489
  let v491 : BitVec 32 := Scalar.subi v488 v490
  let c2_i32 : BitVec 32 := 2#32
  let c0_i32_286 : BitVec 32 := 0#32
  let v492 : BitVec 1 := Scalar.cmpi .sgt c2_i32 c0_i32_286
  let v493 : BitVec 32 := Scalar.extui v492
  let c0_i32_287 : BitVec 32 := 0#32
  let v494 : BitVec 1 := Scalar.cmpi .slt c2_i32 c0_i32_287
  let v495 : BitVec 32 := Scalar.extui v494
  let v496 : BitVec 32 := Scalar.subi v493 v495
  let v497 : BitVec 1 := Scalar.cmpi .ne v491 v496
  let v498 : BitVec 32 := Scalar.remsi v485 c2_i32
  let c0_i32_288 : BitVec 32 := 0#32
  let v499 : BitVec 1 := Scalar.cmpi .ne v498 c0_i32_288
  let v500 : BitVec 1 := Scalar.andi v497 v499
  let v486 : BitVec 32 := Scalar.divsi v485 c2_i32
  let c1_i32_289 : BitVec 32 := 1#32
  let v501 : BitVec 32 := Scalar.subi v486 c1_i32_289
  let v502 : BitVec 32 := Scalar.select v500 v501 v486
  let c2_i32_295 : BitVec 32 := 2#32
  let v508 : BitVec 32 := Scalar.muli v502 c2_i32_295
  let v509 : BitVec 32 := Scalar.addi v484 v508
  let v510 : BitVec 32 := Scalar.subi v21 v509
  let c0_i32_297 : BitVec 32 := 0#32
  let v512 : BitVec 1 := Scalar.cmpi .sgt v510 c0_i32_297
  let v513 : BitVec 32 := Scalar.extui v512
  let c0_i32_298 : BitVec 32 := 0#32
  let v514 : BitVec 1 := Scalar.cmpi .slt v510 c0_i32_298
  let v515 : BitVec 32 := Scalar.extui v514
  let v516 : BitVec 32 := Scalar.subi v513 v515
  let c1_i32_296 : BitVec 32 := 1#32
  let c0_i32_299 : BitVec 32 := 0#32
  let v517 : BitVec 1 := Scalar.cmpi .sgt c1_i32_296 c0_i32_299
  let v518 : BitVec 32 := Scalar.extui v517
  let c0_i32_300 : BitVec 32 := 0#32
  let v519 : BitVec 1 := Scalar.cmpi .slt c1_i32_296 c0_i32_300
  let v520 : BitVec 32 := Scalar.extui v519
  let v521 : BitVec 32 := Scalar.subi v518 v520
  let v522 : BitVec 1 := Scalar.cmpi .ne v516 v521
  let v523 : BitVec 32 := Scalar.remsi v510 c1_i32_296
  let c0_i32_301 : BitVec 32 := 0#32
  let v524 : BitVec 1 := Scalar.cmpi .ne v523 c0_i32_301
  let v525 : BitVec 1 := Scalar.andi v522 v524
  let v511 : BitVec 32 := Scalar.divsi v510 c1_i32_296
  let c1_i32_302 : BitVec 32 := 1#32
  let v526 : BitVec 32 := Scalar.subi v511 c1_i32_302
  let v527 : BitVec 32 := Scalar.select v525 v526 v511
  let v528 : BitVec 32 := Scalar.subi v527 c0_i32_304
  let c1_i32_305 : BitVec 32 := 1#32
  let v530 : BitVec 32 := Scalar.divsi v528 c1_i32_305
  let v531 : BitVec 32 := Scalar.muli v530 c1_i32_305
  let v532 : BitVec 32 := Scalar.addi c0_i32_304 v531
  let v529 : BitVec 32 := Scalar.addi c0_i32_304 v528
  let c1_i32_307 : BitVec 32 := 1#32
  ⟨v532, v529, c1_i32_307⟩
def k0_mult8 (i : grid0.Coords) (k0_t8 : Fin (k0_t8_loop i).trips) : BitVec 32 :=
  let c0_i32_271 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let v460 : BitVec 32 := Scalar.subi v21 v459
  let c0_i32_272 : BitVec 32 := 0#32
  let v462 : BitVec 1 := Scalar.cmpi .sgt v460 c0_i32_272
  let v463 : BitVec 32 := Scalar.extui v462
  let c0_i32_273 : BitVec 32 := 0#32
  let v464 : BitVec 1 := Scalar.cmpi .slt v460 c0_i32_273
  let v465 : BitVec 32 := Scalar.extui v464
  let v466 : BitVec 32 := Scalar.subi v463 v465
  let c4_i32 : BitVec 32 := 4#32
  let c0_i32_274 : BitVec 32 := 0#32
  let v467 : BitVec 1 := Scalar.cmpi .sgt c4_i32 c0_i32_274
  let v468 : BitVec 32 := Scalar.extui v467
  let c0_i32_275 : BitVec 32 := 0#32
  let v469 : BitVec 1 := Scalar.cmpi .slt c4_i32 c0_i32_275
  let v470 : BitVec 32 := Scalar.extui v469
  let v471 : BitVec 32 := Scalar.subi v468 v470
  let v472 : BitVec 1 := Scalar.cmpi .ne v466 v471
  let v473 : BitVec 32 := Scalar.remsi v460 c4_i32
  let c0_i32_276 : BitVec 32 := 0#32
  let v474 : BitVec 1 := Scalar.cmpi .ne v473 c0_i32_276
  let v475 : BitVec 1 := Scalar.andi v472 v474
  let v461 : BitVec 32 := Scalar.divsi v460 c4_i32
  let c1_i32_277 : BitVec 32 := 1#32
  let v476 : BitVec 32 := Scalar.subi v461 c1_i32_277
  let v477 : BitVec 32 := Scalar.select v475 v476 v461
  let c4_i32_283 : BitVec 32 := 4#32
  let v483 : BitVec 32 := Scalar.muli v477 c4_i32_283
  let v484 : BitVec 32 := Scalar.addi v459 v483
  let v485 : BitVec 32 := Scalar.subi v21 v484
  let c0_i32_284 : BitVec 32 := 0#32
  let v487 : BitVec 1 := Scalar.cmpi .sgt v485 c0_i32_284
  let v488 : BitVec 32 := Scalar.extui v487
  let c0_i32_285 : BitVec 32 := 0#32
  let v489 : BitVec 1 := Scalar.cmpi .slt v485 c0_i32_285
  let v490 : BitVec 32 := Scalar.extui v489
  let v491 : BitVec 32 := Scalar.subi v488 v490
  let c2_i32 : BitVec 32 := 2#32
  let c0_i32_286 : BitVec 32 := 0#32
  let v492 : BitVec 1 := Scalar.cmpi .sgt c2_i32 c0_i32_286
  let v493 : BitVec 32 := Scalar.extui v492
  let c0_i32_287 : BitVec 32 := 0#32
  let v494 : BitVec 1 := Scalar.cmpi .slt c2_i32 c0_i32_287
  let v495 : BitVec 32 := Scalar.extui v494
  let v496 : BitVec 32 := Scalar.subi v493 v495
  let v497 : BitVec 1 := Scalar.cmpi .ne v491 v496
  let v498 : BitVec 32 := Scalar.remsi v485 c2_i32
  let c0_i32_288 : BitVec 32 := 0#32
  let v499 : BitVec 1 := Scalar.cmpi .ne v498 c0_i32_288
  let v500 : BitVec 1 := Scalar.andi v497 v499
  let v486 : BitVec 32 := Scalar.divsi v485 c2_i32
  let c1_i32_289 : BitVec 32 := 1#32
  let v501 : BitVec 32 := Scalar.subi v486 c1_i32_289
  let v502 : BitVec 32 := Scalar.select v500 v501 v486
  let c2_i32_295 : BitVec 32 := 2#32
  let v508 : BitVec 32 := Scalar.muli v502 c2_i32_295
  let v509 : BitVec 32 := Scalar.addi v484 v508
  let c0_i32_304 : BitVec 32 := 0#32
  let v510 : BitVec 32 := Scalar.subi v21 v509
  let c0_i32_297 : BitVec 32 := 0#32
  let v512 : BitVec 1 := Scalar.cmpi .sgt v510 c0_i32_297
  let v513 : BitVec 32 := Scalar.extui v512
  let c0_i32_298 : BitVec 32 := 0#32
  let v514 : BitVec 1 := Scalar.cmpi .slt v510 c0_i32_298
  let v515 : BitVec 32 := Scalar.extui v514
  let v516 : BitVec 32 := Scalar.subi v513 v515
  let c1_i32_296 : BitVec 32 := 1#32
  let c0_i32_299 : BitVec 32 := 0#32
  let v517 : BitVec 1 := Scalar.cmpi .sgt c1_i32_296 c0_i32_299
  let v518 : BitVec 32 := Scalar.extui v517
  let c0_i32_300 : BitVec 32 := 0#32
  let v519 : BitVec 1 := Scalar.cmpi .slt c1_i32_296 c0_i32_300
  let v520 : BitVec 32 := Scalar.extui v519
  let v521 : BitVec 32 := Scalar.subi v518 v520
  let v522 : BitVec 1 := Scalar.cmpi .ne v516 v521
  let v523 : BitVec 32 := Scalar.remsi v510 c1_i32_296
  let c0_i32_301 : BitVec 32 := 0#32
  let v524 : BitVec 1 := Scalar.cmpi .ne v523 c0_i32_301
  let v525 : BitVec 1 := Scalar.andi v522 v524
  let v511 : BitVec 32 := Scalar.divsi v510 c1_i32_296
  let c1_i32_302 : BitVec 32 := 1#32
  let v526 : BitVec 32 := Scalar.subi v511 c1_i32_302
  let v527 : BitVec 32 := Scalar.select v525 v526 v511
  let v528 : BitVec 32 := Scalar.subi v527 c0_i32_304
  let c1_i32_305 : BitVec 32 := 1#32
  let v530 : BitVec 32 := Scalar.divsi v528 c1_i32_305
  let v531 : BitVec 32 := Scalar.muli v530 c1_i32_305
  let v532 : BitVec 32 := Scalar.addi c0_i32_304 v531
  let c1_i32_307 : BitVec 32 := 1#32
  let arg27 : BitVec 32 := Scf.iv v532 c1_i32_307 k0_t8
  let c1_i32_569 : BitVec 32 := 1#32
  let v876 : BitVec 32 := Scalar.muli arg27 c1_i32_569
  let v877 : BitVec 32 := Scalar.addi v509 v876
  let c512_i32_570 : BitVec 32 := 512#32
  let v878 : BitVec 32 := Scalar.muli v877 c512_i32_570
  v878
def k0_off15 (i : grid0.Coords) (k0_t8 : Fin (k0_t8_loop i).trips) : Fin 3 → Nat :=
  let c0_571 : Index := 0#32
  let c0_i32_271 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let v460 : BitVec 32 := Scalar.subi v21 v459
  let c0_i32_272 : BitVec 32 := 0#32
  let v462 : BitVec 1 := Scalar.cmpi .sgt v460 c0_i32_272
  let v463 : BitVec 32 := Scalar.extui v462
  let c0_i32_273 : BitVec 32 := 0#32
  let v464 : BitVec 1 := Scalar.cmpi .slt v460 c0_i32_273
  let v465 : BitVec 32 := Scalar.extui v464
  let v466 : BitVec 32 := Scalar.subi v463 v465
  let c4_i32 : BitVec 32 := 4#32
  let c0_i32_274 : BitVec 32 := 0#32
  let v467 : BitVec 1 := Scalar.cmpi .sgt c4_i32 c0_i32_274
  let v468 : BitVec 32 := Scalar.extui v467
  let c0_i32_275 : BitVec 32 := 0#32
  let v469 : BitVec 1 := Scalar.cmpi .slt c4_i32 c0_i32_275
  let v470 : BitVec 32 := Scalar.extui v469
  let v471 : BitVec 32 := Scalar.subi v468 v470
  let v472 : BitVec 1 := Scalar.cmpi .ne v466 v471
  let v473 : BitVec 32 := Scalar.remsi v460 c4_i32
  let c0_i32_276 : BitVec 32 := 0#32
  let v474 : BitVec 1 := Scalar.cmpi .ne v473 c0_i32_276
  let v475 : BitVec 1 := Scalar.andi v472 v474
  let v461 : BitVec 32 := Scalar.divsi v460 c4_i32
  let c1_i32_277 : BitVec 32 := 1#32
  let v476 : BitVec 32 := Scalar.subi v461 c1_i32_277
  let v477 : BitVec 32 := Scalar.select v475 v476 v461
  let c4_i32_283 : BitVec 32 := 4#32
  let v483 : BitVec 32 := Scalar.muli v477 c4_i32_283
  let v484 : BitVec 32 := Scalar.addi v459 v483
  let v485 : BitVec 32 := Scalar.subi v21 v484
  let c0_i32_284 : BitVec 32 := 0#32
  let v487 : BitVec 1 := Scalar.cmpi .sgt v485 c0_i32_284
  let v488 : BitVec 32 := Scalar.extui v487
  let c0_i32_285 : BitVec 32 := 0#32
  let v489 : BitVec 1 := Scalar.cmpi .slt v485 c0_i32_285
  let v490 : BitVec 32 := Scalar.extui v489
  let v491 : BitVec 32 := Scalar.subi v488 v490
  let c2_i32 : BitVec 32 := 2#32
  let c0_i32_286 : BitVec 32 := 0#32
  let v492 : BitVec 1 := Scalar.cmpi .sgt c2_i32 c0_i32_286
  let v493 : BitVec 32 := Scalar.extui v492
  let c0_i32_287 : BitVec 32 := 0#32
  let v494 : BitVec 1 := Scalar.cmpi .slt c2_i32 c0_i32_287
  let v495 : BitVec 32 := Scalar.extui v494
  let v496 : BitVec 32 := Scalar.subi v493 v495
  let v497 : BitVec 1 := Scalar.cmpi .ne v491 v496
  let v498 : BitVec 32 := Scalar.remsi v485 c2_i32
  let c0_i32_288 : BitVec 32 := 0#32
  let v499 : BitVec 1 := Scalar.cmpi .ne v498 c0_i32_288
  let v500 : BitVec 1 := Scalar.andi v497 v499
  let v486 : BitVec 32 := Scalar.divsi v485 c2_i32
  let c1_i32_289 : BitVec 32 := 1#32
  let v501 : BitVec 32 := Scalar.subi v486 c1_i32_289
  let v502 : BitVec 32 := Scalar.select v500 v501 v486
  let c2_i32_295 : BitVec 32 := 2#32
  let v508 : BitVec 32 := Scalar.muli v502 c2_i32_295
  let v509 : BitVec 32 := Scalar.addi v484 v508
  let c0_i32_304 : BitVec 32 := 0#32
  let v510 : BitVec 32 := Scalar.subi v21 v509
  let c0_i32_297 : BitVec 32 := 0#32
  let v512 : BitVec 1 := Scalar.cmpi .sgt v510 c0_i32_297
  let v513 : BitVec 32 := Scalar.extui v512
  let c0_i32_298 : BitVec 32 := 0#32
  let v514 : BitVec 1 := Scalar.cmpi .slt v510 c0_i32_298
  let v515 : BitVec 32 := Scalar.extui v514
  let v516 : BitVec 32 := Scalar.subi v513 v515
  let c1_i32_296 : BitVec 32 := 1#32
  let c0_i32_299 : BitVec 32 := 0#32
  let v517 : BitVec 1 := Scalar.cmpi .sgt c1_i32_296 c0_i32_299
  let v518 : BitVec 32 := Scalar.extui v517
  let c0_i32_300 : BitVec 32 := 0#32
  let v519 : BitVec 1 := Scalar.cmpi .slt c1_i32_296 c0_i32_300
  let v520 : BitVec 32 := Scalar.extui v519
  let v521 : BitVec 32 := Scalar.subi v518 v520
  let v522 : BitVec 1 := Scalar.cmpi .ne v516 v521
  let v523 : BitVec 32 := Scalar.remsi v510 c1_i32_296
  let c0_i32_301 : BitVec 32 := 0#32
  let v524 : BitVec 1 := Scalar.cmpi .ne v523 c0_i32_301
  let v525 : BitVec 1 := Scalar.andi v522 v524
  let v511 : BitVec 32 := Scalar.divsi v510 c1_i32_296
  let c1_i32_302 : BitVec 32 := 1#32
  let v526 : BitVec 32 := Scalar.subi v511 c1_i32_302
  let v527 : BitVec 32 := Scalar.select v525 v526 v511
  let v528 : BitVec 32 := Scalar.subi v527 c0_i32_304
  let c1_i32_305 : BitVec 32 := 1#32
  let v530 : BitVec 32 := Scalar.divsi v528 c1_i32_305
  let v531 : BitVec 32 := Scalar.muli v530 c1_i32_305
  let v532 : BitVec 32 := Scalar.addi c0_i32_304 v531
  let c1_i32_307 : BitVec 32 := 1#32
  let arg27 : BitVec 32 := Scf.iv v532 c1_i32_307 k0_t8
  let c1_i32_569 : BitVec 32 := 1#32
  let v876 : BitVec 32 := Scalar.muli arg27 c1_i32_569
  let v877 : BitVec 32 := Scalar.addi v509 v876
  let c512_i32_570 : BitVec 32 := 512#32
  let v878 : BitVec 32 := Scalar.muli v877 c512_i32_570
  let v879 : BitVec 32 := v878
  let v880 : Index := Scalar.indexCast v879
  let c0_572 : Index := 0#32
  ![0, v880.toNat, 0]
def k0_off16 (i : grid0.Coords) (k0_t8 : Fin (k0_t8_loop i).trips) : Fin 2 → Nat :=
  let c0_i32_271 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let c0_i32_258 : BitVec 32 := 0#32
  let v435 : BitVec 32 := Scalar.subi v21 c0_i32_258
  let c0_i32_259 : BitVec 32 := 0#32
  let v437 : BitVec 1 := Scalar.cmpi .sgt v435 c0_i32_259
  let v438 : BitVec 32 := Scalar.extui v437
  let c0_i32_260 : BitVec 32 := 0#32
  let v439 : BitVec 1 := Scalar.cmpi .slt v435 c0_i32_260
  let v440 : BitVec 32 := Scalar.extui v439
  let v441 : BitVec 32 := Scalar.subi v438 v440
  let c8_i32 : BitVec 32 := 8#32
  let c0_i32_261 : BitVec 32 := 0#32
  let v442 : BitVec 1 := Scalar.cmpi .sgt c8_i32 c0_i32_261
  let v443 : BitVec 32 := Scalar.extui v442
  let c0_i32_262 : BitVec 32 := 0#32
  let v444 : BitVec 1 := Scalar.cmpi .slt c8_i32 c0_i32_262
  let v445 : BitVec 32 := Scalar.extui v444
  let v446 : BitVec 32 := Scalar.subi v443 v445
  let v447 : BitVec 1 := Scalar.cmpi .ne v441 v446
  let v448 : BitVec 32 := Scalar.remsi v435 c8_i32
  let c0_i32_263 : BitVec 32 := 0#32
  let v449 : BitVec 1 := Scalar.cmpi .ne v448 c0_i32_263
  let v450 : BitVec 1 := Scalar.andi v447 v449
  let v436 : BitVec 32 := Scalar.divsi v435 c8_i32
  let c1_i32_264 : BitVec 32 := 1#32
  let v451 : BitVec 32 := Scalar.subi v436 c1_i32_264
  let v452 : BitVec 32 := Scalar.select v450 v451 v436
  let c8_i32_270 : BitVec 32 := 8#32
  let v458 : BitVec 32 := Scalar.muli v452 c8_i32_270
  let v459 : BitVec 32 := Scalar.addi c0_i32_271 v458
  let v460 : BitVec 32 := Scalar.subi v21 v459
  let c0_i32_272 : BitVec 32 := 0#32
  let v462 : BitVec 1 := Scalar.cmpi .sgt v460 c0_i32_272
  let v463 : BitVec 32 := Scalar.extui v462
  let c0_i32_273 : BitVec 32 := 0#32
  let v464 : BitVec 1 := Scalar.cmpi .slt v460 c0_i32_273
  let v465 : BitVec 32 := Scalar.extui v464
  let v466 : BitVec 32 := Scalar.subi v463 v465
  let c4_i32 : BitVec 32 := 4#32
  let c0_i32_274 : BitVec 32 := 0#32
  let v467 : BitVec 1 := Scalar.cmpi .sgt c4_i32 c0_i32_274
  let v468 : BitVec 32 := Scalar.extui v467
  let c0_i32_275 : BitVec 32 := 0#32
  let v469 : BitVec 1 := Scalar.cmpi .slt c4_i32 c0_i32_275
  let v470 : BitVec 32 := Scalar.extui v469
  let v471 : BitVec 32 := Scalar.subi v468 v470
  let v472 : BitVec 1 := Scalar.cmpi .ne v466 v471
  let v473 : BitVec 32 := Scalar.remsi v460 c4_i32
  let c0_i32_276 : BitVec 32 := 0#32
  let v474 : BitVec 1 := Scalar.cmpi .ne v473 c0_i32_276
  let v475 : BitVec 1 := Scalar.andi v472 v474
  let v461 : BitVec 32 := Scalar.divsi v460 c4_i32
  let c1_i32_277 : BitVec 32 := 1#32
  let v476 : BitVec 32 := Scalar.subi v461 c1_i32_277
  let v477 : BitVec 32 := Scalar.select v475 v476 v461
  let c4_i32_283 : BitVec 32 := 4#32
  let v483 : BitVec 32 := Scalar.muli v477 c4_i32_283
  let v484 : BitVec 32 := Scalar.addi v459 v483
  let v485 : BitVec 32 := Scalar.subi v21 v484
  let c0_i32_284 : BitVec 32 := 0#32
  let v487 : BitVec 1 := Scalar.cmpi .sgt v485 c0_i32_284
  let v488 : BitVec 32 := Scalar.extui v487
  let c0_i32_285 : BitVec 32 := 0#32
  let v489 : BitVec 1 := Scalar.cmpi .slt v485 c0_i32_285
  let v490 : BitVec 32 := Scalar.extui v489
  let v491 : BitVec 32 := Scalar.subi v488 v490
  let c2_i32 : BitVec 32 := 2#32
  let c0_i32_286 : BitVec 32 := 0#32
  let v492 : BitVec 1 := Scalar.cmpi .sgt c2_i32 c0_i32_286
  let v493 : BitVec 32 := Scalar.extui v492
  let c0_i32_287 : BitVec 32 := 0#32
  let v494 : BitVec 1 := Scalar.cmpi .slt c2_i32 c0_i32_287
  let v495 : BitVec 32 := Scalar.extui v494
  let v496 : BitVec 32 := Scalar.subi v493 v495
  let v497 : BitVec 1 := Scalar.cmpi .ne v491 v496
  let v498 : BitVec 32 := Scalar.remsi v485 c2_i32
  let c0_i32_288 : BitVec 32 := 0#32
  let v499 : BitVec 1 := Scalar.cmpi .ne v498 c0_i32_288
  let v500 : BitVec 1 := Scalar.andi v497 v499
  let v486 : BitVec 32 := Scalar.divsi v485 c2_i32
  let c1_i32_289 : BitVec 32 := 1#32
  let v501 : BitVec 32 := Scalar.subi v486 c1_i32_289
  let v502 : BitVec 32 := Scalar.select v500 v501 v486
  let c2_i32_295 : BitVec 32 := 2#32
  let v508 : BitVec 32 := Scalar.muli v502 c2_i32_295
  let v509 : BitVec 32 := Scalar.addi v484 v508
  let c0_i32_304 : BitVec 32 := 0#32
  let v510 : BitVec 32 := Scalar.subi v21 v509
  let c0_i32_297 : BitVec 32 := 0#32
  let v512 : BitVec 1 := Scalar.cmpi .sgt v510 c0_i32_297
  let v513 : BitVec 32 := Scalar.extui v512
  let c0_i32_298 : BitVec 32 := 0#32
  let v514 : BitVec 1 := Scalar.cmpi .slt v510 c0_i32_298
  let v515 : BitVec 32 := Scalar.extui v514
  let v516 : BitVec 32 := Scalar.subi v513 v515
  let c1_i32_296 : BitVec 32 := 1#32
  let c0_i32_299 : BitVec 32 := 0#32
  let v517 : BitVec 1 := Scalar.cmpi .sgt c1_i32_296 c0_i32_299
  let v518 : BitVec 32 := Scalar.extui v517
  let c0_i32_300 : BitVec 32 := 0#32
  let v519 : BitVec 1 := Scalar.cmpi .slt c1_i32_296 c0_i32_300
  let v520 : BitVec 32 := Scalar.extui v519
  let v521 : BitVec 32 := Scalar.subi v518 v520
  let v522 : BitVec 1 := Scalar.cmpi .ne v516 v521
  let v523 : BitVec 32 := Scalar.remsi v510 c1_i32_296
  let c0_i32_301 : BitVec 32 := 0#32
  let v524 : BitVec 1 := Scalar.cmpi .ne v523 c0_i32_301
  let v525 : BitVec 1 := Scalar.andi v522 v524
  let v511 : BitVec 32 := Scalar.divsi v510 c1_i32_296
  let c1_i32_302 : BitVec 32 := 1#32
  let v526 : BitVec 32 := Scalar.subi v511 c1_i32_302
  let v527 : BitVec 32 := Scalar.select v525 v526 v511
  let v528 : BitVec 32 := Scalar.subi v527 c0_i32_304
  let c1_i32_305 : BitVec 32 := 1#32
  let v530 : BitVec 32 := Scalar.divsi v528 c1_i32_305
  let v531 : BitVec 32 := Scalar.muli v530 c1_i32_305
  let v532 : BitVec 32 := Scalar.addi c0_i32_304 v531
  let c1_i32_307 : BitVec 32 := 1#32
  let arg27 : BitVec 32 := Scf.iv v532 c1_i32_307 k0_t8
  let c1_i32_569 : BitVec 32 := 1#32
  let v876 : BitVec 32 := Scalar.muli arg27 c1_i32_569
  let v877 : BitVec 32 := Scalar.addi v509 v876
  let c512_i32_570 : BitVec 32 := 512#32
  let v878 : BitVec 32 := Scalar.muli v877 c512_i32_570
  let v879 : BitVec 32 := v878
  let v965 : Index := Scalar.indexCast v879
  let c0_599 : Index := 0#32
  ![v965.toNat, 0]
@[reducible] def k0_t9_loop (i : grid0.Coords) : Scf.Loop 32 :=
  let c0_i32_311 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v539 : BitVec 32 := Scalar.subi v21 c0_i32_311
  let c1_i32_312 : BitVec 32 := 1#32
  let v541 : BitVec 32 := Scalar.divsi v539 c1_i32_312
  let v542 : BitVec 32 := Scalar.muli v541 c1_i32_312
  let v543 : BitVec 32 := Scalar.addi c0_i32_311 v542
  let c1_i32_313 : BitVec 32 := 1#32
  ⟨c0_i32_311, v543, c1_i32_313⟩
def k0_mult9 (i : grid0.Coords) (k0_t9 : Fin (k0_t9_loop i).trips) : BitVec 32 :=
  let c0_i32_311 : BitVec 32 := 0#32
  let c1_i32_313 : BitVec 32 := 1#32
  let arg27 : BitVec 32 := Scf.iv c0_i32_311 c1_i32_313 k0_t9
  let c512_i32_569 : BitVec 32 := 512#32
  let v876 : BitVec 32 := Scalar.muli arg27 c512_i32_569
  v876
def k0_off17 (i : grid0.Coords) (k0_t9 : Fin (k0_t9_loop i).trips) : Fin 2 → Nat :=
  let c0_i32_311 : BitVec 32 := 0#32
  let c1_i32_313 : BitVec 32 := 1#32
  let arg27 : BitVec 32 := Scf.iv c0_i32_311 c1_i32_313 k0_t9
  let c512_i32_569 : BitVec 32 := 512#32
  let v876 : BitVec 32 := Scalar.muli arg27 c512_i32_569
  let v877 : BitVec 32 := v876
  let v878 : Index := Scalar.indexCast v877
  let c0_570 : Index := 0#32
  ![v878.toNat, 0]
@[reducible] def k0_t10_loop (i : grid0.Coords) : Scf.Loop 32 :=
  let c0_i32_311 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v539 : BitVec 32 := Scalar.subi v21 c0_i32_311
  let c1_i32_312 : BitVec 32 := 1#32
  let v541 : BitVec 32 := Scalar.divsi v539 c1_i32_312
  let v542 : BitVec 32 := Scalar.muli v541 c1_i32_312
  let v543 : BitVec 32 := Scalar.addi c0_i32_311 v542
  let v540 : BitVec 32 := Scalar.addi c0_i32_311 v539
  let c1_i32_314 : BitVec 32 := 1#32
  ⟨v543, v540, c1_i32_314⟩
def k0_mult10 (i : grid0.Coords) (k0_t10 : Fin (k0_t10_loop i).trips) : BitVec 32 :=
  let c0_i32_311 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v539 : BitVec 32 := Scalar.subi v21 c0_i32_311
  let c1_i32_312 : BitVec 32 := 1#32
  let v541 : BitVec 32 := Scalar.divsi v539 c1_i32_312
  let v542 : BitVec 32 := Scalar.muli v541 c1_i32_312
  let v543 : BitVec 32 := Scalar.addi c0_i32_311 v542
  let c1_i32_314 : BitVec 32 := 1#32
  let arg27 : BitVec 32 := Scf.iv v543 c1_i32_314 k0_t10
  let c512_i32_569 : BitVec 32 := 512#32
  let v876 : BitVec 32 := Scalar.muli arg27 c512_i32_569
  v876
def k0_off18 (i : grid0.Coords) (k0_t10 : Fin (k0_t10_loop i).trips) : Fin 2 → Nat :=
  let c0_i32_311 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v539 : BitVec 32 := Scalar.subi v21 c0_i32_311
  let c1_i32_312 : BitVec 32 := 1#32
  let v541 : BitVec 32 := Scalar.divsi v539 c1_i32_312
  let v542 : BitVec 32 := Scalar.muli v541 c1_i32_312
  let v543 : BitVec 32 := Scalar.addi c0_i32_311 v542
  let c1_i32_314 : BitVec 32 := 1#32
  let arg27 : BitVec 32 := Scf.iv v543 c1_i32_314 k0_t10
  let c512_i32_569 : BitVec 32 := 512#32
  let v876 : BitVec 32 := Scalar.muli arg27 c512_i32_569
  let v877 : BitVec 32 := v876
  let v878 : Index := Scalar.indexCast v877
  let c0_570 : Index := 0#32
  ![v878.toNat, 0]
@[reducible] def k0_t11_loop : Scf.Loop 32 :=
  let c0_i32_320 : BitVec 32 := 0#32
  let c19_i32 : BitVec 32 := 19#32
  let v559 : BitVec 32 := Scalar.addi c0_i32_320 c19_i32
  let c1_i32_321 : BitVec 32 := 1#32
  ⟨c0_i32_320, v559, c1_i32_321⟩
@[reducible] def k0_t12_loop (i : grid0.Coords) : Scf.Loop 32 :=
  let c0_i32_571 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v881 : BitVec 32 := Scalar.subi v21 c0_i32_571
  let c1_i32_572 : BitVec 32 := 1#32
  let v883 : BitVec 32 := Scalar.divsi v881 c1_i32_572
  let v884 : BitVec 32 := Scalar.muli v883 c1_i32_572
  let v885 : BitVec 32 := Scalar.addi c0_i32_571 v884
  let c1_i32_573 : BitVec 32 := 1#32
  ⟨c0_i32_571, v885, c1_i32_573⟩
def k0_mult11 (i : grid0.Coords) (k0_t12 : Fin (k0_t12_loop i).trips) : BitVec 32 :=
  let c0_i32_571 : BitVec 32 := 0#32
  let c1_i32_573 : BitVec 32 := 1#32
  let arg30 : BitVec 32 := Scf.iv c0_i32_571 c1_i32_573 k0_t12
  let c512_i32_577 : BitVec 32 := 512#32
  let v894 : BitVec 32 := Scalar.muli arg30 c512_i32_577
  v894
def k0_off19 (i : grid0.Coords) (k0_t12 : Fin (k0_t12_loop i).trips) : Fin 2 → Nat :=
  let c0_i32_571 : BitVec 32 := 0#32
  let c1_i32_573 : BitVec 32 := 1#32
  let arg30 : BitVec 32 := Scf.iv c0_i32_571 c1_i32_573 k0_t12
  let c512_i32_577 : BitVec 32 := 512#32
  let v894 : BitVec 32 := Scalar.muli arg30 c512_i32_577
  let v895 : BitVec 32 := v894
  let v896 : Index := Scalar.indexCast v895
  let c0_578 : Index := 0#32
  ![v896.toNat, 0]
@[reducible] def k0_t13_loop (i : grid0.Coords) : Scf.Loop 32 :=
  let c0_i32_571 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v881 : BitVec 32 := Scalar.subi v21 c0_i32_571
  let c1_i32_572 : BitVec 32 := 1#32
  let v883 : BitVec 32 := Scalar.divsi v881 c1_i32_572
  let v884 : BitVec 32 := Scalar.muli v883 c1_i32_572
  let v885 : BitVec 32 := Scalar.addi c0_i32_571 v884
  let v882 : BitVec 32 := Scalar.addi c0_i32_571 v881
  let c1_i32_574 : BitVec 32 := 1#32
  ⟨v885, v882, c1_i32_574⟩
def k0_mult12 (i : grid0.Coords) (k0_t13 : Fin (k0_t13_loop i).trips) : BitVec 32 :=
  let c0_i32_571 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v881 : BitVec 32 := Scalar.subi v21 c0_i32_571
  let c1_i32_572 : BitVec 32 := 1#32
  let v883 : BitVec 32 := Scalar.divsi v881 c1_i32_572
  let v884 : BitVec 32 := Scalar.muli v883 c1_i32_572
  let v885 : BitVec 32 := Scalar.addi c0_i32_571 v884
  let c1_i32_574 : BitVec 32 := 1#32
  let arg30 : BitVec 32 := Scf.iv v885 c1_i32_574 k0_t13
  let c512_i32_577 : BitVec 32 := 512#32
  let v894 : BitVec 32 := Scalar.muli arg30 c512_i32_577
  v894
def k0_off20 (i : grid0.Coords) (k0_t13 : Fin (k0_t13_loop i).trips) : Fin 2 → Nat :=
  let c0_i32_571 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v881 : BitVec 32 := Scalar.subi v21 c0_i32_571
  let c1_i32_572 : BitVec 32 := 1#32
  let v883 : BitVec 32 := Scalar.divsi v881 c1_i32_572
  let v884 : BitVec 32 := Scalar.muli v883 c1_i32_572
  let v885 : BitVec 32 := Scalar.addi c0_i32_571 v884
  let c1_i32_574 : BitVec 32 := 1#32
  let arg30 : BitVec 32 := Scf.iv v885 c1_i32_574 k0_t13
  let c512_i32_577 : BitVec 32 := 512#32
  let v894 : BitVec 32 := Scalar.muli arg30 c512_i32_577
  let v895 : BitVec 32 := v894
  let v896 : Index := Scalar.indexCast v895
  let c0_578 : Index := 0#32
  ![v896.toNat, 0]
@[reducible] def k0_t14_loop : Scf.Loop 32 :=
  let c19_i32_573 : BitVec 32 := 19#32
  let c4_i32_574 : BitVec 32 := 4#32
  let v878 : BitVec 32 := Scalar.addi c19_i32_573 c4_i32_574
  let c1_i32_575 : BitVec 32 := 1#32
  ⟨c19_i32_573, v878, c1_i32_575⟩
@[reducible] def k0_t15_loop (i : grid0.Coords) : Scf.Loop 32 :=
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v891 : BitVec 32 := Scalar.subi v21 c0_i32_583
  let c1_i32_584 : BitVec 32 := 1#32
  let v893 : BitVec 32 := Scalar.divsi v891 c1_i32_584
  let v894 : BitVec 32 := Scalar.muli v893 c1_i32_584
  let v895 : BitVec 32 := Scalar.addi c0_i32_583 v894
  let c1_i32_585 : BitVec 32 := 1#32
  ⟨c0_i32_583, v895, c1_i32_585⟩
def k0_mult13 (i : grid0.Coords) (k0_t15 : Fin (k0_t15_loop i).trips) : BitVec 32 :=
  let c0_i32_583 : BitVec 32 := 0#32
  let c1_i32_585 : BitVec 32 := 1#32
  let arg30 : BitVec 32 := Scf.iv c0_i32_583 c1_i32_585 k0_t15
  let c512_i32_589 : BitVec 32 := 512#32
  let v904 : BitVec 32 := Scalar.muli arg30 c512_i32_589
  v904
def k0_off21 (i : grid0.Coords) (k0_t15 : Fin (k0_t15_loop i).trips) : Fin 2 → Nat :=
  let c0_i32_583 : BitVec 32 := 0#32
  let c1_i32_585 : BitVec 32 := 1#32
  let arg30 : BitVec 32 := Scf.iv c0_i32_583 c1_i32_585 k0_t15
  let c512_i32_589 : BitVec 32 := 512#32
  let v904 : BitVec 32 := Scalar.muli arg30 c512_i32_589
  let v905 : BitVec 32 := v904
  let v906 : Index := Scalar.indexCast v905
  let c0_590 : Index := 0#32
  ![v906.toNat, 0]
@[reducible] def k0_t16_loop (i : grid0.Coords) : Scf.Loop 32 :=
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v891 : BitVec 32 := Scalar.subi v21 c0_i32_583
  let c1_i32_584 : BitVec 32 := 1#32
  let v893 : BitVec 32 := Scalar.divsi v891 c1_i32_584
  let v894 : BitVec 32 := Scalar.muli v893 c1_i32_584
  let v895 : BitVec 32 := Scalar.addi c0_i32_583 v894
  let v892 : BitVec 32 := Scalar.addi c0_i32_583 v891
  let c1_i32_586 : BitVec 32 := 1#32
  ⟨v895, v892, c1_i32_586⟩
def k0_mult14 (i : grid0.Coords) (k0_t16 : Fin (k0_t16_loop i).trips) : BitVec 32 :=
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v891 : BitVec 32 := Scalar.subi v21 c0_i32_583
  let c1_i32_584 : BitVec 32 := 1#32
  let v893 : BitVec 32 := Scalar.divsi v891 c1_i32_584
  let v894 : BitVec 32 := Scalar.muli v893 c1_i32_584
  let v895 : BitVec 32 := Scalar.addi c0_i32_583 v894
  let c1_i32_586 : BitVec 32 := 1#32
  let arg30 : BitVec 32 := Scf.iv v895 c1_i32_586 k0_t16
  let c512_i32_589 : BitVec 32 := 512#32
  let v904 : BitVec 32 := Scalar.muli arg30 c512_i32_589
  v904
def k0_off22 (i : grid0.Coords) (k0_t16 : Fin (k0_t16_loop i).trips) : Fin 2 → Nat :=
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v891 : BitVec 32 := Scalar.subi v21 c0_i32_583
  let c1_i32_584 : BitVec 32 := 1#32
  let v893 : BitVec 32 := Scalar.divsi v891 c1_i32_584
  let v894 : BitVec 32 := Scalar.muli v893 c1_i32_584
  let v895 : BitVec 32 := Scalar.addi c0_i32_583 v894
  let c1_i32_586 : BitVec 32 := 1#32
  let arg30 : BitVec 32 := Scf.iv v895 c1_i32_586 k0_t16
  let c512_i32_589 : BitVec 32 := 512#32
  let v904 : BitVec 32 := Scalar.muli arg30 c512_i32_589
  let v905 : BitVec 32 := v904
  let v906 : Index := Scalar.indexCast v905
  let c0_590 : Index := 0#32
  ![v906.toNat, 0]
@[reducible] def k0_t17_loop : Scf.Loop 32 :=
  let c23_i32 : BitVec 32 := 23#32
  let c4_i32_573 : BitVec 32 := 4#32
  let v878 : BitVec 32 := Scalar.addi c23_i32 c4_i32_573
  let c1_i32_574 : BitVec 32 := 1#32
  ⟨c23_i32, v878, c1_i32_574⟩
@[reducible] def k0_t18_loop (i : grid0.Coords) : Scf.Loop 32 :=
  let c0_i32_582 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v891 : BitVec 32 := Scalar.subi v21 c0_i32_582
  let c1_i32_583 : BitVec 32 := 1#32
  let v893 : BitVec 32 := Scalar.divsi v891 c1_i32_583
  let v894 : BitVec 32 := Scalar.muli v893 c1_i32_583
  let v895 : BitVec 32 := Scalar.addi c0_i32_582 v894
  let c1_i32_584 : BitVec 32 := 1#32
  ⟨c0_i32_582, v895, c1_i32_584⟩
def k0_mult15 (i : grid0.Coords) (k0_t18 : Fin (k0_t18_loop i).trips) : BitVec 32 :=
  let c0_i32_582 : BitVec 32 := 0#32
  let c1_i32_584 : BitVec 32 := 1#32
  let arg30 : BitVec 32 := Scf.iv c0_i32_582 c1_i32_584 k0_t18
  let c512_i32_588 : BitVec 32 := 512#32
  let v904 : BitVec 32 := Scalar.muli arg30 c512_i32_588
  v904
def k0_off23 (i : grid0.Coords) (k0_t18 : Fin (k0_t18_loop i).trips) : Fin 2 → Nat :=
  let c0_i32_582 : BitVec 32 := 0#32
  let c1_i32_584 : BitVec 32 := 1#32
  let arg30 : BitVec 32 := Scf.iv c0_i32_582 c1_i32_584 k0_t18
  let c512_i32_588 : BitVec 32 := 512#32
  let v904 : BitVec 32 := Scalar.muli arg30 c512_i32_588
  let v905 : BitVec 32 := v904
  let v906 : Index := Scalar.indexCast v905
  let c0_589 : Index := 0#32
  ![v906.toNat, 0]
@[reducible] def k0_t19_loop (i : grid0.Coords) : Scf.Loop 32 :=
  let c0_i32_582 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v891 : BitVec 32 := Scalar.subi v21 c0_i32_582
  let c1_i32_583 : BitVec 32 := 1#32
  let v893 : BitVec 32 := Scalar.divsi v891 c1_i32_583
  let v894 : BitVec 32 := Scalar.muli v893 c1_i32_583
  let v895 : BitVec 32 := Scalar.addi c0_i32_582 v894
  let v892 : BitVec 32 := Scalar.addi c0_i32_582 v891
  let c1_i32_585 : BitVec 32 := 1#32
  ⟨v895, v892, c1_i32_585⟩
def k0_mult16 (i : grid0.Coords) (k0_t19 : Fin (k0_t19_loop i).trips) : BitVec 32 :=
  let c0_i32_582 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v891 : BitVec 32 := Scalar.subi v21 c0_i32_582
  let c1_i32_583 : BitVec 32 := 1#32
  let v893 : BitVec 32 := Scalar.divsi v891 c1_i32_583
  let v894 : BitVec 32 := Scalar.muli v893 c1_i32_583
  let v895 : BitVec 32 := Scalar.addi c0_i32_582 v894
  let c1_i32_585 : BitVec 32 := 1#32
  let arg30 : BitVec 32 := Scf.iv v895 c1_i32_585 k0_t19
  let c512_i32_588 : BitVec 32 := 512#32
  let v904 : BitVec 32 := Scalar.muli arg30 c512_i32_588
  v904
def k0_off24 (i : grid0.Coords) (k0_t19 : Fin (k0_t19_loop i).trips) : Fin 2 → Nat :=
  let c0_i32_582 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v891 : BitVec 32 := Scalar.subi v21 c0_i32_582
  let c1_i32_583 : BitVec 32 := 1#32
  let v893 : BitVec 32 := Scalar.divsi v891 c1_i32_583
  let v894 : BitVec 32 := Scalar.muli v893 c1_i32_583
  let v895 : BitVec 32 := Scalar.addi c0_i32_582 v894
  let c1_i32_585 : BitVec 32 := 1#32
  let arg30 : BitVec 32 := Scf.iv v895 c1_i32_585 k0_t19
  let c512_i32_588 : BitVec 32 := 512#32
  let v904 : BitVec 32 := Scalar.muli arg30 c512_i32_588
  let v905 : BitVec 32 := v904
  let v906 : Index := Scalar.indexCast v905
  let c0_589 : Index := 0#32
  ![v906.toNat, 0]
@[reducible] def k0_t20_loop : Scf.Loop 32 :=
  let c27_i32 : BitVec 32 := 27#32
  let c4_i32_573 : BitVec 32 := 4#32
  let v878 : BitVec 32 := Scalar.addi c27_i32 c4_i32_573
  let c1_i32_574 : BitVec 32 := 1#32
  ⟨c27_i32, v878, c1_i32_574⟩
@[reducible] def k0_t21_loop (i : grid0.Coords) : Scf.Loop 32 :=
  let c0_i32_582 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v891 : BitVec 32 := Scalar.subi v21 c0_i32_582
  let c1_i32_583 : BitVec 32 := 1#32
  let v893 : BitVec 32 := Scalar.divsi v891 c1_i32_583
  let v894 : BitVec 32 := Scalar.muli v893 c1_i32_583
  let v895 : BitVec 32 := Scalar.addi c0_i32_582 v894
  let c1_i32_584 : BitVec 32 := 1#32
  ⟨c0_i32_582, v895, c1_i32_584⟩
def k0_mult17 (i : grid0.Coords) (k0_t21 : Fin (k0_t21_loop i).trips) : BitVec 32 :=
  let c0_i32_582 : BitVec 32 := 0#32
  let c1_i32_584 : BitVec 32 := 1#32
  let arg30 : BitVec 32 := Scf.iv c0_i32_582 c1_i32_584 k0_t21
  let c512_i32_588 : BitVec 32 := 512#32
  let v904 : BitVec 32 := Scalar.muli arg30 c512_i32_588
  v904
def k0_off25 (i : grid0.Coords) (k0_t21 : Fin (k0_t21_loop i).trips) : Fin 2 → Nat :=
  let c0_i32_582 : BitVec 32 := 0#32
  let c1_i32_584 : BitVec 32 := 1#32
  let arg30 : BitVec 32 := Scf.iv c0_i32_582 c1_i32_584 k0_t21
  let c512_i32_588 : BitVec 32 := 512#32
  let v904 : BitVec 32 := Scalar.muli arg30 c512_i32_588
  let v905 : BitVec 32 := v904
  let v906 : Index := Scalar.indexCast v905
  let c0_589 : Index := 0#32
  ![v906.toNat, 0]
@[reducible] def k0_t22_loop (i : grid0.Coords) : Scf.Loop 32 :=
  let c0_i32_582 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v891 : BitVec 32 := Scalar.subi v21 c0_i32_582
  let c1_i32_583 : BitVec 32 := 1#32
  let v893 : BitVec 32 := Scalar.divsi v891 c1_i32_583
  let v894 : BitVec 32 := Scalar.muli v893 c1_i32_583
  let v895 : BitVec 32 := Scalar.addi c0_i32_582 v894
  let v892 : BitVec 32 := Scalar.addi c0_i32_582 v891
  let c1_i32_585 : BitVec 32 := 1#32
  ⟨v895, v892, c1_i32_585⟩
def k0_mult18 (i : grid0.Coords) (k0_t22 : Fin (k0_t22_loop i).trips) : BitVec 32 :=
  let c0_i32_582 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v891 : BitVec 32 := Scalar.subi v21 c0_i32_582
  let c1_i32_583 : BitVec 32 := 1#32
  let v893 : BitVec 32 := Scalar.divsi v891 c1_i32_583
  let v894 : BitVec 32 := Scalar.muli v893 c1_i32_583
  let v895 : BitVec 32 := Scalar.addi c0_i32_582 v894
  let c1_i32_585 : BitVec 32 := 1#32
  let arg30 : BitVec 32 := Scf.iv v895 c1_i32_585 k0_t22
  let c512_i32_588 : BitVec 32 := 512#32
  let v904 : BitVec 32 := Scalar.muli arg30 c512_i32_588
  v904
def k0_off26 (i : grid0.Coords) (k0_t22 : Fin (k0_t22_loop i).trips) : Fin 2 → Nat :=
  let c0_i32_582 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v891 : BitVec 32 := Scalar.subi v21 c0_i32_582
  let c1_i32_583 : BitVec 32 := 1#32
  let v893 : BitVec 32 := Scalar.divsi v891 c1_i32_583
  let v894 : BitVec 32 := Scalar.muli v893 c1_i32_583
  let v895 : BitVec 32 := Scalar.addi c0_i32_582 v894
  let c1_i32_585 : BitVec 32 := 1#32
  let arg30 : BitVec 32 := Scf.iv v895 c1_i32_585 k0_t22
  let c512_i32_588 : BitVec 32 := 512#32
  let v904 : BitVec 32 := Scalar.muli arg30 c512_i32_588
  let v905 : BitVec 32 := v904
  let v906 : Index := Scalar.indexCast v905
  let c0_589 : Index := 0#32
  ![v906.toNat, 0]
@[reducible] def k0_t23_loop (i : grid0.Coords) : Scf.Loop 32 :=
  let c0_i32_570 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v877 : BitVec 32 := Scalar.subi v21 c0_i32_570
  let c1_i32_571 : BitVec 32 := 1#32
  let v879 : BitVec 32 := Scalar.divsi v877 c1_i32_571
  let v880 : BitVec 32 := Scalar.muli v879 c1_i32_571
  let v881 : BitVec 32 := Scalar.addi c0_i32_570 v880
  let c1_i32_572 : BitVec 32 := 1#32
  ⟨c0_i32_570, v881, c1_i32_572⟩
def k0_mult19 (i : grid0.Coords) (k0_t23 : Fin (k0_t23_loop i).trips) : BitVec 32 :=
  let c0_i32_570 : BitVec 32 := 0#32
  let c1_i32_572 : BitVec 32 := 1#32
  let arg27 : BitVec 32 := Scf.iv c0_i32_570 c1_i32_572 k0_t23
  let c512_i32_583 : BitVec 32 := 512#32
  let v896 : BitVec 32 := Scalar.muli arg27 c512_i32_583
  v896
def k0_off27 (i : grid0.Coords) (k0_t23 : Fin (k0_t23_loop i).trips) : Fin 2 → Nat :=
  let c0_i32_570 : BitVec 32 := 0#32
  let c1_i32_572 : BitVec 32 := 1#32
  let arg27 : BitVec 32 := Scf.iv c0_i32_570 c1_i32_572 k0_t23
  let c512_i32_583 : BitVec 32 := 512#32
  let v896 : BitVec 32 := Scalar.muli arg27 c512_i32_583
  let v897 : BitVec 32 := v896
  let v898 : Index := Scalar.indexCast v897
  let c0_584 : Index := 0#32
  ![v898.toNat, 0]
@[reducible] def k0_t24_loop (i : grid0.Coords) : Scf.Loop 32 :=
  let c0_i32_570 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v877 : BitVec 32 := Scalar.subi v21 c0_i32_570
  let c1_i32_571 : BitVec 32 := 1#32
  let v879 : BitVec 32 := Scalar.divsi v877 c1_i32_571
  let v880 : BitVec 32 := Scalar.muli v879 c1_i32_571
  let v881 : BitVec 32 := Scalar.addi c0_i32_570 v880
  let v878 : BitVec 32 := Scalar.addi c0_i32_570 v877
  let c1_i32_573 : BitVec 32 := 1#32
  ⟨v881, v878, c1_i32_573⟩
def k0_mult20 (i : grid0.Coords) (k0_t24 : Fin (k0_t24_loop i).trips) : BitVec 32 :=
  let c0_i32_570 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v877 : BitVec 32 := Scalar.subi v21 c0_i32_570
  let c1_i32_571 : BitVec 32 := 1#32
  let v879 : BitVec 32 := Scalar.divsi v877 c1_i32_571
  let v880 : BitVec 32 := Scalar.muli v879 c1_i32_571
  let v881 : BitVec 32 := Scalar.addi c0_i32_570 v880
  let c1_i32_573 : BitVec 32 := 1#32
  let arg27 : BitVec 32 := Scf.iv v881 c1_i32_573 k0_t24
  let c512_i32_583 : BitVec 32 := 512#32
  let v896 : BitVec 32 := Scalar.muli arg27 c512_i32_583
  v896
def k0_off28 (i : grid0.Coords) (k0_t24 : Fin (k0_t24_loop i).trips) : Fin 2 → Nat :=
  let c0_i32_570 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v877 : BitVec 32 := Scalar.subi v21 c0_i32_570
  let c1_i32_571 : BitVec 32 := 1#32
  let v879 : BitVec 32 := Scalar.divsi v877 c1_i32_571
  let v880 : BitVec 32 := Scalar.muli v879 c1_i32_571
  let v881 : BitVec 32 := Scalar.addi c0_i32_570 v880
  let c1_i32_573 : BitVec 32 := 1#32
  let arg27 : BitVec 32 := Scf.iv v881 c1_i32_573 k0_t24
  let c512_i32_583 : BitVec 32 := 512#32
  let v896 : BitVec 32 := Scalar.muli arg27 c512_i32_583
  let v897 : BitVec 32 := v896
  let v898 : Index := Scalar.indexCast v897
  let c0_584 : Index := 0#32
  ![v898.toNat, 0]
@[reducible] def k0_t25_loop : Scf.Loop 32 :=
  let c0_i32_577 : BitVec 32 := 0#32
  let c13_i32 : BitVec 32 := 13#32
  let v889 : BitVec 32 := Scalar.addi c0_i32_577 c13_i32
  let c1_i32_578 : BitVec 32 := 1#32
  ⟨c0_i32_577, v889, c1_i32_578⟩
@[reducible] def k0_t26_loop (i : grid0.Coords) : Scf.Loop 32 :=
  let c0_i32_585 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v901 : BitVec 32 := Scalar.subi v21 c0_i32_585
  let c1_i32_586 : BitVec 32 := 1#32
  let v903 : BitVec 32 := Scalar.divsi v901 c1_i32_586
  let v904 : BitVec 32 := Scalar.muli v903 c1_i32_586
  let v905 : BitVec 32 := Scalar.addi c0_i32_585 v904
  let c1_i32_587 : BitVec 32 := 1#32
  ⟨c0_i32_585, v905, c1_i32_587⟩
def k0_mult21 (i : grid0.Coords) (k0_t26 : Fin (k0_t26_loop i).trips) : BitVec 32 :=
  let c0_i32_585 : BitVec 32 := 0#32
  let c1_i32_587 : BitVec 32 := 1#32
  let arg29 : BitVec 32 := Scf.iv c0_i32_585 c1_i32_587 k0_t26
  let c512_i32_590 : BitVec 32 := 512#32
  let v912 : BitVec 32 := Scalar.muli arg29 c512_i32_590
  v912
def k0_off29 (i : grid0.Coords) (k0_t26 : Fin (k0_t26_loop i).trips) : Fin 2 → Nat :=
  let c0_i32_585 : BitVec 32 := 0#32
  let c1_i32_587 : BitVec 32 := 1#32
  let arg29 : BitVec 32 := Scf.iv c0_i32_585 c1_i32_587 k0_t26
  let c512_i32_590 : BitVec 32 := 512#32
  let v912 : BitVec 32 := Scalar.muli arg29 c512_i32_590
  let v913 : BitVec 32 := v912
  let v914 : Index := Scalar.indexCast v913
  let c0_591 : Index := 0#32
  ![v914.toNat, 0]
@[reducible] def k0_t27_loop (i : grid0.Coords) : Scf.Loop 32 :=
  let c0_i32_585 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v901 : BitVec 32 := Scalar.subi v21 c0_i32_585
  let c1_i32_586 : BitVec 32 := 1#32
  let v903 : BitVec 32 := Scalar.divsi v901 c1_i32_586
  let v904 : BitVec 32 := Scalar.muli v903 c1_i32_586
  let v905 : BitVec 32 := Scalar.addi c0_i32_585 v904
  let v902 : BitVec 32 := Scalar.addi c0_i32_585 v901
  let c1_i32_588 : BitVec 32 := 1#32
  ⟨v905, v902, c1_i32_588⟩
def k0_mult22 (i : grid0.Coords) (k0_t27 : Fin (k0_t27_loop i).trips) : BitVec 32 :=
  let c0_i32_585 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v901 : BitVec 32 := Scalar.subi v21 c0_i32_585
  let c1_i32_586 : BitVec 32 := 1#32
  let v903 : BitVec 32 := Scalar.divsi v901 c1_i32_586
  let v904 : BitVec 32 := Scalar.muli v903 c1_i32_586
  let v905 : BitVec 32 := Scalar.addi c0_i32_585 v904
  let c1_i32_588 : BitVec 32 := 1#32
  let arg29 : BitVec 32 := Scf.iv v905 c1_i32_588 k0_t27
  let c512_i32_590 : BitVec 32 := 512#32
  let v912 : BitVec 32 := Scalar.muli arg29 c512_i32_590
  v912
def k0_off30 (i : grid0.Coords) (k0_t27 : Fin (k0_t27_loop i).trips) : Fin 2 → Nat :=
  let c0_i32_585 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c512_i32_5 : BitVec 32 := 512#32
  let v19 : BitVec 32 := Scalar.muli v18 c512_i32_5
  let c511_i32 : BitVec 32 := 511#32
  let v20 : BitVec 32 := Scalar.addi v19 c511_i32
  let c512_i32_6 : BitVec 32 := 512#32
  let v21 : BitVec 32 := Scalar.divsi v20 c512_i32_6
  let v901 : BitVec 32 := Scalar.subi v21 c0_i32_585
  let c1_i32_586 : BitVec 32 := 1#32
  let v903 : BitVec 32 := Scalar.divsi v901 c1_i32_586
  let v904 : BitVec 32 := Scalar.muli v903 c1_i32_586
  let v905 : BitVec 32 := Scalar.addi c0_i32_585 v904
  let c1_i32_588 : BitVec 32 := 1#32
  let arg29 : BitVec 32 := Scf.iv v905 c1_i32_588 k0_t27
  let c512_i32_590 : BitVec 32 := 512#32
  let v912 : BitVec 32 := Scalar.muli arg29 c512_i32_590
  let v913 : BitVec 32 := v912
  let v914 : Index := Scalar.indexCast v913
  let c0_591 : Index := 0#32
  ![v914.toNat, 0]
@[reducible] def k0_t28_loop (i : grid0.Coords) : Scf.Loop 32 :=
  let c0_i32_578 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let v894 : BitVec 32 := Scalar.subi v893 c0_i32_578
  let c1_i32_579 : BitVec 32 := 1#32
  let v896 : BitVec 32 := Scalar.divsi v894 c1_i32_579
  let v897 : BitVec 32 := Scalar.muli v896 c1_i32_579
  let v898 : BitVec 32 := Scalar.addi c0_i32_578 v897
  let c1_i32_580 : BitVec 32 := 1#32
  ⟨c0_i32_578, v898, c1_i32_580⟩
def k0_mult23 (i : grid0.Coords) (k0_t28 : Fin (k0_t28_loop i).trips) : BitVec 32 :=
  let c0_i32_623 : BitVec 32 := 0#32
  let c0_i32_578 : BitVec 32 := 0#32
  let c1_i32_580 : BitVec 32 := 1#32
  let arg27 : BitVec 32 := Scf.iv c0_i32_578 c1_i32_580 k0_t28
  let c8_i32_622 : BitVec 32 := 8#32
  let v974 : BitVec 32 := Scalar.muli arg27 c8_i32_622
  let v975 : BitVec 32 := Scalar.addi c0_i32_623 v974
  let c512_i32_624 : BitVec 32 := 512#32
  let v976 : BitVec 32 := Scalar.muli v975 c512_i32_624
  v976
def k0_off31 (i : grid0.Coords) (k0_t28 : Fin (k0_t28_loop i).trips) : Fin 2 → Nat :=
  let c0_i32_623 : BitVec 32 := 0#32
  let c0_i32_578 : BitVec 32 := 0#32
  let c1_i32_580 : BitVec 32 := 1#32
  let arg27 : BitVec 32 := Scf.iv c0_i32_578 c1_i32_580 k0_t28
  let c8_i32_622 : BitVec 32 := 8#32
  let v974 : BitVec 32 := Scalar.muli arg27 c8_i32_622
  let v975 : BitVec 32 := Scalar.addi c0_i32_623 v974
  let c512_i32_624 : BitVec 32 := 512#32
  let v976 : BitVec 32 := Scalar.muli v975 c512_i32_624
  let v977 : BitVec 32 := v976
  let v978 : Index := Scalar.indexCast v977
  let c0_625 : Index := 0#32
  ![v978.toNat, 0]
def k0_off32 (i : grid0.Coords) (k0_t28 : Fin (k0_t28_loop i).trips) : Fin 3 → Nat :=
  let c0_628 : Index := 0#32
  let c0_i32_623 : BitVec 32 := 0#32
  let c0_i32_578 : BitVec 32 := 0#32
  let c1_i32_580 : BitVec 32 := 1#32
  let arg27 : BitVec 32 := Scf.iv c0_i32_578 c1_i32_580 k0_t28
  let c8_i32_622 : BitVec 32 := 8#32
  let v974 : BitVec 32 := Scalar.muli arg27 c8_i32_622
  let v975 : BitVec 32 := Scalar.addi c0_i32_623 v974
  let c512_i32_624 : BitVec 32 := 512#32
  let v976 : BitVec 32 := Scalar.muli v975 c512_i32_624
  let v977 : BitVec 32 := v976
  let v995 : Index := Scalar.indexCast v977
  let c0_629 : Index := 0#32
  ![0, v995.toNat, 0]
def k0_off33 (i : grid0.Coords) (k0_t28 : Fin (k0_t28_loop i).trips) : Fin 3 → Nat :=
  let c0_630 : Index := 0#32
  let c0_631 : Index := 0#32
  let c0_i32_623 : BitVec 32 := 0#32
  let c0_i32_578 : BitVec 32 := 0#32
  let c1_i32_580 : BitVec 32 := 1#32
  let arg27 : BitVec 32 := Scf.iv c0_i32_578 c1_i32_580 k0_t28
  let c8_i32_622 : BitVec 32 := 8#32
  let v974 : BitVec 32 := Scalar.muli arg27 c8_i32_622
  let v975 : BitVec 32 := Scalar.addi c0_i32_623 v974
  let c512_i32_624 : BitVec 32 := 512#32
  let v976 : BitVec 32 := Scalar.muli v975 c512_i32_624
  let v977 : BitVec 32 := v976
  let v998 : Index := Scalar.indexCast v977
  ![0, 0, v998.toNat]
@[reducible] def k0_t29_loop (i : grid0.Coords) : Scf.Loop 32 :=
  let c0_i32_578 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let v894 : BitVec 32 := Scalar.subi v893 c0_i32_578
  let c1_i32_579 : BitVec 32 := 1#32
  let v896 : BitVec 32 := Scalar.divsi v894 c1_i32_579
  let v897 : BitVec 32 := Scalar.muli v896 c1_i32_579
  let v898 : BitVec 32 := Scalar.addi c0_i32_578 v897
  let v895 : BitVec 32 := Scalar.addi c0_i32_578 v894
  let c1_i32_581 : BitVec 32 := 1#32
  ⟨v898, v895, c1_i32_581⟩
def k0_mult24 (i : grid0.Coords) (k0_t29 : Fin (k0_t29_loop i).trips) : BitVec 32 :=
  let c0_i32_623 : BitVec 32 := 0#32
  let c0_i32_578 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let v894 : BitVec 32 := Scalar.subi v893 c0_i32_578
  let c1_i32_579 : BitVec 32 := 1#32
  let v896 : BitVec 32 := Scalar.divsi v894 c1_i32_579
  let v897 : BitVec 32 := Scalar.muli v896 c1_i32_579
  let v898 : BitVec 32 := Scalar.addi c0_i32_578 v897
  let c1_i32_581 : BitVec 32 := 1#32
  let arg27 : BitVec 32 := Scf.iv v898 c1_i32_581 k0_t29
  let c8_i32_622 : BitVec 32 := 8#32
  let v974 : BitVec 32 := Scalar.muli arg27 c8_i32_622
  let v975 : BitVec 32 := Scalar.addi c0_i32_623 v974
  let c512_i32_624 : BitVec 32 := 512#32
  let v976 : BitVec 32 := Scalar.muli v975 c512_i32_624
  v976
def k0_off34 (i : grid0.Coords) (k0_t29 : Fin (k0_t29_loop i).trips) : Fin 2 → Nat :=
  let c0_i32_623 : BitVec 32 := 0#32
  let c0_i32_578 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let v894 : BitVec 32 := Scalar.subi v893 c0_i32_578
  let c1_i32_579 : BitVec 32 := 1#32
  let v896 : BitVec 32 := Scalar.divsi v894 c1_i32_579
  let v897 : BitVec 32 := Scalar.muli v896 c1_i32_579
  let v898 : BitVec 32 := Scalar.addi c0_i32_578 v897
  let c1_i32_581 : BitVec 32 := 1#32
  let arg27 : BitVec 32 := Scf.iv v898 c1_i32_581 k0_t29
  let c8_i32_622 : BitVec 32 := 8#32
  let v974 : BitVec 32 := Scalar.muli arg27 c8_i32_622
  let v975 : BitVec 32 := Scalar.addi c0_i32_623 v974
  let c512_i32_624 : BitVec 32 := 512#32
  let v976 : BitVec 32 := Scalar.muli v975 c512_i32_624
  let v977 : BitVec 32 := v976
  let v978 : Index := Scalar.indexCast v977
  let c0_625 : Index := 0#32
  ![v978.toNat, 0]
def k0_off35 (i : grid0.Coords) (k0_t29 : Fin (k0_t29_loop i).trips) : Fin 3 → Nat :=
  let c0_628 : Index := 0#32
  let c0_i32_623 : BitVec 32 := 0#32
  let c0_i32_578 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let v894 : BitVec 32 := Scalar.subi v893 c0_i32_578
  let c1_i32_579 : BitVec 32 := 1#32
  let v896 : BitVec 32 := Scalar.divsi v894 c1_i32_579
  let v897 : BitVec 32 := Scalar.muli v896 c1_i32_579
  let v898 : BitVec 32 := Scalar.addi c0_i32_578 v897
  let c1_i32_581 : BitVec 32 := 1#32
  let arg27 : BitVec 32 := Scf.iv v898 c1_i32_581 k0_t29
  let c8_i32_622 : BitVec 32 := 8#32
  let v974 : BitVec 32 := Scalar.muli arg27 c8_i32_622
  let v975 : BitVec 32 := Scalar.addi c0_i32_623 v974
  let c512_i32_624 : BitVec 32 := 512#32
  let v976 : BitVec 32 := Scalar.muli v975 c512_i32_624
  let v977 : BitVec 32 := v976
  let v995 : Index := Scalar.indexCast v977
  let c0_629 : Index := 0#32
  ![0, v995.toNat, 0]
def k0_off36 (i : grid0.Coords) (k0_t29 : Fin (k0_t29_loop i).trips) : Fin 3 → Nat :=
  let c0_630 : Index := 0#32
  let c0_631 : Index := 0#32
  let c0_i32_623 : BitVec 32 := 0#32
  let c0_i32_578 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let v894 : BitVec 32 := Scalar.subi v893 c0_i32_578
  let c1_i32_579 : BitVec 32 := 1#32
  let v896 : BitVec 32 := Scalar.divsi v894 c1_i32_579
  let v897 : BitVec 32 := Scalar.muli v896 c1_i32_579
  let v898 : BitVec 32 := Scalar.addi c0_i32_578 v897
  let c1_i32_581 : BitVec 32 := 1#32
  let arg27 : BitVec 32 := Scf.iv v898 c1_i32_581 k0_t29
  let c8_i32_622 : BitVec 32 := 8#32
  let v974 : BitVec 32 := Scalar.muli arg27 c8_i32_622
  let v975 : BitVec 32 := Scalar.addi c0_i32_623 v974
  let c512_i32_624 : BitVec 32 := 512#32
  let v976 : BitVec 32 := Scalar.muli v975 c512_i32_624
  let v977 : BitVec 32 := v976
  let v998 : Index := Scalar.indexCast v977
  ![0, 0, v998.toNat]
@[reducible] def k0_t30_loop (i : grid0.Coords) : Scf.Loop 32 :=
  let c0_i32_592 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_583 : BitVec 32 := 0#32
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let v919 : BitVec 32 := Scalar.subi v918 c0_i32_592
  let c1_i32_593 : BitVec 32 := 1#32
  let v921 : BitVec 32 := Scalar.divsi v919 c1_i32_593
  let v922 : BitVec 32 := Scalar.muli v921 c1_i32_593
  let v923 : BitVec 32 := Scalar.addi c0_i32_592 v922
  let c1_i32_594 : BitVec 32 := 1#32
  ⟨c0_i32_592, v923, c1_i32_594⟩
def k0_mult25 (i : grid0.Coords) (k0_t30 : Fin (k0_t30_loop i).trips) : BitVec 32 :=
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let c0_i32_592 : BitVec 32 := 0#32
  let c1_i32_594 : BitVec 32 := 1#32
  let arg27 : BitVec 32 := Scf.iv c0_i32_592 c1_i32_594 k0_t30
  let c4_i32_622 : BitVec 32 := 4#32
  let v974 : BitVec 32 := Scalar.muli arg27 c4_i32_622
  let v975 : BitVec 32 := Scalar.addi v900 v974
  let c512_i32_623 : BitVec 32 := 512#32
  let v976 : BitVec 32 := Scalar.muli v975 c512_i32_623
  v976
def k0_off37 (i : grid0.Coords) (k0_t30 : Fin (k0_t30_loop i).trips) : Fin 2 → Nat :=
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let c0_i32_592 : BitVec 32 := 0#32
  let c1_i32_594 : BitVec 32 := 1#32
  let arg27 : BitVec 32 := Scf.iv c0_i32_592 c1_i32_594 k0_t30
  let c4_i32_622 : BitVec 32 := 4#32
  let v974 : BitVec 32 := Scalar.muli arg27 c4_i32_622
  let v975 : BitVec 32 := Scalar.addi v900 v974
  let c512_i32_623 : BitVec 32 := 512#32
  let v976 : BitVec 32 := Scalar.muli v975 c512_i32_623
  let v977 : BitVec 32 := v976
  let v978 : Index := Scalar.indexCast v977
  let c0_624 : Index := 0#32
  ![v978.toNat, 0]
def k0_off38 (i : grid0.Coords) (k0_t30 : Fin (k0_t30_loop i).trips) : Fin 3 → Nat :=
  let c0_627 : Index := 0#32
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let c0_i32_592 : BitVec 32 := 0#32
  let c1_i32_594 : BitVec 32 := 1#32
  let arg27 : BitVec 32 := Scf.iv c0_i32_592 c1_i32_594 k0_t30
  let c4_i32_622 : BitVec 32 := 4#32
  let v974 : BitVec 32 := Scalar.muli arg27 c4_i32_622
  let v975 : BitVec 32 := Scalar.addi v900 v974
  let c512_i32_623 : BitVec 32 := 512#32
  let v976 : BitVec 32 := Scalar.muli v975 c512_i32_623
  let v977 : BitVec 32 := v976
  let v995 : Index := Scalar.indexCast v977
  let c0_628 : Index := 0#32
  ![0, v995.toNat, 0]
def k0_off39 (i : grid0.Coords) (k0_t30 : Fin (k0_t30_loop i).trips) : Fin 3 → Nat :=
  let c0_629 : Index := 0#32
  let c0_630 : Index := 0#32
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let c0_i32_592 : BitVec 32 := 0#32
  let c1_i32_594 : BitVec 32 := 1#32
  let arg27 : BitVec 32 := Scf.iv c0_i32_592 c1_i32_594 k0_t30
  let c4_i32_622 : BitVec 32 := 4#32
  let v974 : BitVec 32 := Scalar.muli arg27 c4_i32_622
  let v975 : BitVec 32 := Scalar.addi v900 v974
  let c512_i32_623 : BitVec 32 := 512#32
  let v976 : BitVec 32 := Scalar.muli v975 c512_i32_623
  let v977 : BitVec 32 := v976
  let v998 : Index := Scalar.indexCast v977
  ![0, 0, v998.toNat]
@[reducible] def k0_t31_loop (i : grid0.Coords) : Scf.Loop 32 :=
  let c0_i32_592 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_583 : BitVec 32 := 0#32
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let v919 : BitVec 32 := Scalar.subi v918 c0_i32_592
  let c1_i32_593 : BitVec 32 := 1#32
  let v921 : BitVec 32 := Scalar.divsi v919 c1_i32_593
  let v922 : BitVec 32 := Scalar.muli v921 c1_i32_593
  let v923 : BitVec 32 := Scalar.addi c0_i32_592 v922
  let v920 : BitVec 32 := Scalar.addi c0_i32_592 v919
  let c1_i32_595 : BitVec 32 := 1#32
  ⟨v923, v920, c1_i32_595⟩
def k0_mult26 (i : grid0.Coords) (k0_t31 : Fin (k0_t31_loop i).trips) : BitVec 32 :=
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let c0_i32_592 : BitVec 32 := 0#32
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let v919 : BitVec 32 := Scalar.subi v918 c0_i32_592
  let c1_i32_593 : BitVec 32 := 1#32
  let v921 : BitVec 32 := Scalar.divsi v919 c1_i32_593
  let v922 : BitVec 32 := Scalar.muli v921 c1_i32_593
  let v923 : BitVec 32 := Scalar.addi c0_i32_592 v922
  let c1_i32_595 : BitVec 32 := 1#32
  let arg27 : BitVec 32 := Scf.iv v923 c1_i32_595 k0_t31
  let c4_i32_622 : BitVec 32 := 4#32
  let v974 : BitVec 32 := Scalar.muli arg27 c4_i32_622
  let v975 : BitVec 32 := Scalar.addi v900 v974
  let c512_i32_623 : BitVec 32 := 512#32
  let v976 : BitVec 32 := Scalar.muli v975 c512_i32_623
  v976
def k0_off40 (i : grid0.Coords) (k0_t31 : Fin (k0_t31_loop i).trips) : Fin 2 → Nat :=
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let c0_i32_592 : BitVec 32 := 0#32
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let v919 : BitVec 32 := Scalar.subi v918 c0_i32_592
  let c1_i32_593 : BitVec 32 := 1#32
  let v921 : BitVec 32 := Scalar.divsi v919 c1_i32_593
  let v922 : BitVec 32 := Scalar.muli v921 c1_i32_593
  let v923 : BitVec 32 := Scalar.addi c0_i32_592 v922
  let c1_i32_595 : BitVec 32 := 1#32
  let arg27 : BitVec 32 := Scf.iv v923 c1_i32_595 k0_t31
  let c4_i32_622 : BitVec 32 := 4#32
  let v974 : BitVec 32 := Scalar.muli arg27 c4_i32_622
  let v975 : BitVec 32 := Scalar.addi v900 v974
  let c512_i32_623 : BitVec 32 := 512#32
  let v976 : BitVec 32 := Scalar.muli v975 c512_i32_623
  let v977 : BitVec 32 := v976
  let v978 : Index := Scalar.indexCast v977
  let c0_624 : Index := 0#32
  ![v978.toNat, 0]
def k0_off41 (i : grid0.Coords) (k0_t31 : Fin (k0_t31_loop i).trips) : Fin 3 → Nat :=
  let c0_627 : Index := 0#32
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let c0_i32_592 : BitVec 32 := 0#32
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let v919 : BitVec 32 := Scalar.subi v918 c0_i32_592
  let c1_i32_593 : BitVec 32 := 1#32
  let v921 : BitVec 32 := Scalar.divsi v919 c1_i32_593
  let v922 : BitVec 32 := Scalar.muli v921 c1_i32_593
  let v923 : BitVec 32 := Scalar.addi c0_i32_592 v922
  let c1_i32_595 : BitVec 32 := 1#32
  let arg27 : BitVec 32 := Scf.iv v923 c1_i32_595 k0_t31
  let c4_i32_622 : BitVec 32 := 4#32
  let v974 : BitVec 32 := Scalar.muli arg27 c4_i32_622
  let v975 : BitVec 32 := Scalar.addi v900 v974
  let c512_i32_623 : BitVec 32 := 512#32
  let v976 : BitVec 32 := Scalar.muli v975 c512_i32_623
  let v977 : BitVec 32 := v976
  let v995 : Index := Scalar.indexCast v977
  let c0_628 : Index := 0#32
  ![0, v995.toNat, 0]
def k0_off42 (i : grid0.Coords) (k0_t31 : Fin (k0_t31_loop i).trips) : Fin 3 → Nat :=
  let c0_629 : Index := 0#32
  let c0_630 : Index := 0#32
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let c0_i32_592 : BitVec 32 := 0#32
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let v919 : BitVec 32 := Scalar.subi v918 c0_i32_592
  let c1_i32_593 : BitVec 32 := 1#32
  let v921 : BitVec 32 := Scalar.divsi v919 c1_i32_593
  let v922 : BitVec 32 := Scalar.muli v921 c1_i32_593
  let v923 : BitVec 32 := Scalar.addi c0_i32_592 v922
  let c1_i32_595 : BitVec 32 := 1#32
  let arg27 : BitVec 32 := Scf.iv v923 c1_i32_595 k0_t31
  let c4_i32_622 : BitVec 32 := 4#32
  let v974 : BitVec 32 := Scalar.muli arg27 c4_i32_622
  let v975 : BitVec 32 := Scalar.addi v900 v974
  let c512_i32_623 : BitVec 32 := 512#32
  let v976 : BitVec 32 := Scalar.muli v975 c512_i32_623
  let v977 : BitVec 32 := v976
  let v998 : Index := Scalar.indexCast v977
  ![0, 0, v998.toNat]
@[reducible] def k0_t32_loop (i : grid0.Coords) : Scf.Loop 32 :=
  let c0_i32_605 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_583 : BitVec 32 := 0#32
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let c4_i32_596 : BitVec 32 := 4#32
  let v924 : BitVec 32 := Scalar.muli v918 c4_i32_596
  let v925 : BitVec 32 := Scalar.addi v900 v924
  let v926 : BitVec 32 := Scalar.subi v18 v925
  let c0_i32_598 : BitVec 32 := 0#32
  let v928 : BitVec 1 := Scalar.cmpi .sgt v926 c0_i32_598
  let v929 : BitVec 32 := Scalar.extui v928
  let c0_i32_599 : BitVec 32 := 0#32
  let v930 : BitVec 1 := Scalar.cmpi .slt v926 c0_i32_599
  let v931 : BitVec 32 := Scalar.extui v930
  let v932 : BitVec 32 := Scalar.subi v929 v931
  let c2_i32_597 : BitVec 32 := 2#32
  let c0_i32_600 : BitVec 32 := 0#32
  let v933 : BitVec 1 := Scalar.cmpi .sgt c2_i32_597 c0_i32_600
  let v934 : BitVec 32 := Scalar.extui v933
  let c0_i32_601 : BitVec 32 := 0#32
  let v935 : BitVec 1 := Scalar.cmpi .slt c2_i32_597 c0_i32_601
  let v936 : BitVec 32 := Scalar.extui v935
  let v937 : BitVec 32 := Scalar.subi v934 v936
  let v938 : BitVec 1 := Scalar.cmpi .ne v932 v937
  let v939 : BitVec 32 := Scalar.remsi v926 c2_i32_597
  let c0_i32_602 : BitVec 32 := 0#32
  let v940 : BitVec 1 := Scalar.cmpi .ne v939 c0_i32_602
  let v941 : BitVec 1 := Scalar.andi v938 v940
  let v927 : BitVec 32 := Scalar.divsi v926 c2_i32_597
  let c1_i32_603 : BitVec 32 := 1#32
  let v942 : BitVec 32 := Scalar.subi v927 c1_i32_603
  let v943 : BitVec 32 := Scalar.select v941 v942 v927
  let v944 : BitVec 32 := Scalar.subi v943 c0_i32_605
  let c1_i32_606 : BitVec 32 := 1#32
  let v946 : BitVec 32 := Scalar.divsi v944 c1_i32_606
  let v947 : BitVec 32 := Scalar.muli v946 c1_i32_606
  let v948 : BitVec 32 := Scalar.addi c0_i32_605 v947
  let c1_i32_607 : BitVec 32 := 1#32
  ⟨c0_i32_605, v948, c1_i32_607⟩
def k0_mult27 (i : grid0.Coords) (k0_t32 : Fin (k0_t32_loop i).trips) : BitVec 32 :=
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let c4_i32_596 : BitVec 32 := 4#32
  let v924 : BitVec 32 := Scalar.muli v918 c4_i32_596
  let v925 : BitVec 32 := Scalar.addi v900 v924
  let c0_i32_605 : BitVec 32 := 0#32
  let c1_i32_607 : BitVec 32 := 1#32
  let arg27 : BitVec 32 := Scf.iv c0_i32_605 c1_i32_607 k0_t32
  let c2_i32_622 : BitVec 32 := 2#32
  let v974 : BitVec 32 := Scalar.muli arg27 c2_i32_622
  let v975 : BitVec 32 := Scalar.addi v925 v974
  let c512_i32_623 : BitVec 32 := 512#32
  let v976 : BitVec 32 := Scalar.muli v975 c512_i32_623
  v976
def k0_off43 (i : grid0.Coords) (k0_t32 : Fin (k0_t32_loop i).trips) : Fin 2 → Nat :=
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let c4_i32_596 : BitVec 32 := 4#32
  let v924 : BitVec 32 := Scalar.muli v918 c4_i32_596
  let v925 : BitVec 32 := Scalar.addi v900 v924
  let c0_i32_605 : BitVec 32 := 0#32
  let c1_i32_607 : BitVec 32 := 1#32
  let arg27 : BitVec 32 := Scf.iv c0_i32_605 c1_i32_607 k0_t32
  let c2_i32_622 : BitVec 32 := 2#32
  let v974 : BitVec 32 := Scalar.muli arg27 c2_i32_622
  let v975 : BitVec 32 := Scalar.addi v925 v974
  let c512_i32_623 : BitVec 32 := 512#32
  let v976 : BitVec 32 := Scalar.muli v975 c512_i32_623
  let v977 : BitVec 32 := v976
  let v978 : Index := Scalar.indexCast v977
  let c0_624 : Index := 0#32
  ![v978.toNat, 0]
def k0_off44 (i : grid0.Coords) (k0_t32 : Fin (k0_t32_loop i).trips) : Fin 3 → Nat :=
  let c0_627 : Index := 0#32
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let c4_i32_596 : BitVec 32 := 4#32
  let v924 : BitVec 32 := Scalar.muli v918 c4_i32_596
  let v925 : BitVec 32 := Scalar.addi v900 v924
  let c0_i32_605 : BitVec 32 := 0#32
  let c1_i32_607 : BitVec 32 := 1#32
  let arg27 : BitVec 32 := Scf.iv c0_i32_605 c1_i32_607 k0_t32
  let c2_i32_622 : BitVec 32 := 2#32
  let v974 : BitVec 32 := Scalar.muli arg27 c2_i32_622
  let v975 : BitVec 32 := Scalar.addi v925 v974
  let c512_i32_623 : BitVec 32 := 512#32
  let v976 : BitVec 32 := Scalar.muli v975 c512_i32_623
  let v977 : BitVec 32 := v976
  let v995 : Index := Scalar.indexCast v977
  let c0_628 : Index := 0#32
  ![0, v995.toNat, 0]
def k0_off45 (i : grid0.Coords) (k0_t32 : Fin (k0_t32_loop i).trips) : Fin 3 → Nat :=
  let c0_629 : Index := 0#32
  let c0_630 : Index := 0#32
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let c4_i32_596 : BitVec 32 := 4#32
  let v924 : BitVec 32 := Scalar.muli v918 c4_i32_596
  let v925 : BitVec 32 := Scalar.addi v900 v924
  let c0_i32_605 : BitVec 32 := 0#32
  let c1_i32_607 : BitVec 32 := 1#32
  let arg27 : BitVec 32 := Scf.iv c0_i32_605 c1_i32_607 k0_t32
  let c2_i32_622 : BitVec 32 := 2#32
  let v974 : BitVec 32 := Scalar.muli arg27 c2_i32_622
  let v975 : BitVec 32 := Scalar.addi v925 v974
  let c512_i32_623 : BitVec 32 := 512#32
  let v976 : BitVec 32 := Scalar.muli v975 c512_i32_623
  let v977 : BitVec 32 := v976
  let v998 : Index := Scalar.indexCast v977
  ![0, 0, v998.toNat]
@[reducible] def k0_t33_loop (i : grid0.Coords) : Scf.Loop 32 :=
  let c0_i32_605 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_583 : BitVec 32 := 0#32
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let c4_i32_596 : BitVec 32 := 4#32
  let v924 : BitVec 32 := Scalar.muli v918 c4_i32_596
  let v925 : BitVec 32 := Scalar.addi v900 v924
  let v926 : BitVec 32 := Scalar.subi v18 v925
  let c0_i32_598 : BitVec 32 := 0#32
  let v928 : BitVec 1 := Scalar.cmpi .sgt v926 c0_i32_598
  let v929 : BitVec 32 := Scalar.extui v928
  let c0_i32_599 : BitVec 32 := 0#32
  let v930 : BitVec 1 := Scalar.cmpi .slt v926 c0_i32_599
  let v931 : BitVec 32 := Scalar.extui v930
  let v932 : BitVec 32 := Scalar.subi v929 v931
  let c2_i32_597 : BitVec 32 := 2#32
  let c0_i32_600 : BitVec 32 := 0#32
  let v933 : BitVec 1 := Scalar.cmpi .sgt c2_i32_597 c0_i32_600
  let v934 : BitVec 32 := Scalar.extui v933
  let c0_i32_601 : BitVec 32 := 0#32
  let v935 : BitVec 1 := Scalar.cmpi .slt c2_i32_597 c0_i32_601
  let v936 : BitVec 32 := Scalar.extui v935
  let v937 : BitVec 32 := Scalar.subi v934 v936
  let v938 : BitVec 1 := Scalar.cmpi .ne v932 v937
  let v939 : BitVec 32 := Scalar.remsi v926 c2_i32_597
  let c0_i32_602 : BitVec 32 := 0#32
  let v940 : BitVec 1 := Scalar.cmpi .ne v939 c0_i32_602
  let v941 : BitVec 1 := Scalar.andi v938 v940
  let v927 : BitVec 32 := Scalar.divsi v926 c2_i32_597
  let c1_i32_603 : BitVec 32 := 1#32
  let v942 : BitVec 32 := Scalar.subi v927 c1_i32_603
  let v943 : BitVec 32 := Scalar.select v941 v942 v927
  let v944 : BitVec 32 := Scalar.subi v943 c0_i32_605
  let c1_i32_606 : BitVec 32 := 1#32
  let v946 : BitVec 32 := Scalar.divsi v944 c1_i32_606
  let v947 : BitVec 32 := Scalar.muli v946 c1_i32_606
  let v948 : BitVec 32 := Scalar.addi c0_i32_605 v947
  let v945 : BitVec 32 := Scalar.addi c0_i32_605 v944
  let c1_i32_608 : BitVec 32 := 1#32
  ⟨v948, v945, c1_i32_608⟩
def k0_mult28 (i : grid0.Coords) (k0_t33 : Fin (k0_t33_loop i).trips) : BitVec 32 :=
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let c4_i32_596 : BitVec 32 := 4#32
  let v924 : BitVec 32 := Scalar.muli v918 c4_i32_596
  let v925 : BitVec 32 := Scalar.addi v900 v924
  let c0_i32_605 : BitVec 32 := 0#32
  let v926 : BitVec 32 := Scalar.subi v18 v925
  let c0_i32_598 : BitVec 32 := 0#32
  let v928 : BitVec 1 := Scalar.cmpi .sgt v926 c0_i32_598
  let v929 : BitVec 32 := Scalar.extui v928
  let c0_i32_599 : BitVec 32 := 0#32
  let v930 : BitVec 1 := Scalar.cmpi .slt v926 c0_i32_599
  let v931 : BitVec 32 := Scalar.extui v930
  let v932 : BitVec 32 := Scalar.subi v929 v931
  let c2_i32_597 : BitVec 32 := 2#32
  let c0_i32_600 : BitVec 32 := 0#32
  let v933 : BitVec 1 := Scalar.cmpi .sgt c2_i32_597 c0_i32_600
  let v934 : BitVec 32 := Scalar.extui v933
  let c0_i32_601 : BitVec 32 := 0#32
  let v935 : BitVec 1 := Scalar.cmpi .slt c2_i32_597 c0_i32_601
  let v936 : BitVec 32 := Scalar.extui v935
  let v937 : BitVec 32 := Scalar.subi v934 v936
  let v938 : BitVec 1 := Scalar.cmpi .ne v932 v937
  let v939 : BitVec 32 := Scalar.remsi v926 c2_i32_597
  let c0_i32_602 : BitVec 32 := 0#32
  let v940 : BitVec 1 := Scalar.cmpi .ne v939 c0_i32_602
  let v941 : BitVec 1 := Scalar.andi v938 v940
  let v927 : BitVec 32 := Scalar.divsi v926 c2_i32_597
  let c1_i32_603 : BitVec 32 := 1#32
  let v942 : BitVec 32 := Scalar.subi v927 c1_i32_603
  let v943 : BitVec 32 := Scalar.select v941 v942 v927
  let v944 : BitVec 32 := Scalar.subi v943 c0_i32_605
  let c1_i32_606 : BitVec 32 := 1#32
  let v946 : BitVec 32 := Scalar.divsi v944 c1_i32_606
  let v947 : BitVec 32 := Scalar.muli v946 c1_i32_606
  let v948 : BitVec 32 := Scalar.addi c0_i32_605 v947
  let c1_i32_608 : BitVec 32 := 1#32
  let arg27 : BitVec 32 := Scf.iv v948 c1_i32_608 k0_t33
  let c2_i32_622 : BitVec 32 := 2#32
  let v974 : BitVec 32 := Scalar.muli arg27 c2_i32_622
  let v975 : BitVec 32 := Scalar.addi v925 v974
  let c512_i32_623 : BitVec 32 := 512#32
  let v976 : BitVec 32 := Scalar.muli v975 c512_i32_623
  v976
def k0_off46 (i : grid0.Coords) (k0_t33 : Fin (k0_t33_loop i).trips) : Fin 2 → Nat :=
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let c4_i32_596 : BitVec 32 := 4#32
  let v924 : BitVec 32 := Scalar.muli v918 c4_i32_596
  let v925 : BitVec 32 := Scalar.addi v900 v924
  let c0_i32_605 : BitVec 32 := 0#32
  let v926 : BitVec 32 := Scalar.subi v18 v925
  let c0_i32_598 : BitVec 32 := 0#32
  let v928 : BitVec 1 := Scalar.cmpi .sgt v926 c0_i32_598
  let v929 : BitVec 32 := Scalar.extui v928
  let c0_i32_599 : BitVec 32 := 0#32
  let v930 : BitVec 1 := Scalar.cmpi .slt v926 c0_i32_599
  let v931 : BitVec 32 := Scalar.extui v930
  let v932 : BitVec 32 := Scalar.subi v929 v931
  let c2_i32_597 : BitVec 32 := 2#32
  let c0_i32_600 : BitVec 32 := 0#32
  let v933 : BitVec 1 := Scalar.cmpi .sgt c2_i32_597 c0_i32_600
  let v934 : BitVec 32 := Scalar.extui v933
  let c0_i32_601 : BitVec 32 := 0#32
  let v935 : BitVec 1 := Scalar.cmpi .slt c2_i32_597 c0_i32_601
  let v936 : BitVec 32 := Scalar.extui v935
  let v937 : BitVec 32 := Scalar.subi v934 v936
  let v938 : BitVec 1 := Scalar.cmpi .ne v932 v937
  let v939 : BitVec 32 := Scalar.remsi v926 c2_i32_597
  let c0_i32_602 : BitVec 32 := 0#32
  let v940 : BitVec 1 := Scalar.cmpi .ne v939 c0_i32_602
  let v941 : BitVec 1 := Scalar.andi v938 v940
  let v927 : BitVec 32 := Scalar.divsi v926 c2_i32_597
  let c1_i32_603 : BitVec 32 := 1#32
  let v942 : BitVec 32 := Scalar.subi v927 c1_i32_603
  let v943 : BitVec 32 := Scalar.select v941 v942 v927
  let v944 : BitVec 32 := Scalar.subi v943 c0_i32_605
  let c1_i32_606 : BitVec 32 := 1#32
  let v946 : BitVec 32 := Scalar.divsi v944 c1_i32_606
  let v947 : BitVec 32 := Scalar.muli v946 c1_i32_606
  let v948 : BitVec 32 := Scalar.addi c0_i32_605 v947
  let c1_i32_608 : BitVec 32 := 1#32
  let arg27 : BitVec 32 := Scf.iv v948 c1_i32_608 k0_t33
  let c2_i32_622 : BitVec 32 := 2#32
  let v974 : BitVec 32 := Scalar.muli arg27 c2_i32_622
  let v975 : BitVec 32 := Scalar.addi v925 v974
  let c512_i32_623 : BitVec 32 := 512#32
  let v976 : BitVec 32 := Scalar.muli v975 c512_i32_623
  let v977 : BitVec 32 := v976
  let v978 : Index := Scalar.indexCast v977
  let c0_624 : Index := 0#32
  ![v978.toNat, 0]
def k0_off47 (i : grid0.Coords) (k0_t33 : Fin (k0_t33_loop i).trips) : Fin 3 → Nat :=
  let c0_627 : Index := 0#32
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let c4_i32_596 : BitVec 32 := 4#32
  let v924 : BitVec 32 := Scalar.muli v918 c4_i32_596
  let v925 : BitVec 32 := Scalar.addi v900 v924
  let c0_i32_605 : BitVec 32 := 0#32
  let v926 : BitVec 32 := Scalar.subi v18 v925
  let c0_i32_598 : BitVec 32 := 0#32
  let v928 : BitVec 1 := Scalar.cmpi .sgt v926 c0_i32_598
  let v929 : BitVec 32 := Scalar.extui v928
  let c0_i32_599 : BitVec 32 := 0#32
  let v930 : BitVec 1 := Scalar.cmpi .slt v926 c0_i32_599
  let v931 : BitVec 32 := Scalar.extui v930
  let v932 : BitVec 32 := Scalar.subi v929 v931
  let c2_i32_597 : BitVec 32 := 2#32
  let c0_i32_600 : BitVec 32 := 0#32
  let v933 : BitVec 1 := Scalar.cmpi .sgt c2_i32_597 c0_i32_600
  let v934 : BitVec 32 := Scalar.extui v933
  let c0_i32_601 : BitVec 32 := 0#32
  let v935 : BitVec 1 := Scalar.cmpi .slt c2_i32_597 c0_i32_601
  let v936 : BitVec 32 := Scalar.extui v935
  let v937 : BitVec 32 := Scalar.subi v934 v936
  let v938 : BitVec 1 := Scalar.cmpi .ne v932 v937
  let v939 : BitVec 32 := Scalar.remsi v926 c2_i32_597
  let c0_i32_602 : BitVec 32 := 0#32
  let v940 : BitVec 1 := Scalar.cmpi .ne v939 c0_i32_602
  let v941 : BitVec 1 := Scalar.andi v938 v940
  let v927 : BitVec 32 := Scalar.divsi v926 c2_i32_597
  let c1_i32_603 : BitVec 32 := 1#32
  let v942 : BitVec 32 := Scalar.subi v927 c1_i32_603
  let v943 : BitVec 32 := Scalar.select v941 v942 v927
  let v944 : BitVec 32 := Scalar.subi v943 c0_i32_605
  let c1_i32_606 : BitVec 32 := 1#32
  let v946 : BitVec 32 := Scalar.divsi v944 c1_i32_606
  let v947 : BitVec 32 := Scalar.muli v946 c1_i32_606
  let v948 : BitVec 32 := Scalar.addi c0_i32_605 v947
  let c1_i32_608 : BitVec 32 := 1#32
  let arg27 : BitVec 32 := Scf.iv v948 c1_i32_608 k0_t33
  let c2_i32_622 : BitVec 32 := 2#32
  let v974 : BitVec 32 := Scalar.muli arg27 c2_i32_622
  let v975 : BitVec 32 := Scalar.addi v925 v974
  let c512_i32_623 : BitVec 32 := 512#32
  let v976 : BitVec 32 := Scalar.muli v975 c512_i32_623
  let v977 : BitVec 32 := v976
  let v995 : Index := Scalar.indexCast v977
  let c0_628 : Index := 0#32
  ![0, v995.toNat, 0]
def k0_off48 (i : grid0.Coords) (k0_t33 : Fin (k0_t33_loop i).trips) : Fin 3 → Nat :=
  let c0_629 : Index := 0#32
  let c0_630 : Index := 0#32
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let c4_i32_596 : BitVec 32 := 4#32
  let v924 : BitVec 32 := Scalar.muli v918 c4_i32_596
  let v925 : BitVec 32 := Scalar.addi v900 v924
  let c0_i32_605 : BitVec 32 := 0#32
  let v926 : BitVec 32 := Scalar.subi v18 v925
  let c0_i32_598 : BitVec 32 := 0#32
  let v928 : BitVec 1 := Scalar.cmpi .sgt v926 c0_i32_598
  let v929 : BitVec 32 := Scalar.extui v928
  let c0_i32_599 : BitVec 32 := 0#32
  let v930 : BitVec 1 := Scalar.cmpi .slt v926 c0_i32_599
  let v931 : BitVec 32 := Scalar.extui v930
  let v932 : BitVec 32 := Scalar.subi v929 v931
  let c2_i32_597 : BitVec 32 := 2#32
  let c0_i32_600 : BitVec 32 := 0#32
  let v933 : BitVec 1 := Scalar.cmpi .sgt c2_i32_597 c0_i32_600
  let v934 : BitVec 32 := Scalar.extui v933
  let c0_i32_601 : BitVec 32 := 0#32
  let v935 : BitVec 1 := Scalar.cmpi .slt c2_i32_597 c0_i32_601
  let v936 : BitVec 32 := Scalar.extui v935
  let v937 : BitVec 32 := Scalar.subi v934 v936
  let v938 : BitVec 1 := Scalar.cmpi .ne v932 v937
  let v939 : BitVec 32 := Scalar.remsi v926 c2_i32_597
  let c0_i32_602 : BitVec 32 := 0#32
  let v940 : BitVec 1 := Scalar.cmpi .ne v939 c0_i32_602
  let v941 : BitVec 1 := Scalar.andi v938 v940
  let v927 : BitVec 32 := Scalar.divsi v926 c2_i32_597
  let c1_i32_603 : BitVec 32 := 1#32
  let v942 : BitVec 32 := Scalar.subi v927 c1_i32_603
  let v943 : BitVec 32 := Scalar.select v941 v942 v927
  let v944 : BitVec 32 := Scalar.subi v943 c0_i32_605
  let c1_i32_606 : BitVec 32 := 1#32
  let v946 : BitVec 32 := Scalar.divsi v944 c1_i32_606
  let v947 : BitVec 32 := Scalar.muli v946 c1_i32_606
  let v948 : BitVec 32 := Scalar.addi c0_i32_605 v947
  let c1_i32_608 : BitVec 32 := 1#32
  let arg27 : BitVec 32 := Scf.iv v948 c1_i32_608 k0_t33
  let c2_i32_622 : BitVec 32 := 2#32
  let v974 : BitVec 32 := Scalar.muli arg27 c2_i32_622
  let v975 : BitVec 32 := Scalar.addi v925 v974
  let c512_i32_623 : BitVec 32 := 512#32
  let v976 : BitVec 32 := Scalar.muli v975 c512_i32_623
  let v977 : BitVec 32 := v976
  let v998 : Index := Scalar.indexCast v977
  ![0, 0, v998.toNat]
@[reducible] def k0_t34_loop (i : grid0.Coords) : Scf.Loop 32 :=
  let c0_i32_618 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_583 : BitVec 32 := 0#32
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let c4_i32_596 : BitVec 32 := 4#32
  let v924 : BitVec 32 := Scalar.muli v918 c4_i32_596
  let v925 : BitVec 32 := Scalar.addi v900 v924
  let v926 : BitVec 32 := Scalar.subi v18 v925
  let c0_i32_598 : BitVec 32 := 0#32
  let v928 : BitVec 1 := Scalar.cmpi .sgt v926 c0_i32_598
  let v929 : BitVec 32 := Scalar.extui v928
  let c0_i32_599 : BitVec 32 := 0#32
  let v930 : BitVec 1 := Scalar.cmpi .slt v926 c0_i32_599
  let v931 : BitVec 32 := Scalar.extui v930
  let v932 : BitVec 32 := Scalar.subi v929 v931
  let c2_i32_597 : BitVec 32 := 2#32
  let c0_i32_600 : BitVec 32 := 0#32
  let v933 : BitVec 1 := Scalar.cmpi .sgt c2_i32_597 c0_i32_600
  let v934 : BitVec 32 := Scalar.extui v933
  let c0_i32_601 : BitVec 32 := 0#32
  let v935 : BitVec 1 := Scalar.cmpi .slt c2_i32_597 c0_i32_601
  let v936 : BitVec 32 := Scalar.extui v935
  let v937 : BitVec 32 := Scalar.subi v934 v936
  let v938 : BitVec 1 := Scalar.cmpi .ne v932 v937
  let v939 : BitVec 32 := Scalar.remsi v926 c2_i32_597
  let c0_i32_602 : BitVec 32 := 0#32
  let v940 : BitVec 1 := Scalar.cmpi .ne v939 c0_i32_602
  let v941 : BitVec 1 := Scalar.andi v938 v940
  let v927 : BitVec 32 := Scalar.divsi v926 c2_i32_597
  let c1_i32_603 : BitVec 32 := 1#32
  let v942 : BitVec 32 := Scalar.subi v927 c1_i32_603
  let v943 : BitVec 32 := Scalar.select v941 v942 v927
  let c2_i32_609 : BitVec 32 := 2#32
  let v949 : BitVec 32 := Scalar.muli v943 c2_i32_609
  let v950 : BitVec 32 := Scalar.addi v925 v949
  let v951 : BitVec 32 := Scalar.subi v18 v950
  let c0_i32_611 : BitVec 32 := 0#32
  let v953 : BitVec 1 := Scalar.cmpi .sgt v951 c0_i32_611
  let v954 : BitVec 32 := Scalar.extui v953
  let c0_i32_612 : BitVec 32 := 0#32
  let v955 : BitVec 1 := Scalar.cmpi .slt v951 c0_i32_612
  let v956 : BitVec 32 := Scalar.extui v955
  let v957 : BitVec 32 := Scalar.subi v954 v956
  let c1_i32_610 : BitVec 32 := 1#32
  let c0_i32_613 : BitVec 32 := 0#32
  let v958 : BitVec 1 := Scalar.cmpi .sgt c1_i32_610 c0_i32_613
  let v959 : BitVec 32 := Scalar.extui v958
  let c0_i32_614 : BitVec 32 := 0#32
  let v960 : BitVec 1 := Scalar.cmpi .slt c1_i32_610 c0_i32_614
  let v961 : BitVec 32 := Scalar.extui v960
  let v962 : BitVec 32 := Scalar.subi v959 v961
  let v963 : BitVec 1 := Scalar.cmpi .ne v957 v962
  let v964 : BitVec 32 := Scalar.remsi v951 c1_i32_610
  let c0_i32_615 : BitVec 32 := 0#32
  let v965 : BitVec 1 := Scalar.cmpi .ne v964 c0_i32_615
  let v966 : BitVec 1 := Scalar.andi v963 v965
  let v952 : BitVec 32 := Scalar.divsi v951 c1_i32_610
  let c1_i32_616 : BitVec 32 := 1#32
  let v967 : BitVec 32 := Scalar.subi v952 c1_i32_616
  let v968 : BitVec 32 := Scalar.select v966 v967 v952
  let v969 : BitVec 32 := Scalar.subi v968 c0_i32_618
  let c1_i32_619 : BitVec 32 := 1#32
  let v971 : BitVec 32 := Scalar.divsi v969 c1_i32_619
  let v972 : BitVec 32 := Scalar.muli v971 c1_i32_619
  let v973 : BitVec 32 := Scalar.addi c0_i32_618 v972
  let c1_i32_620 : BitVec 32 := 1#32
  ⟨c0_i32_618, v973, c1_i32_620⟩
def k0_mult29 (i : grid0.Coords) (k0_t34 : Fin (k0_t34_loop i).trips) : BitVec 32 :=
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let c4_i32_596 : BitVec 32 := 4#32
  let v924 : BitVec 32 := Scalar.muli v918 c4_i32_596
  let v925 : BitVec 32 := Scalar.addi v900 v924
  let v926 : BitVec 32 := Scalar.subi v18 v925
  let c0_i32_598 : BitVec 32 := 0#32
  let v928 : BitVec 1 := Scalar.cmpi .sgt v926 c0_i32_598
  let v929 : BitVec 32 := Scalar.extui v928
  let c0_i32_599 : BitVec 32 := 0#32
  let v930 : BitVec 1 := Scalar.cmpi .slt v926 c0_i32_599
  let v931 : BitVec 32 := Scalar.extui v930
  let v932 : BitVec 32 := Scalar.subi v929 v931
  let c2_i32_597 : BitVec 32 := 2#32
  let c0_i32_600 : BitVec 32 := 0#32
  let v933 : BitVec 1 := Scalar.cmpi .sgt c2_i32_597 c0_i32_600
  let v934 : BitVec 32 := Scalar.extui v933
  let c0_i32_601 : BitVec 32 := 0#32
  let v935 : BitVec 1 := Scalar.cmpi .slt c2_i32_597 c0_i32_601
  let v936 : BitVec 32 := Scalar.extui v935
  let v937 : BitVec 32 := Scalar.subi v934 v936
  let v938 : BitVec 1 := Scalar.cmpi .ne v932 v937
  let v939 : BitVec 32 := Scalar.remsi v926 c2_i32_597
  let c0_i32_602 : BitVec 32 := 0#32
  let v940 : BitVec 1 := Scalar.cmpi .ne v939 c0_i32_602
  let v941 : BitVec 1 := Scalar.andi v938 v940
  let v927 : BitVec 32 := Scalar.divsi v926 c2_i32_597
  let c1_i32_603 : BitVec 32 := 1#32
  let v942 : BitVec 32 := Scalar.subi v927 c1_i32_603
  let v943 : BitVec 32 := Scalar.select v941 v942 v927
  let c2_i32_609 : BitVec 32 := 2#32
  let v949 : BitVec 32 := Scalar.muli v943 c2_i32_609
  let v950 : BitVec 32 := Scalar.addi v925 v949
  let c0_i32_618 : BitVec 32 := 0#32
  let c1_i32_620 : BitVec 32 := 1#32
  let arg27 : BitVec 32 := Scf.iv c0_i32_618 c1_i32_620 k0_t34
  let c1_i32_622 : BitVec 32 := 1#32
  let v974 : BitVec 32 := Scalar.muli arg27 c1_i32_622
  let v975 : BitVec 32 := Scalar.addi v950 v974
  let c512_i32_623 : BitVec 32 := 512#32
  let v976 : BitVec 32 := Scalar.muli v975 c512_i32_623
  v976
def k0_off49 (i : grid0.Coords) (k0_t34 : Fin (k0_t34_loop i).trips) : Fin 2 → Nat :=
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let c4_i32_596 : BitVec 32 := 4#32
  let v924 : BitVec 32 := Scalar.muli v918 c4_i32_596
  let v925 : BitVec 32 := Scalar.addi v900 v924
  let v926 : BitVec 32 := Scalar.subi v18 v925
  let c0_i32_598 : BitVec 32 := 0#32
  let v928 : BitVec 1 := Scalar.cmpi .sgt v926 c0_i32_598
  let v929 : BitVec 32 := Scalar.extui v928
  let c0_i32_599 : BitVec 32 := 0#32
  let v930 : BitVec 1 := Scalar.cmpi .slt v926 c0_i32_599
  let v931 : BitVec 32 := Scalar.extui v930
  let v932 : BitVec 32 := Scalar.subi v929 v931
  let c2_i32_597 : BitVec 32 := 2#32
  let c0_i32_600 : BitVec 32 := 0#32
  let v933 : BitVec 1 := Scalar.cmpi .sgt c2_i32_597 c0_i32_600
  let v934 : BitVec 32 := Scalar.extui v933
  let c0_i32_601 : BitVec 32 := 0#32
  let v935 : BitVec 1 := Scalar.cmpi .slt c2_i32_597 c0_i32_601
  let v936 : BitVec 32 := Scalar.extui v935
  let v937 : BitVec 32 := Scalar.subi v934 v936
  let v938 : BitVec 1 := Scalar.cmpi .ne v932 v937
  let v939 : BitVec 32 := Scalar.remsi v926 c2_i32_597
  let c0_i32_602 : BitVec 32 := 0#32
  let v940 : BitVec 1 := Scalar.cmpi .ne v939 c0_i32_602
  let v941 : BitVec 1 := Scalar.andi v938 v940
  let v927 : BitVec 32 := Scalar.divsi v926 c2_i32_597
  let c1_i32_603 : BitVec 32 := 1#32
  let v942 : BitVec 32 := Scalar.subi v927 c1_i32_603
  let v943 : BitVec 32 := Scalar.select v941 v942 v927
  let c2_i32_609 : BitVec 32 := 2#32
  let v949 : BitVec 32 := Scalar.muli v943 c2_i32_609
  let v950 : BitVec 32 := Scalar.addi v925 v949
  let c0_i32_618 : BitVec 32 := 0#32
  let c1_i32_620 : BitVec 32 := 1#32
  let arg27 : BitVec 32 := Scf.iv c0_i32_618 c1_i32_620 k0_t34
  let c1_i32_622 : BitVec 32 := 1#32
  let v974 : BitVec 32 := Scalar.muli arg27 c1_i32_622
  let v975 : BitVec 32 := Scalar.addi v950 v974
  let c512_i32_623 : BitVec 32 := 512#32
  let v976 : BitVec 32 := Scalar.muli v975 c512_i32_623
  let v977 : BitVec 32 := v976
  let v978 : Index := Scalar.indexCast v977
  let c0_624 : Index := 0#32
  ![v978.toNat, 0]
def k0_off50 (i : grid0.Coords) (k0_t34 : Fin (k0_t34_loop i).trips) : Fin 3 → Nat :=
  let c0_627 : Index := 0#32
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let c4_i32_596 : BitVec 32 := 4#32
  let v924 : BitVec 32 := Scalar.muli v918 c4_i32_596
  let v925 : BitVec 32 := Scalar.addi v900 v924
  let v926 : BitVec 32 := Scalar.subi v18 v925
  let c0_i32_598 : BitVec 32 := 0#32
  let v928 : BitVec 1 := Scalar.cmpi .sgt v926 c0_i32_598
  let v929 : BitVec 32 := Scalar.extui v928
  let c0_i32_599 : BitVec 32 := 0#32
  let v930 : BitVec 1 := Scalar.cmpi .slt v926 c0_i32_599
  let v931 : BitVec 32 := Scalar.extui v930
  let v932 : BitVec 32 := Scalar.subi v929 v931
  let c2_i32_597 : BitVec 32 := 2#32
  let c0_i32_600 : BitVec 32 := 0#32
  let v933 : BitVec 1 := Scalar.cmpi .sgt c2_i32_597 c0_i32_600
  let v934 : BitVec 32 := Scalar.extui v933
  let c0_i32_601 : BitVec 32 := 0#32
  let v935 : BitVec 1 := Scalar.cmpi .slt c2_i32_597 c0_i32_601
  let v936 : BitVec 32 := Scalar.extui v935
  let v937 : BitVec 32 := Scalar.subi v934 v936
  let v938 : BitVec 1 := Scalar.cmpi .ne v932 v937
  let v939 : BitVec 32 := Scalar.remsi v926 c2_i32_597
  let c0_i32_602 : BitVec 32 := 0#32
  let v940 : BitVec 1 := Scalar.cmpi .ne v939 c0_i32_602
  let v941 : BitVec 1 := Scalar.andi v938 v940
  let v927 : BitVec 32 := Scalar.divsi v926 c2_i32_597
  let c1_i32_603 : BitVec 32 := 1#32
  let v942 : BitVec 32 := Scalar.subi v927 c1_i32_603
  let v943 : BitVec 32 := Scalar.select v941 v942 v927
  let c2_i32_609 : BitVec 32 := 2#32
  let v949 : BitVec 32 := Scalar.muli v943 c2_i32_609
  let v950 : BitVec 32 := Scalar.addi v925 v949
  let c0_i32_618 : BitVec 32 := 0#32
  let c1_i32_620 : BitVec 32 := 1#32
  let arg27 : BitVec 32 := Scf.iv c0_i32_618 c1_i32_620 k0_t34
  let c1_i32_622 : BitVec 32 := 1#32
  let v974 : BitVec 32 := Scalar.muli arg27 c1_i32_622
  let v975 : BitVec 32 := Scalar.addi v950 v974
  let c512_i32_623 : BitVec 32 := 512#32
  let v976 : BitVec 32 := Scalar.muli v975 c512_i32_623
  let v977 : BitVec 32 := v976
  let v995 : Index := Scalar.indexCast v977
  let c0_628 : Index := 0#32
  ![0, v995.toNat, 0]
def k0_off51 (i : grid0.Coords) (k0_t34 : Fin (k0_t34_loop i).trips) : Fin 3 → Nat :=
  let c0_629 : Index := 0#32
  let c0_630 : Index := 0#32
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let c4_i32_596 : BitVec 32 := 4#32
  let v924 : BitVec 32 := Scalar.muli v918 c4_i32_596
  let v925 : BitVec 32 := Scalar.addi v900 v924
  let v926 : BitVec 32 := Scalar.subi v18 v925
  let c0_i32_598 : BitVec 32 := 0#32
  let v928 : BitVec 1 := Scalar.cmpi .sgt v926 c0_i32_598
  let v929 : BitVec 32 := Scalar.extui v928
  let c0_i32_599 : BitVec 32 := 0#32
  let v930 : BitVec 1 := Scalar.cmpi .slt v926 c0_i32_599
  let v931 : BitVec 32 := Scalar.extui v930
  let v932 : BitVec 32 := Scalar.subi v929 v931
  let c2_i32_597 : BitVec 32 := 2#32
  let c0_i32_600 : BitVec 32 := 0#32
  let v933 : BitVec 1 := Scalar.cmpi .sgt c2_i32_597 c0_i32_600
  let v934 : BitVec 32 := Scalar.extui v933
  let c0_i32_601 : BitVec 32 := 0#32
  let v935 : BitVec 1 := Scalar.cmpi .slt c2_i32_597 c0_i32_601
  let v936 : BitVec 32 := Scalar.extui v935
  let v937 : BitVec 32 := Scalar.subi v934 v936
  let v938 : BitVec 1 := Scalar.cmpi .ne v932 v937
  let v939 : BitVec 32 := Scalar.remsi v926 c2_i32_597
  let c0_i32_602 : BitVec 32 := 0#32
  let v940 : BitVec 1 := Scalar.cmpi .ne v939 c0_i32_602
  let v941 : BitVec 1 := Scalar.andi v938 v940
  let v927 : BitVec 32 := Scalar.divsi v926 c2_i32_597
  let c1_i32_603 : BitVec 32 := 1#32
  let v942 : BitVec 32 := Scalar.subi v927 c1_i32_603
  let v943 : BitVec 32 := Scalar.select v941 v942 v927
  let c2_i32_609 : BitVec 32 := 2#32
  let v949 : BitVec 32 := Scalar.muli v943 c2_i32_609
  let v950 : BitVec 32 := Scalar.addi v925 v949
  let c0_i32_618 : BitVec 32 := 0#32
  let c1_i32_620 : BitVec 32 := 1#32
  let arg27 : BitVec 32 := Scf.iv c0_i32_618 c1_i32_620 k0_t34
  let c1_i32_622 : BitVec 32 := 1#32
  let v974 : BitVec 32 := Scalar.muli arg27 c1_i32_622
  let v975 : BitVec 32 := Scalar.addi v950 v974
  let c512_i32_623 : BitVec 32 := 512#32
  let v976 : BitVec 32 := Scalar.muli v975 c512_i32_623
  let v977 : BitVec 32 := v976
  let v998 : Index := Scalar.indexCast v977
  ![0, 0, v998.toNat]
@[reducible] def k0_t35_loop (i : grid0.Coords) : Scf.Loop 32 :=
  let c0_i32_618 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_583 : BitVec 32 := 0#32
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let c4_i32_596 : BitVec 32 := 4#32
  let v924 : BitVec 32 := Scalar.muli v918 c4_i32_596
  let v925 : BitVec 32 := Scalar.addi v900 v924
  let v926 : BitVec 32 := Scalar.subi v18 v925
  let c0_i32_598 : BitVec 32 := 0#32
  let v928 : BitVec 1 := Scalar.cmpi .sgt v926 c0_i32_598
  let v929 : BitVec 32 := Scalar.extui v928
  let c0_i32_599 : BitVec 32 := 0#32
  let v930 : BitVec 1 := Scalar.cmpi .slt v926 c0_i32_599
  let v931 : BitVec 32 := Scalar.extui v930
  let v932 : BitVec 32 := Scalar.subi v929 v931
  let c2_i32_597 : BitVec 32 := 2#32
  let c0_i32_600 : BitVec 32 := 0#32
  let v933 : BitVec 1 := Scalar.cmpi .sgt c2_i32_597 c0_i32_600
  let v934 : BitVec 32 := Scalar.extui v933
  let c0_i32_601 : BitVec 32 := 0#32
  let v935 : BitVec 1 := Scalar.cmpi .slt c2_i32_597 c0_i32_601
  let v936 : BitVec 32 := Scalar.extui v935
  let v937 : BitVec 32 := Scalar.subi v934 v936
  let v938 : BitVec 1 := Scalar.cmpi .ne v932 v937
  let v939 : BitVec 32 := Scalar.remsi v926 c2_i32_597
  let c0_i32_602 : BitVec 32 := 0#32
  let v940 : BitVec 1 := Scalar.cmpi .ne v939 c0_i32_602
  let v941 : BitVec 1 := Scalar.andi v938 v940
  let v927 : BitVec 32 := Scalar.divsi v926 c2_i32_597
  let c1_i32_603 : BitVec 32 := 1#32
  let v942 : BitVec 32 := Scalar.subi v927 c1_i32_603
  let v943 : BitVec 32 := Scalar.select v941 v942 v927
  let c2_i32_609 : BitVec 32 := 2#32
  let v949 : BitVec 32 := Scalar.muli v943 c2_i32_609
  let v950 : BitVec 32 := Scalar.addi v925 v949
  let v951 : BitVec 32 := Scalar.subi v18 v950
  let c0_i32_611 : BitVec 32 := 0#32
  let v953 : BitVec 1 := Scalar.cmpi .sgt v951 c0_i32_611
  let v954 : BitVec 32 := Scalar.extui v953
  let c0_i32_612 : BitVec 32 := 0#32
  let v955 : BitVec 1 := Scalar.cmpi .slt v951 c0_i32_612
  let v956 : BitVec 32 := Scalar.extui v955
  let v957 : BitVec 32 := Scalar.subi v954 v956
  let c1_i32_610 : BitVec 32 := 1#32
  let c0_i32_613 : BitVec 32 := 0#32
  let v958 : BitVec 1 := Scalar.cmpi .sgt c1_i32_610 c0_i32_613
  let v959 : BitVec 32 := Scalar.extui v958
  let c0_i32_614 : BitVec 32 := 0#32
  let v960 : BitVec 1 := Scalar.cmpi .slt c1_i32_610 c0_i32_614
  let v961 : BitVec 32 := Scalar.extui v960
  let v962 : BitVec 32 := Scalar.subi v959 v961
  let v963 : BitVec 1 := Scalar.cmpi .ne v957 v962
  let v964 : BitVec 32 := Scalar.remsi v951 c1_i32_610
  let c0_i32_615 : BitVec 32 := 0#32
  let v965 : BitVec 1 := Scalar.cmpi .ne v964 c0_i32_615
  let v966 : BitVec 1 := Scalar.andi v963 v965
  let v952 : BitVec 32 := Scalar.divsi v951 c1_i32_610
  let c1_i32_616 : BitVec 32 := 1#32
  let v967 : BitVec 32 := Scalar.subi v952 c1_i32_616
  let v968 : BitVec 32 := Scalar.select v966 v967 v952
  let v969 : BitVec 32 := Scalar.subi v968 c0_i32_618
  let c1_i32_619 : BitVec 32 := 1#32
  let v971 : BitVec 32 := Scalar.divsi v969 c1_i32_619
  let v972 : BitVec 32 := Scalar.muli v971 c1_i32_619
  let v973 : BitVec 32 := Scalar.addi c0_i32_618 v972
  let v970 : BitVec 32 := Scalar.addi c0_i32_618 v969
  let c1_i32_621 : BitVec 32 := 1#32
  ⟨v973, v970, c1_i32_621⟩
def k0_mult30 (i : grid0.Coords) (k0_t35 : Fin (k0_t35_loop i).trips) : BitVec 32 :=
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let c4_i32_596 : BitVec 32 := 4#32
  let v924 : BitVec 32 := Scalar.muli v918 c4_i32_596
  let v925 : BitVec 32 := Scalar.addi v900 v924
  let v926 : BitVec 32 := Scalar.subi v18 v925
  let c0_i32_598 : BitVec 32 := 0#32
  let v928 : BitVec 1 := Scalar.cmpi .sgt v926 c0_i32_598
  let v929 : BitVec 32 := Scalar.extui v928
  let c0_i32_599 : BitVec 32 := 0#32
  let v930 : BitVec 1 := Scalar.cmpi .slt v926 c0_i32_599
  let v931 : BitVec 32 := Scalar.extui v930
  let v932 : BitVec 32 := Scalar.subi v929 v931
  let c2_i32_597 : BitVec 32 := 2#32
  let c0_i32_600 : BitVec 32 := 0#32
  let v933 : BitVec 1 := Scalar.cmpi .sgt c2_i32_597 c0_i32_600
  let v934 : BitVec 32 := Scalar.extui v933
  let c0_i32_601 : BitVec 32 := 0#32
  let v935 : BitVec 1 := Scalar.cmpi .slt c2_i32_597 c0_i32_601
  let v936 : BitVec 32 := Scalar.extui v935
  let v937 : BitVec 32 := Scalar.subi v934 v936
  let v938 : BitVec 1 := Scalar.cmpi .ne v932 v937
  let v939 : BitVec 32 := Scalar.remsi v926 c2_i32_597
  let c0_i32_602 : BitVec 32 := 0#32
  let v940 : BitVec 1 := Scalar.cmpi .ne v939 c0_i32_602
  let v941 : BitVec 1 := Scalar.andi v938 v940
  let v927 : BitVec 32 := Scalar.divsi v926 c2_i32_597
  let c1_i32_603 : BitVec 32 := 1#32
  let v942 : BitVec 32 := Scalar.subi v927 c1_i32_603
  let v943 : BitVec 32 := Scalar.select v941 v942 v927
  let c2_i32_609 : BitVec 32 := 2#32
  let v949 : BitVec 32 := Scalar.muli v943 c2_i32_609
  let v950 : BitVec 32 := Scalar.addi v925 v949
  let c0_i32_618 : BitVec 32 := 0#32
  let v951 : BitVec 32 := Scalar.subi v18 v950
  let c0_i32_611 : BitVec 32 := 0#32
  let v953 : BitVec 1 := Scalar.cmpi .sgt v951 c0_i32_611
  let v954 : BitVec 32 := Scalar.extui v953
  let c0_i32_612 : BitVec 32 := 0#32
  let v955 : BitVec 1 := Scalar.cmpi .slt v951 c0_i32_612
  let v956 : BitVec 32 := Scalar.extui v955
  let v957 : BitVec 32 := Scalar.subi v954 v956
  let c1_i32_610 : BitVec 32 := 1#32
  let c0_i32_613 : BitVec 32 := 0#32
  let v958 : BitVec 1 := Scalar.cmpi .sgt c1_i32_610 c0_i32_613
  let v959 : BitVec 32 := Scalar.extui v958
  let c0_i32_614 : BitVec 32 := 0#32
  let v960 : BitVec 1 := Scalar.cmpi .slt c1_i32_610 c0_i32_614
  let v961 : BitVec 32 := Scalar.extui v960
  let v962 : BitVec 32 := Scalar.subi v959 v961
  let v963 : BitVec 1 := Scalar.cmpi .ne v957 v962
  let v964 : BitVec 32 := Scalar.remsi v951 c1_i32_610
  let c0_i32_615 : BitVec 32 := 0#32
  let v965 : BitVec 1 := Scalar.cmpi .ne v964 c0_i32_615
  let v966 : BitVec 1 := Scalar.andi v963 v965
  let v952 : BitVec 32 := Scalar.divsi v951 c1_i32_610
  let c1_i32_616 : BitVec 32 := 1#32
  let v967 : BitVec 32 := Scalar.subi v952 c1_i32_616
  let v968 : BitVec 32 := Scalar.select v966 v967 v952
  let v969 : BitVec 32 := Scalar.subi v968 c0_i32_618
  let c1_i32_619 : BitVec 32 := 1#32
  let v971 : BitVec 32 := Scalar.divsi v969 c1_i32_619
  let v972 : BitVec 32 := Scalar.muli v971 c1_i32_619
  let v973 : BitVec 32 := Scalar.addi c0_i32_618 v972
  let c1_i32_621 : BitVec 32 := 1#32
  let arg27 : BitVec 32 := Scf.iv v973 c1_i32_621 k0_t35
  let c1_i32_622 : BitVec 32 := 1#32
  let v974 : BitVec 32 := Scalar.muli arg27 c1_i32_622
  let v975 : BitVec 32 := Scalar.addi v950 v974
  let c512_i32_623 : BitVec 32 := 512#32
  let v976 : BitVec 32 := Scalar.muli v975 c512_i32_623
  v976
def k0_off52 (i : grid0.Coords) (k0_t35 : Fin (k0_t35_loop i).trips) : Fin 2 → Nat :=
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let c4_i32_596 : BitVec 32 := 4#32
  let v924 : BitVec 32 := Scalar.muli v918 c4_i32_596
  let v925 : BitVec 32 := Scalar.addi v900 v924
  let v926 : BitVec 32 := Scalar.subi v18 v925
  let c0_i32_598 : BitVec 32 := 0#32
  let v928 : BitVec 1 := Scalar.cmpi .sgt v926 c0_i32_598
  let v929 : BitVec 32 := Scalar.extui v928
  let c0_i32_599 : BitVec 32 := 0#32
  let v930 : BitVec 1 := Scalar.cmpi .slt v926 c0_i32_599
  let v931 : BitVec 32 := Scalar.extui v930
  let v932 : BitVec 32 := Scalar.subi v929 v931
  let c2_i32_597 : BitVec 32 := 2#32
  let c0_i32_600 : BitVec 32 := 0#32
  let v933 : BitVec 1 := Scalar.cmpi .sgt c2_i32_597 c0_i32_600
  let v934 : BitVec 32 := Scalar.extui v933
  let c0_i32_601 : BitVec 32 := 0#32
  let v935 : BitVec 1 := Scalar.cmpi .slt c2_i32_597 c0_i32_601
  let v936 : BitVec 32 := Scalar.extui v935
  let v937 : BitVec 32 := Scalar.subi v934 v936
  let v938 : BitVec 1 := Scalar.cmpi .ne v932 v937
  let v939 : BitVec 32 := Scalar.remsi v926 c2_i32_597
  let c0_i32_602 : BitVec 32 := 0#32
  let v940 : BitVec 1 := Scalar.cmpi .ne v939 c0_i32_602
  let v941 : BitVec 1 := Scalar.andi v938 v940
  let v927 : BitVec 32 := Scalar.divsi v926 c2_i32_597
  let c1_i32_603 : BitVec 32 := 1#32
  let v942 : BitVec 32 := Scalar.subi v927 c1_i32_603
  let v943 : BitVec 32 := Scalar.select v941 v942 v927
  let c2_i32_609 : BitVec 32 := 2#32
  let v949 : BitVec 32 := Scalar.muli v943 c2_i32_609
  let v950 : BitVec 32 := Scalar.addi v925 v949
  let c0_i32_618 : BitVec 32 := 0#32
  let v951 : BitVec 32 := Scalar.subi v18 v950
  let c0_i32_611 : BitVec 32 := 0#32
  let v953 : BitVec 1 := Scalar.cmpi .sgt v951 c0_i32_611
  let v954 : BitVec 32 := Scalar.extui v953
  let c0_i32_612 : BitVec 32 := 0#32
  let v955 : BitVec 1 := Scalar.cmpi .slt v951 c0_i32_612
  let v956 : BitVec 32 := Scalar.extui v955
  let v957 : BitVec 32 := Scalar.subi v954 v956
  let c1_i32_610 : BitVec 32 := 1#32
  let c0_i32_613 : BitVec 32 := 0#32
  let v958 : BitVec 1 := Scalar.cmpi .sgt c1_i32_610 c0_i32_613
  let v959 : BitVec 32 := Scalar.extui v958
  let c0_i32_614 : BitVec 32 := 0#32
  let v960 : BitVec 1 := Scalar.cmpi .slt c1_i32_610 c0_i32_614
  let v961 : BitVec 32 := Scalar.extui v960
  let v962 : BitVec 32 := Scalar.subi v959 v961
  let v963 : BitVec 1 := Scalar.cmpi .ne v957 v962
  let v964 : BitVec 32 := Scalar.remsi v951 c1_i32_610
  let c0_i32_615 : BitVec 32 := 0#32
  let v965 : BitVec 1 := Scalar.cmpi .ne v964 c0_i32_615
  let v966 : BitVec 1 := Scalar.andi v963 v965
  let v952 : BitVec 32 := Scalar.divsi v951 c1_i32_610
  let c1_i32_616 : BitVec 32 := 1#32
  let v967 : BitVec 32 := Scalar.subi v952 c1_i32_616
  let v968 : BitVec 32 := Scalar.select v966 v967 v952
  let v969 : BitVec 32 := Scalar.subi v968 c0_i32_618
  let c1_i32_619 : BitVec 32 := 1#32
  let v971 : BitVec 32 := Scalar.divsi v969 c1_i32_619
  let v972 : BitVec 32 := Scalar.muli v971 c1_i32_619
  let v973 : BitVec 32 := Scalar.addi c0_i32_618 v972
  let c1_i32_621 : BitVec 32 := 1#32
  let arg27 : BitVec 32 := Scf.iv v973 c1_i32_621 k0_t35
  let c1_i32_622 : BitVec 32 := 1#32
  let v974 : BitVec 32 := Scalar.muli arg27 c1_i32_622
  let v975 : BitVec 32 := Scalar.addi v950 v974
  let c512_i32_623 : BitVec 32 := 512#32
  let v976 : BitVec 32 := Scalar.muli v975 c512_i32_623
  let v977 : BitVec 32 := v976
  let v978 : Index := Scalar.indexCast v977
  let c0_624 : Index := 0#32
  ![v978.toNat, 0]
def k0_off53 (i : grid0.Coords) (k0_t35 : Fin (k0_t35_loop i).trips) : Fin 3 → Nat :=
  let c0_627 : Index := 0#32
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let c4_i32_596 : BitVec 32 := 4#32
  let v924 : BitVec 32 := Scalar.muli v918 c4_i32_596
  let v925 : BitVec 32 := Scalar.addi v900 v924
  let v926 : BitVec 32 := Scalar.subi v18 v925
  let c0_i32_598 : BitVec 32 := 0#32
  let v928 : BitVec 1 := Scalar.cmpi .sgt v926 c0_i32_598
  let v929 : BitVec 32 := Scalar.extui v928
  let c0_i32_599 : BitVec 32 := 0#32
  let v930 : BitVec 1 := Scalar.cmpi .slt v926 c0_i32_599
  let v931 : BitVec 32 := Scalar.extui v930
  let v932 : BitVec 32 := Scalar.subi v929 v931
  let c2_i32_597 : BitVec 32 := 2#32
  let c0_i32_600 : BitVec 32 := 0#32
  let v933 : BitVec 1 := Scalar.cmpi .sgt c2_i32_597 c0_i32_600
  let v934 : BitVec 32 := Scalar.extui v933
  let c0_i32_601 : BitVec 32 := 0#32
  let v935 : BitVec 1 := Scalar.cmpi .slt c2_i32_597 c0_i32_601
  let v936 : BitVec 32 := Scalar.extui v935
  let v937 : BitVec 32 := Scalar.subi v934 v936
  let v938 : BitVec 1 := Scalar.cmpi .ne v932 v937
  let v939 : BitVec 32 := Scalar.remsi v926 c2_i32_597
  let c0_i32_602 : BitVec 32 := 0#32
  let v940 : BitVec 1 := Scalar.cmpi .ne v939 c0_i32_602
  let v941 : BitVec 1 := Scalar.andi v938 v940
  let v927 : BitVec 32 := Scalar.divsi v926 c2_i32_597
  let c1_i32_603 : BitVec 32 := 1#32
  let v942 : BitVec 32 := Scalar.subi v927 c1_i32_603
  let v943 : BitVec 32 := Scalar.select v941 v942 v927
  let c2_i32_609 : BitVec 32 := 2#32
  let v949 : BitVec 32 := Scalar.muli v943 c2_i32_609
  let v950 : BitVec 32 := Scalar.addi v925 v949
  let c0_i32_618 : BitVec 32 := 0#32
  let v951 : BitVec 32 := Scalar.subi v18 v950
  let c0_i32_611 : BitVec 32 := 0#32
  let v953 : BitVec 1 := Scalar.cmpi .sgt v951 c0_i32_611
  let v954 : BitVec 32 := Scalar.extui v953
  let c0_i32_612 : BitVec 32 := 0#32
  let v955 : BitVec 1 := Scalar.cmpi .slt v951 c0_i32_612
  let v956 : BitVec 32 := Scalar.extui v955
  let v957 : BitVec 32 := Scalar.subi v954 v956
  let c1_i32_610 : BitVec 32 := 1#32
  let c0_i32_613 : BitVec 32 := 0#32
  let v958 : BitVec 1 := Scalar.cmpi .sgt c1_i32_610 c0_i32_613
  let v959 : BitVec 32 := Scalar.extui v958
  let c0_i32_614 : BitVec 32 := 0#32
  let v960 : BitVec 1 := Scalar.cmpi .slt c1_i32_610 c0_i32_614
  let v961 : BitVec 32 := Scalar.extui v960
  let v962 : BitVec 32 := Scalar.subi v959 v961
  let v963 : BitVec 1 := Scalar.cmpi .ne v957 v962
  let v964 : BitVec 32 := Scalar.remsi v951 c1_i32_610
  let c0_i32_615 : BitVec 32 := 0#32
  let v965 : BitVec 1 := Scalar.cmpi .ne v964 c0_i32_615
  let v966 : BitVec 1 := Scalar.andi v963 v965
  let v952 : BitVec 32 := Scalar.divsi v951 c1_i32_610
  let c1_i32_616 : BitVec 32 := 1#32
  let v967 : BitVec 32 := Scalar.subi v952 c1_i32_616
  let v968 : BitVec 32 := Scalar.select v966 v967 v952
  let v969 : BitVec 32 := Scalar.subi v968 c0_i32_618
  let c1_i32_619 : BitVec 32 := 1#32
  let v971 : BitVec 32 := Scalar.divsi v969 c1_i32_619
  let v972 : BitVec 32 := Scalar.muli v971 c1_i32_619
  let v973 : BitVec 32 := Scalar.addi c0_i32_618 v972
  let c1_i32_621 : BitVec 32 := 1#32
  let arg27 : BitVec 32 := Scf.iv v973 c1_i32_621 k0_t35
  let c1_i32_622 : BitVec 32 := 1#32
  let v974 : BitVec 32 := Scalar.muli arg27 c1_i32_622
  let v975 : BitVec 32 := Scalar.addi v950 v974
  let c512_i32_623 : BitVec 32 := 512#32
  let v976 : BitVec 32 := Scalar.muli v975 c512_i32_623
  let v977 : BitVec 32 := v976
  let v995 : Index := Scalar.indexCast v977
  let c0_628 : Index := 0#32
  ![0, v995.toNat, 0]
def k0_off54 (i : grid0.Coords) (k0_t35 : Fin (k0_t35_loop i).trips) : Fin 3 → Nat :=
  let c0_629 : Index := 0#32
  let c0_630 : Index := 0#32
  let c0_i32_583 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c8_i32_570 : BitVec 32 := 8#32
  let c0_i32_573 : BitVec 32 := 0#32
  let v883 : BitVec 1 := Scalar.cmpi .sgt c8_i32_570 c0_i32_573
  let v884 : BitVec 32 := Scalar.extui v883
  let c0_i32_574 : BitVec 32 := 0#32
  let v885 : BitVec 1 := Scalar.cmpi .slt c8_i32_570 c0_i32_574
  let v886 : BitVec 32 := Scalar.extui v885
  let v887 : BitVec 32 := Scalar.subi v884 v886
  let v888 : BitVec 1 := Scalar.cmpi .ne v882 v887
  let v889 : BitVec 32 := Scalar.remsi v876 c8_i32_570
  let c0_i32_575 : BitVec 32 := 0#32
  let v890 : BitVec 1 := Scalar.cmpi .ne v889 c0_i32_575
  let v891 : BitVec 1 := Scalar.andi v888 v890
  let v877 : BitVec 32 := Scalar.divsi v876 c8_i32_570
  let c1_i32_576 : BitVec 32 := 1#32
  let v892 : BitVec 32 := Scalar.subi v877 c1_i32_576
  let v893 : BitVec 32 := Scalar.select v891 v892 v877
  let c8_i32_582 : BitVec 32 := 8#32
  let v899 : BitVec 32 := Scalar.muli v893 c8_i32_582
  let v900 : BitVec 32 := Scalar.addi c0_i32_583 v899
  let v901 : BitVec 32 := Scalar.subi v18 v900
  let c0_i32_585 : BitVec 32 := 0#32
  let v903 : BitVec 1 := Scalar.cmpi .sgt v901 c0_i32_585
  let v904 : BitVec 32 := Scalar.extui v903
  let c0_i32_586 : BitVec 32 := 0#32
  let v905 : BitVec 1 := Scalar.cmpi .slt v901 c0_i32_586
  let v906 : BitVec 32 := Scalar.extui v905
  let v907 : BitVec 32 := Scalar.subi v904 v906
  let c4_i32_584 : BitVec 32 := 4#32
  let c0_i32_587 : BitVec 32 := 0#32
  let v908 : BitVec 1 := Scalar.cmpi .sgt c4_i32_584 c0_i32_587
  let v909 : BitVec 32 := Scalar.extui v908
  let c0_i32_588 : BitVec 32 := 0#32
  let v910 : BitVec 1 := Scalar.cmpi .slt c4_i32_584 c0_i32_588
  let v911 : BitVec 32 := Scalar.extui v910
  let v912 : BitVec 32 := Scalar.subi v909 v911
  let v913 : BitVec 1 := Scalar.cmpi .ne v907 v912
  let v914 : BitVec 32 := Scalar.remsi v901 c4_i32_584
  let c0_i32_589 : BitVec 32 := 0#32
  let v915 : BitVec 1 := Scalar.cmpi .ne v914 c0_i32_589
  let v916 : BitVec 1 := Scalar.andi v913 v915
  let v902 : BitVec 32 := Scalar.divsi v901 c4_i32_584
  let c1_i32_590 : BitVec 32 := 1#32
  let v917 : BitVec 32 := Scalar.subi v902 c1_i32_590
  let v918 : BitVec 32 := Scalar.select v916 v917 v902
  let c4_i32_596 : BitVec 32 := 4#32
  let v924 : BitVec 32 := Scalar.muli v918 c4_i32_596
  let v925 : BitVec 32 := Scalar.addi v900 v924
  let v926 : BitVec 32 := Scalar.subi v18 v925
  let c0_i32_598 : BitVec 32 := 0#32
  let v928 : BitVec 1 := Scalar.cmpi .sgt v926 c0_i32_598
  let v929 : BitVec 32 := Scalar.extui v928
  let c0_i32_599 : BitVec 32 := 0#32
  let v930 : BitVec 1 := Scalar.cmpi .slt v926 c0_i32_599
  let v931 : BitVec 32 := Scalar.extui v930
  let v932 : BitVec 32 := Scalar.subi v929 v931
  let c2_i32_597 : BitVec 32 := 2#32
  let c0_i32_600 : BitVec 32 := 0#32
  let v933 : BitVec 1 := Scalar.cmpi .sgt c2_i32_597 c0_i32_600
  let v934 : BitVec 32 := Scalar.extui v933
  let c0_i32_601 : BitVec 32 := 0#32
  let v935 : BitVec 1 := Scalar.cmpi .slt c2_i32_597 c0_i32_601
  let v936 : BitVec 32 := Scalar.extui v935
  let v937 : BitVec 32 := Scalar.subi v934 v936
  let v938 : BitVec 1 := Scalar.cmpi .ne v932 v937
  let v939 : BitVec 32 := Scalar.remsi v926 c2_i32_597
  let c0_i32_602 : BitVec 32 := 0#32
  let v940 : BitVec 1 := Scalar.cmpi .ne v939 c0_i32_602
  let v941 : BitVec 1 := Scalar.andi v938 v940
  let v927 : BitVec 32 := Scalar.divsi v926 c2_i32_597
  let c1_i32_603 : BitVec 32 := 1#32
  let v942 : BitVec 32 := Scalar.subi v927 c1_i32_603
  let v943 : BitVec 32 := Scalar.select v941 v942 v927
  let c2_i32_609 : BitVec 32 := 2#32
  let v949 : BitVec 32 := Scalar.muli v943 c2_i32_609
  let v950 : BitVec 32 := Scalar.addi v925 v949
  let c0_i32_618 : BitVec 32 := 0#32
  let v951 : BitVec 32 := Scalar.subi v18 v950
  let c0_i32_611 : BitVec 32 := 0#32
  let v953 : BitVec 1 := Scalar.cmpi .sgt v951 c0_i32_611
  let v954 : BitVec 32 := Scalar.extui v953
  let c0_i32_612 : BitVec 32 := 0#32
  let v955 : BitVec 1 := Scalar.cmpi .slt v951 c0_i32_612
  let v956 : BitVec 32 := Scalar.extui v955
  let v957 : BitVec 32 := Scalar.subi v954 v956
  let c1_i32_610 : BitVec 32 := 1#32
  let c0_i32_613 : BitVec 32 := 0#32
  let v958 : BitVec 1 := Scalar.cmpi .sgt c1_i32_610 c0_i32_613
  let v959 : BitVec 32 := Scalar.extui v958
  let c0_i32_614 : BitVec 32 := 0#32
  let v960 : BitVec 1 := Scalar.cmpi .slt c1_i32_610 c0_i32_614
  let v961 : BitVec 32 := Scalar.extui v960
  let v962 : BitVec 32 := Scalar.subi v959 v961
  let v963 : BitVec 1 := Scalar.cmpi .ne v957 v962
  let v964 : BitVec 32 := Scalar.remsi v951 c1_i32_610
  let c0_i32_615 : BitVec 32 := 0#32
  let v965 : BitVec 1 := Scalar.cmpi .ne v964 c0_i32_615
  let v966 : BitVec 1 := Scalar.andi v963 v965
  let v952 : BitVec 32 := Scalar.divsi v951 c1_i32_610
  let c1_i32_616 : BitVec 32 := 1#32
  let v967 : BitVec 32 := Scalar.subi v952 c1_i32_616
  let v968 : BitVec 32 := Scalar.select v966 v967 v952
  let v969 : BitVec 32 := Scalar.subi v968 c0_i32_618
  let c1_i32_619 : BitVec 32 := 1#32
  let v971 : BitVec 32 := Scalar.divsi v969 c1_i32_619
  let v972 : BitVec 32 := Scalar.muli v971 c1_i32_619
  let v973 : BitVec 32 := Scalar.addi c0_i32_618 v972
  let c1_i32_621 : BitVec 32 := 1#32
  let arg27 : BitVec 32 := Scf.iv v973 c1_i32_621 k0_t35
  let c1_i32_622 : BitVec 32 := 1#32
  let v974 : BitVec 32 := Scalar.muli arg27 c1_i32_622
  let v975 : BitVec 32 := Scalar.addi v950 v974
  let c512_i32_623 : BitVec 32 := 512#32
  let v976 : BitVec 32 := Scalar.muli v975 c512_i32_623
  let v977 : BitVec 32 := v976
  let v998 : Index := Scalar.indexCast v977
  ![0, 0, v998.toNat]
@[reducible] def k0_t36_loop (i : grid0.Coords) : Scf.Loop 32 :=
  let c0_i32_578 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c1_i32_570 : BitVec 32 := 1#32
  let c0_i32_573 : BitVec 32 := 0#32
  let v883 : BitVec 1 := Scalar.cmpi .sgt c1_i32_570 c0_i32_573
  let v884 : BitVec 32 := Scalar.extui v883
  let c0_i32_574 : BitVec 32 := 0#32
  let v885 : BitVec 1 := Scalar.cmpi .slt c1_i32_570 c0_i32_574
  let v886 : BitVec 32 := Scalar.extui v885
  let v887 : BitVec 32 := Scalar.subi v884 v886
  let v888 : BitVec 1 := Scalar.cmpi .ne v882 v887
  let v889 : BitVec 32 := Scalar.remsi v876 c1_i32_570
  let c0_i32_575 : BitVec 32 := 0#32
  let v890 : BitVec 1 := Scalar.cmpi .ne v889 c0_i32_575
  let v891 : BitVec 1 := Scalar.andi v888 v890
  let v877 : BitVec 32 := Scalar.divsi v876 c1_i32_570
  let c1_i32_576 : BitVec 32 := 1#32
  let v892 : BitVec 32 := Scalar.subi v877 c1_i32_576
  let v893 : BitVec 32 := Scalar.select v891 v892 v877
  let v894 : BitVec 32 := Scalar.subi v893 c0_i32_578
  let c1_i32_579 : BitVec 32 := 1#32
  let v896 : BitVec 32 := Scalar.divsi v894 c1_i32_579
  let v897 : BitVec 32 := Scalar.muli v896 c1_i32_579
  let v898 : BitVec 32 := Scalar.addi c0_i32_578 v897
  let c1_i32_580 : BitVec 32 := 1#32
  ⟨c0_i32_578, v898, c1_i32_580⟩
def k0_mult31 (i : grid0.Coords) (k0_t36 : Fin (k0_t36_loop i).trips) : BitVec 32 :=
  let c0_i32_583 : BitVec 32 := 0#32
  let c0_i32_578 : BitVec 32 := 0#32
  let c1_i32_580 : BitVec 32 := 1#32
  let arg27 : BitVec 32 := Scf.iv c0_i32_578 c1_i32_580 k0_t36
  let c1_i32_582 : BitVec 32 := 1#32
  let v899 : BitVec 32 := Scalar.muli arg27 c1_i32_582
  let v900 : BitVec 32 := Scalar.addi c0_i32_583 v899
  let c512_i32_584 : BitVec 32 := 512#32
  let v901 : BitVec 32 := Scalar.muli v900 c512_i32_584
  v901
def k0_off55 (i : grid0.Coords) (k0_t36 : Fin (k0_t36_loop i).trips) : Fin 2 → Nat :=
  let c0_i32_583 : BitVec 32 := 0#32
  let c0_i32_578 : BitVec 32 := 0#32
  let c1_i32_580 : BitVec 32 := 1#32
  let arg27 : BitVec 32 := Scf.iv c0_i32_578 c1_i32_580 k0_t36
  let c1_i32_582 : BitVec 32 := 1#32
  let v899 : BitVec 32 := Scalar.muli arg27 c1_i32_582
  let v900 : BitVec 32 := Scalar.addi c0_i32_583 v899
  let c512_i32_584 : BitVec 32 := 512#32
  let v901 : BitVec 32 := Scalar.muli v900 c512_i32_584
  let v902 : BitVec 32 := v901
  let v903 : Index := Scalar.indexCast v902
  let c0_585 : Index := 0#32
  ![v903.toNat, 0]
def k0_off56 (i : grid0.Coords) (k0_t36 : Fin (k0_t36_loop i).trips) : Fin 3 → Nat :=
  let c0_588 : Index := 0#32
  let c0_i32_583 : BitVec 32 := 0#32
  let c0_i32_578 : BitVec 32 := 0#32
  let c1_i32_580 : BitVec 32 := 1#32
  let arg27 : BitVec 32 := Scf.iv c0_i32_578 c1_i32_580 k0_t36
  let c1_i32_582 : BitVec 32 := 1#32
  let v899 : BitVec 32 := Scalar.muli arg27 c1_i32_582
  let v900 : BitVec 32 := Scalar.addi c0_i32_583 v899
  let c512_i32_584 : BitVec 32 := 512#32
  let v901 : BitVec 32 := Scalar.muli v900 c512_i32_584
  let v902 : BitVec 32 := v901
  let v920 : Index := Scalar.indexCast v902
  let c0_589 : Index := 0#32
  ![0, v920.toNat, 0]
def k0_off57 (i : grid0.Coords) (k0_t36 : Fin (k0_t36_loop i).trips) : Fin 3 → Nat :=
  let c0_590 : Index := 0#32
  let c0_591 : Index := 0#32
  let c0_i32_583 : BitVec 32 := 0#32
  let c0_i32_578 : BitVec 32 := 0#32
  let c1_i32_580 : BitVec 32 := 1#32
  let arg27 : BitVec 32 := Scf.iv c0_i32_578 c1_i32_580 k0_t36
  let c1_i32_582 : BitVec 32 := 1#32
  let v899 : BitVec 32 := Scalar.muli arg27 c1_i32_582
  let v900 : BitVec 32 := Scalar.addi c0_i32_583 v899
  let c512_i32_584 : BitVec 32 := 512#32
  let v901 : BitVec 32 := Scalar.muli v900 c512_i32_584
  let v902 : BitVec 32 := v901
  let v923 : Index := Scalar.indexCast v902
  ![0, 0, v923.toNat]
@[reducible] def k0_t37_loop (i : grid0.Coords) : Scf.Loop 32 :=
  let c0_i32_578 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c1_i32_570 : BitVec 32 := 1#32
  let c0_i32_573 : BitVec 32 := 0#32
  let v883 : BitVec 1 := Scalar.cmpi .sgt c1_i32_570 c0_i32_573
  let v884 : BitVec 32 := Scalar.extui v883
  let c0_i32_574 : BitVec 32 := 0#32
  let v885 : BitVec 1 := Scalar.cmpi .slt c1_i32_570 c0_i32_574
  let v886 : BitVec 32 := Scalar.extui v885
  let v887 : BitVec 32 := Scalar.subi v884 v886
  let v888 : BitVec 1 := Scalar.cmpi .ne v882 v887
  let v889 : BitVec 32 := Scalar.remsi v876 c1_i32_570
  let c0_i32_575 : BitVec 32 := 0#32
  let v890 : BitVec 1 := Scalar.cmpi .ne v889 c0_i32_575
  let v891 : BitVec 1 := Scalar.andi v888 v890
  let v877 : BitVec 32 := Scalar.divsi v876 c1_i32_570
  let c1_i32_576 : BitVec 32 := 1#32
  let v892 : BitVec 32 := Scalar.subi v877 c1_i32_576
  let v893 : BitVec 32 := Scalar.select v891 v892 v877
  let v894 : BitVec 32 := Scalar.subi v893 c0_i32_578
  let c1_i32_579 : BitVec 32 := 1#32
  let v896 : BitVec 32 := Scalar.divsi v894 c1_i32_579
  let v897 : BitVec 32 := Scalar.muli v896 c1_i32_579
  let v898 : BitVec 32 := Scalar.addi c0_i32_578 v897
  let v895 : BitVec 32 := Scalar.addi c0_i32_578 v894
  let c1_i32_581 : BitVec 32 := 1#32
  ⟨v898, v895, c1_i32_581⟩
def k0_mult32 (i : grid0.Coords) (k0_t37 : Fin (k0_t37_loop i).trips) : BitVec 32 :=
  let c0_i32_583 : BitVec 32 := 0#32
  let c0_i32_578 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c1_i32_570 : BitVec 32 := 1#32
  let c0_i32_573 : BitVec 32 := 0#32
  let v883 : BitVec 1 := Scalar.cmpi .sgt c1_i32_570 c0_i32_573
  let v884 : BitVec 32 := Scalar.extui v883
  let c0_i32_574 : BitVec 32 := 0#32
  let v885 : BitVec 1 := Scalar.cmpi .slt c1_i32_570 c0_i32_574
  let v886 : BitVec 32 := Scalar.extui v885
  let v887 : BitVec 32 := Scalar.subi v884 v886
  let v888 : BitVec 1 := Scalar.cmpi .ne v882 v887
  let v889 : BitVec 32 := Scalar.remsi v876 c1_i32_570
  let c0_i32_575 : BitVec 32 := 0#32
  let v890 : BitVec 1 := Scalar.cmpi .ne v889 c0_i32_575
  let v891 : BitVec 1 := Scalar.andi v888 v890
  let v877 : BitVec 32 := Scalar.divsi v876 c1_i32_570
  let c1_i32_576 : BitVec 32 := 1#32
  let v892 : BitVec 32 := Scalar.subi v877 c1_i32_576
  let v893 : BitVec 32 := Scalar.select v891 v892 v877
  let v894 : BitVec 32 := Scalar.subi v893 c0_i32_578
  let c1_i32_579 : BitVec 32 := 1#32
  let v896 : BitVec 32 := Scalar.divsi v894 c1_i32_579
  let v897 : BitVec 32 := Scalar.muli v896 c1_i32_579
  let v898 : BitVec 32 := Scalar.addi c0_i32_578 v897
  let c1_i32_581 : BitVec 32 := 1#32
  let arg27 : BitVec 32 := Scf.iv v898 c1_i32_581 k0_t37
  let c1_i32_582 : BitVec 32 := 1#32
  let v899 : BitVec 32 := Scalar.muli arg27 c1_i32_582
  let v900 : BitVec 32 := Scalar.addi c0_i32_583 v899
  let c512_i32_584 : BitVec 32 := 512#32
  let v901 : BitVec 32 := Scalar.muli v900 c512_i32_584
  v901
def k0_off58 (i : grid0.Coords) (k0_t37 : Fin (k0_t37_loop i).trips) : Fin 2 → Nat :=
  let c0_i32_583 : BitVec 32 := 0#32
  let c0_i32_578 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c1_i32_570 : BitVec 32 := 1#32
  let c0_i32_573 : BitVec 32 := 0#32
  let v883 : BitVec 1 := Scalar.cmpi .sgt c1_i32_570 c0_i32_573
  let v884 : BitVec 32 := Scalar.extui v883
  let c0_i32_574 : BitVec 32 := 0#32
  let v885 : BitVec 1 := Scalar.cmpi .slt c1_i32_570 c0_i32_574
  let v886 : BitVec 32 := Scalar.extui v885
  let v887 : BitVec 32 := Scalar.subi v884 v886
  let v888 : BitVec 1 := Scalar.cmpi .ne v882 v887
  let v889 : BitVec 32 := Scalar.remsi v876 c1_i32_570
  let c0_i32_575 : BitVec 32 := 0#32
  let v890 : BitVec 1 := Scalar.cmpi .ne v889 c0_i32_575
  let v891 : BitVec 1 := Scalar.andi v888 v890
  let v877 : BitVec 32 := Scalar.divsi v876 c1_i32_570
  let c1_i32_576 : BitVec 32 := 1#32
  let v892 : BitVec 32 := Scalar.subi v877 c1_i32_576
  let v893 : BitVec 32 := Scalar.select v891 v892 v877
  let v894 : BitVec 32 := Scalar.subi v893 c0_i32_578
  let c1_i32_579 : BitVec 32 := 1#32
  let v896 : BitVec 32 := Scalar.divsi v894 c1_i32_579
  let v897 : BitVec 32 := Scalar.muli v896 c1_i32_579
  let v898 : BitVec 32 := Scalar.addi c0_i32_578 v897
  let c1_i32_581 : BitVec 32 := 1#32
  let arg27 : BitVec 32 := Scf.iv v898 c1_i32_581 k0_t37
  let c1_i32_582 : BitVec 32 := 1#32
  let v899 : BitVec 32 := Scalar.muli arg27 c1_i32_582
  let v900 : BitVec 32 := Scalar.addi c0_i32_583 v899
  let c512_i32_584 : BitVec 32 := 512#32
  let v901 : BitVec 32 := Scalar.muli v900 c512_i32_584
  let v902 : BitVec 32 := v901
  let v903 : Index := Scalar.indexCast v902
  let c0_585 : Index := 0#32
  ![v903.toNat, 0]
def k0_off59 (i : grid0.Coords) (k0_t37 : Fin (k0_t37_loop i).trips) : Fin 3 → Nat :=
  let c0_588 : Index := 0#32
  let c0_i32_583 : BitVec 32 := 0#32
  let c0_i32_578 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c1_i32_570 : BitVec 32 := 1#32
  let c0_i32_573 : BitVec 32 := 0#32
  let v883 : BitVec 1 := Scalar.cmpi .sgt c1_i32_570 c0_i32_573
  let v884 : BitVec 32 := Scalar.extui v883
  let c0_i32_574 : BitVec 32 := 0#32
  let v885 : BitVec 1 := Scalar.cmpi .slt c1_i32_570 c0_i32_574
  let v886 : BitVec 32 := Scalar.extui v885
  let v887 : BitVec 32 := Scalar.subi v884 v886
  let v888 : BitVec 1 := Scalar.cmpi .ne v882 v887
  let v889 : BitVec 32 := Scalar.remsi v876 c1_i32_570
  let c0_i32_575 : BitVec 32 := 0#32
  let v890 : BitVec 1 := Scalar.cmpi .ne v889 c0_i32_575
  let v891 : BitVec 1 := Scalar.andi v888 v890
  let v877 : BitVec 32 := Scalar.divsi v876 c1_i32_570
  let c1_i32_576 : BitVec 32 := 1#32
  let v892 : BitVec 32 := Scalar.subi v877 c1_i32_576
  let v893 : BitVec 32 := Scalar.select v891 v892 v877
  let v894 : BitVec 32 := Scalar.subi v893 c0_i32_578
  let c1_i32_579 : BitVec 32 := 1#32
  let v896 : BitVec 32 := Scalar.divsi v894 c1_i32_579
  let v897 : BitVec 32 := Scalar.muli v896 c1_i32_579
  let v898 : BitVec 32 := Scalar.addi c0_i32_578 v897
  let c1_i32_581 : BitVec 32 := 1#32
  let arg27 : BitVec 32 := Scf.iv v898 c1_i32_581 k0_t37
  let c1_i32_582 : BitVec 32 := 1#32
  let v899 : BitVec 32 := Scalar.muli arg27 c1_i32_582
  let v900 : BitVec 32 := Scalar.addi c0_i32_583 v899
  let c512_i32_584 : BitVec 32 := 512#32
  let v901 : BitVec 32 := Scalar.muli v900 c512_i32_584
  let v902 : BitVec 32 := v901
  let v920 : Index := Scalar.indexCast v902
  let c0_589 : Index := 0#32
  ![0, v920.toNat, 0]
def k0_off60 (i : grid0.Coords) (k0_t37 : Fin (k0_t37_loop i).trips) : Fin 3 → Nat :=
  let c0_590 : Index := 0#32
  let c0_591 : Index := 0#32
  let c0_i32_583 : BitVec 32 := 0#32
  let c0_i32_578 : BitVec 32 := 0#32
  let arg1 : BitVec 32 := BitVec.ofNat 32 (i 1).val
  let c128_i32 : BitVec 32 := 128#32
  let v0 : BitVec 32 := Scalar.muli arg1 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_569 : BitVec 32 := 0#32
  let v876 : BitVec 32 := Scalar.subi v18 c0_i32_569
  let c0_i32_571 : BitVec 32 := 0#32
  let v878 : BitVec 1 := Scalar.cmpi .sgt v876 c0_i32_571
  let v879 : BitVec 32 := Scalar.extui v878
  let c0_i32_572 : BitVec 32 := 0#32
  let v880 : BitVec 1 := Scalar.cmpi .slt v876 c0_i32_572
  let v881 : BitVec 32 := Scalar.extui v880
  let v882 : BitVec 32 := Scalar.subi v879 v881
  let c1_i32_570 : BitVec 32 := 1#32
  let c0_i32_573 : BitVec 32 := 0#32
  let v883 : BitVec 1 := Scalar.cmpi .sgt c1_i32_570 c0_i32_573
  let v884 : BitVec 32 := Scalar.extui v883
  let c0_i32_574 : BitVec 32 := 0#32
  let v885 : BitVec 1 := Scalar.cmpi .slt c1_i32_570 c0_i32_574
  let v886 : BitVec 32 := Scalar.extui v885
  let v887 : BitVec 32 := Scalar.subi v884 v886
  let v888 : BitVec 1 := Scalar.cmpi .ne v882 v887
  let v889 : BitVec 32 := Scalar.remsi v876 c1_i32_570
  let c0_i32_575 : BitVec 32 := 0#32
  let v890 : BitVec 1 := Scalar.cmpi .ne v889 c0_i32_575
  let v891 : BitVec 1 := Scalar.andi v888 v890
  let v877 : BitVec 32 := Scalar.divsi v876 c1_i32_570
  let c1_i32_576 : BitVec 32 := 1#32
  let v892 : BitVec 32 := Scalar.subi v877 c1_i32_576
  let v893 : BitVec 32 := Scalar.select v891 v892 v877
  let v894 : BitVec 32 := Scalar.subi v893 c0_i32_578
  let c1_i32_579 : BitVec 32 := 1#32
  let v896 : BitVec 32 := Scalar.divsi v894 c1_i32_579
  let v897 : BitVec 32 := Scalar.muli v896 c1_i32_579
  let v898 : BitVec 32 := Scalar.addi c0_i32_578 v897
  let c1_i32_581 : BitVec 32 := 1#32
  let arg27 : BitVec 32 := Scf.iv v898 c1_i32_581 k0_t37
  let c1_i32_582 : BitVec 32 := 1#32
  let v899 : BitVec 32 := Scalar.muli arg27 c1_i32_582
  let v900 : BitVec 32 := Scalar.addi c0_i32_583 v899
  let c512_i32_584 : BitVec 32 := 512#32
  let v901 : BitVec 32 := Scalar.muli v900 c512_i32_584
  let v902 : BitVec 32 := v901
  let v923 : Index := Scalar.indexCast v902
  ![0, 0, v923.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8192x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x256x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x8192x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S16x64x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Proof.SsdStages.lean ====
/-
  The reference's computation cut into named stages, and its results as their composition.
-/
module

public import proofs.«01_k».proof.Proof.Gen.ReferenceIdeal.Run
public import Idealize.ShloMosaic.Lib.Pipeline.ValueKit
public import Idealize.ShloMosaic.Lib.Pointwise

@[expose] public section

set_option maxRecDepth 100000

noncomputable section

set_option maxHeartbeats 3200000

open Idealize.ShloMosaic Idealize.ShloMosaic.TcCoe Idealize.SL.Sem
open Idealize.ShloMosaic.StableHlo

namespace Cert.ReferenceIdeal.Ssd

open Cert.ReferenceIdeal Cert.ReferenceIdeal.Gen Cert.ReferenceIdeal.Value

/-- Three zero rows in front of the inputs. -/
def padded (xbc : FVec Ideal S4x8192x3072 .f32) : FVec Ideal S4x8195x3072 .f32 :=
  pad S4x8195x3072 ![0, 3, 0] ![0, 0, 0] ![0, 0, 0] xbc (sitofp .f32 (constantI S_ 32 0#32)) pads_S4x8192x3072_S4x8195x3072_000_300_000 h_S_

/-- The causal convolution. -/
def conv (p : FVec Ideal S4x8195x3072 .f32) (w : FVec Ideal S4x3072 .f32) (b : FVec Ideal S3072 .f32) : FVec Ideal S4x8192x3072 .f32 :=
  addf (addf (addf (addf (broadcastInDim S4x8192x3072 ![0, 1, 2] bcast_S1x1x3072_S4x8192x3072_0_1_2 (broadcastInDim S1x1x3072 ![2] bcast_S3072_S1x1x3072_2 b)) (mulf (extractStridedSlice S4x8192x3072 ![0, 0, 0] p slices_S4x8195x3072_S4x8192x3072_0_0_0) (broadcastInDim S4x8192x3072 ![0, 1, 2] bcast_S1x1x3072_S4x8192x3072_0_1_2 (broadcastInDim S1x1x3072 ![2] bcast_S3072_S1x1x3072_2 (shapeCast S3072 (extractStridedSlice S1x3072 ![0, 0] w slices_S4x3072_S1x3072_0_0) shapeCasts_S1x3072_S3072))))) (mulf (extractStridedSlice S4x8192x3072 ![0, 1, 0] p slices_S4x8195x3072_S4x8192x3072_0_1_0) (broadcastInDim S4x8192x3072 ![0, 1, 2] bcast_S1x1x3072_S4x8192x3072_0_1_2 (broadcastInDim S1x1x3072 ![2] bcast_S3072_S1x1x3072_2 (shapeCast S3072 (extractStridedSlice S1x3072 ![1, 0] w slices_S4x3072_S1x3072_1_0) shapeCasts_S1x3072_S3072))))) (mulf (extractStridedSlice S4x8192x3072 ![0, 2, 0] p slices_S4x8195x3072_S4x8192x3072_0_2_0) (broadcastInDim S4x8192x3072 ![0, 1, 2] bcast_S1x1x3072_S4x8192x3072_0_1_2 (broadcastInDim S1x1x3072 ![2] bcast_S3072_S1x1x3072_2 (shapeCast S3072 (extractStridedSlice S1x3072 ![2, 0] w slices_S4x3072_S1x3072_2_0) shapeCasts_S1x3072_S3072))))) (mulf (extractStridedSlice S4x8192x3072 ![0, 3, 0] p slices_S4x8195x3072_S4x8192x3072_0_3_0) (broadcastInDim S4x8192x3072 ![0, 1, 2] bcast_S1x1x3072_S4x8192x3072_0_1_2 (broadcastInDim S1x1x3072 ![2] bcast_S3072_S1x1x3072_2 (shapeCast S3072 (extractStridedSlice S1x3072 ![3, 0] w slices_S4x3072_S1x3072_3_0) shapeCasts_S1x3072_S3072))))

/-- Its activation. -/
def act (c : FVec Ideal S4x8192x3072 .f32) : FVec Ideal S4x8192x3072 .f32 :=
  mulf c (Host.divf (broadcastInDim S4x8192x3072 ![] bcast_S_S4x8192x3072 (constant S_ .f32 0x3F800000#32)) (addf (broadcastInDim S4x8192x3072 ![] bcast_S_S4x8192x3072 (constant S_ .f32 0x3F800000#32)) (Host.exp (Host.negf c))))

/-- The first part of the activation, by heads. -/
def heads (s : FVec Ideal S4x8192x3072 .f32) : FVec Ideal S4x8192x32x64 .f32 :=
  shapeCast S4x8192x32x64 (extractStridedSlice S4x8192x2048 ![0, 0, 0] s slices_S4x8192x3072_S4x8192x2048_0_0_0) shapeCasts_S4x8192x2048_S4x8192x32x64

/-- The second part, by chunks and groups, -/
def inB (s : FVec Ideal S4x8192x3072 .f32) : FVec Ideal S4x64x128x4x128 .f32 :=
  shapeCast S4x64x128x4x128 (extractStridedSlice S4x8192x512 ![0, 0, 2048] s slices_S4x8192x3072_S4x8192x512_0_0_2048) shapeCasts_S4x8192x512_S4x64x128x4x128

/-- and the third. -/
def inC (s : FVec Ideal S4x8192x3072 .f32) : FVec Ideal S4x64x128x4x128 .f32 :=
  shapeCast S4x64x128x4x128 (extractStridedSlice S4x8192x512 ![0, 0, 2560] s slices_S4x8192x3072_S4x8192x512_0_0_2560) shapeCasts_S4x8192x512_S4x64x128x4x128

/-- The step before its positive part. -/
def biased (dt : FVec Ideal S4x8192x32 .f32) (bias : FVec Ideal S32 .f32) : FVec Ideal S4x8192x32 .f32 :=
  addf dt (broadcastInDim S4x8192x32 ![0, 1, 2] bcast_S1x1x32_S4x8192x32_0_1_2 (broadcastInDim S1x1x32 ![2] bcast_S32_S1x1x32_2 bias))

/-- The positive part, smoothed. -/
def soft (v : FVec Ideal S4x8192x32 .f32) : FVec Ideal S4x8192x32 .f32 :=
  select (cmpf .une (subf v (broadcastInDim S4x8192x32 ![] bcast_S_S4x8192x32 (constant S_ .f32 0x00000000#32))) (subf v (broadcastInDim S4x8192x32 ![] bcast_S_S4x8192x32 (constant S_ .f32 0x00000000#32)))) (addf v (broadcastInDim S4x8192x32 ![] bcast_S_S4x8192x32 (constant S_ .f32 0x00000000#32))) (addf (maximumf v (broadcastInDim S4x8192x32 ![] bcast_S_S4x8192x32 (constant S_ .f32 0x00000000#32))) (Host.log1p (Host.exp (Host.negf (Host.absf (subf v (broadcastInDim S4x8192x32 ![] bcast_S_S4x8192x32 (constant S_ .f32 0x00000000#32))))))))

/-- The heads times the step, by chunks. -/
def scaled (xs : FVec Ideal S4x8192x32x64 .f32) (d : FVec Ideal S4x8192x32 .f32) : FVec Ideal S4x64x128x4x8x64 .f32 :=
  shapeCast S4x64x128x4x8x64 (mulf xs (broadcastInDim S4x8192x32x64 ![0, 1, 2, 3] bcast_S4x8192x32x1_S4x8192x32x64_0_1_2_3 (broadcastInDim S4x8192x32x1 ![0, 1, 2] bcast_S4x8192x32_S4x8192x32x1_0_1_2 d))) shapeCasts_S4x8192x32x64_S4x64x128x4x8x64

/-- The step times the rate, by chunks. -/
def rated (d : FVec Ideal S4x8192x32 .f32) (al : FVec Ideal S32 .f32) : FVec Ideal S4x64x128x4x8 .f32 :=
  shapeCast S4x64x128x4x8 (mulf d (broadcastInDim S4x8192x32 ![0, 1, 2] bcast_S1x1x32_S4x8192x32_0_1_2 (broadcastInDim S1x1x32 ![2] bcast_S32_S1x1x32_2 (Host.negf (Host.exp al))))) shapeCasts_S4x8192x32_S4x64x128x4x8

/-- Its running sum in a chunk. -/
def cumul (ad : FVec Ideal S4x64x128x4x8 .f32) : FVec Ideal S4x64x128x4x8 .f32 :=
  Host.reduceWindowAdd ![1, 1, 128, 1, 1] ![1, 1, 1, 1, 1] ![0, 0, 127, 0, 0] ![0, 0, 0, 0, 0] ad (broadcastInDim S_ ![] bcast_S_S_ (constant S_ .f32 0x00000000#32)) reduceWindows_S4x64x128x4x8_S4x64x128x4x8_w1s1p0_0_w1s1p0_0_w128s1p127_0_w1s1p0_0_w1s1p0_0 h_S_

/-- The decay from a token to the end of its chunk. -/
def toEnd (cs : FVec Ideal S4x64x128x4x8 .f32) : FVec Ideal S4x64x128x4x8 .f32 :=
  Host.exp (subf (broadcastInDim S4x64x128x4x8 ![0, 1, 2, 3, 4] bcast_S4x64x1x4x8_S4x64x128x4x8_0_1_2_3_4 (extractStridedSlice S4x64x1x4x8 ![0, 0, 127, 0, 0] cs slices_S4x64x128x4x8_S4x64x1x4x8_0_0_127_0_0)) cs)

/-- What each chunk adds to the state. -/
def states (xd : FVec Ideal S4x64x128x4x8x64 .f32) (e : FVec Ideal S4x64x128x4x8 .f32) (B : FVec Ideal S4x64x128x4x128 .f32) : FVec Ideal S64x4x4x8x64x128 .f32 :=
  transpose S64x4x4x8x64x128 [1, 0, 2, 3, 4, 5] (Host.dotGeneral dot_S4x64x128x4x8x64_S4x64x128x4x128_S4x64x4x8x64x128_2_2_45_4_013_013 none (mulf xd (broadcastInDim S4x64x128x4x8x64 ![0, 1, 2, 3, 4, 5] bcast_S4x64x128x4x8x1_S4x64x128x4x8x64_0_1_2_3_4_5 (broadcastInDim S4x64x128x4x8x1 ![0, 1, 2, 3, 4] bcast_S4x64x128x4x8_S4x64x128x4x8x1_0_1_2_3_4 e))) B) transposes_S4x64x4x8x64x128_S64x4x4x8x64x128_1_0_2_3_4_5

/-- The decay over each chunk. -/
def decays (cs : FVec Ideal S4x64x128x4x8 .f32) : FVec Ideal S64x4x4x8 .f32 :=
  transpose S64x4x4x8 [1, 0, 2, 3] (Host.exp (shapeCast S4x64x4x8 (extractStridedSlice S4x64x1x4x8 ![0, 0, 127, 0, 0] cs slices_S4x64x128x4x8_S4x64x1x4x8_0_0_127_0_0) shapeCasts_S4x64x1x4x8_S4x64x4x8)) transposes_S4x64x4x8_S64x4x4x8_1_0_2_3

/-- The decay between two tokens of a chunk. -/
def between (cs : FVec Ideal S4x64x128x4x8 .f32) : FVec Ideal S4x64x4x8x128x128 .f32 :=
  Host.exp (select (broadcastInDim S4x64x4x8x128x128 ![4, 5] bcast_S128x128_S4x64x4x8x128x128_4_5 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) (subf (broadcastInDim S4x64x4x8x128x128 ![0, 1, 2, 3, 4, 5] bcast_S4x64x4x8x128x1_S4x64x4x8x128x128_0_1_2_3_4_5 (broadcastInDim S4x64x4x8x128x1 ![0, 1, 2, 3, 4] bcast_S4x64x4x8x128_S4x64x4x8x128x1_0_1_2_3_4 (transpose S4x64x4x8x128 [0, 1, 3, 4, 2] cs transposes_S4x64x128x4x8_S4x64x4x8x128_0_1_3_4_2))) (broadcastInDim S4x64x4x8x128x128 ![0, 1, 2, 3, 4, 5] bcast_S4x64x4x8x1x128_S4x64x4x8x128x128_0_1_2_3_4_5 (broadcastInDim S4x64x4x8x1x128 ![0, 1, 2, 3, 5] bcast_S4x64x4x8x128_S4x64x4x8x1x128_0_1_2_3_5 (transpose S4x64x4x8x128 [0, 1, 3, 4, 2] cs transposes_S4x64x128x4x8_S4x64x4x8x128_0_1_3_4_2)))) (broadcastInDim S4x64x4x8x128x128 ![] bcast_S_S4x64x4x8x128x128 ((constant S_ .f32 0xFF800000#32))))

/-- The products of the second and third parts. -/
def scores (C : FVec Ideal S4x64x128x4x128 .f32) (B : FVec Ideal S4x64x128x4x128 .f32) : FVec Ideal S4x64x4x128x128 .f32 :=
  Host.dotGeneral dot_S4x64x128x4x128_S4x64x128x4x128_S4x64x4x128x128_4_4_2_2_013_013 none C B

/-- What the tokens of its own chunk give an output. -/
def inside (xd : FVec Ideal S4x64x128x4x8x64 .f32) (sc : FVec Ideal S4x64x4x128x128 .f32) (dc : FVec Ideal S4x64x4x8x128x128 .f32) : FVec Ideal S4x64x128x4x8x64 .f32 :=
  transpose S4x64x128x4x8x64 [0, 1, 5, 2, 3, 4] (Host.dotGeneral dot_S4x64x128x4x8x64_S4x64x4x8x128x128_S4x64x4x8x64x128_2_5_5_4_0134_0123 none xd (mulf (broadcastInDim S4x64x4x8x128x128 ![0, 1, 2, 3, 4, 5] bcast_S4x64x4x1x128x128_S4x64x4x8x128x128_0_1_2_3_4_5 (broadcastInDim S4x64x4x1x128x128 ![0, 1, 2, 4, 5] bcast_S4x64x4x128x128_S4x64x4x1x128x128_0_1_2_4_5 sc)) dc)) transposes_S4x64x4x8x64x128_S4x64x128x4x8x64_0_1_5_2_3_4

/-- What the state entering its chunk gives it. -/
def entering (hs : FVec Ideal S64x4x4x8x64x128 .f32) (C : FVec Ideal S4x64x128x4x128 .f32) (cs : FVec Ideal S4x64x128x4x8 .f32) : FVec Ideal S4x64x128x4x8x64 .f32 :=
  mulf (transpose S4x64x128x4x8x64 [0, 1, 5, 2, 3, 4] (Host.dotGeneral dot_S4x64x4x8x64x128_S4x64x128x4x128_S4x64x4x8x64x128_5_4_34_2_012_013 none (transpose S4x64x4x8x64x128 [1, 0, 2, 3, 4, 5] hs transposes_S64x4x4x8x64x128_S4x64x4x8x64x128_1_0_2_3_4_5) C) transposes_S4x64x4x8x64x128_S4x64x128x4x8x64_0_1_5_2_3_4) (broadcastInDim S4x64x128x4x8x64 ![0, 1, 2, 3, 4, 5] bcast_S4x64x128x4x8x1_S4x64x128x4x8x64_0_1_2_3_4_5 (broadcastInDim S4x64x128x4x8x1 ![0, 1, 2, 3, 4] bcast_S4x64x128x4x8_S4x64x128x4x8x1_0_1_2_3_4 (Host.exp cs)))

/-- Both, and the skip. -/
def skipped (yd : FVec Ideal S4x64x128x4x8x64 .f32) (yo : FVec Ideal S4x64x128x4x8x64 .f32) (xs : FVec Ideal S4x8192x32x64 .f32) (dsk : FVec Ideal S32 .f32) : FVec Ideal S4x8192x2048 .f32 :=
  shapeCast S4x8192x2048 (addf (shapeCast S4x8192x32x64 (addf yd yo) shapeCasts_S4x64x128x4x8x64_S4x8192x32x64) (mulf xs (broadcastInDim S4x8192x32x64 ![0, 1, 2, 3] bcast_S1x1x32x1_S4x8192x32x64_0_1_2_3 (broadcastInDim S1x1x32x1 ![2, 3] bcast_S32x1_S1x1x32x1_2_3 (broadcastInDim S32x1 ![0] bcast_S32_S32x1_0 dsk))))) shapeCasts_S4x8192x32x64_S4x8192x2048

/-- The output times its gate. -/
def gated (y : FVec Ideal S4x8192x2048 .f32) (z : FVec Ideal S4x8192x2048 .f32) : FVec Ideal S4x8192x2048 .f32 :=
  mulf y (mulf z (Host.divf (broadcastInDim S4x8192x2048 ![] bcast_S_S4x8192x2048 (constant S_ .f32 0x3F800000#32)) (addf (broadcastInDim S4x8192x2048 ![] bcast_S_S4x8192x2048 (constant S_ .f32 0x3F800000#32)) (Host.exp (Host.negf z)))))

/-- The gated output, normed. -/
def normed (yz : FVec Ideal S4x8192x2048 .f32) (ng : FVec Ideal S2048 .f32) : FVec Ideal S4x8192x2048 .bf16 :=
  truncf .bf16 (mulf (shapeCast S4x8192x2048 (mulf (shapeCast S4x8192x4x512 yz shapeCasts_S4x8192x2048_S4x8192x4x512) (broadcastInDim S4x8192x4x512 ![0, 1, 2, 3] bcast_S4x8192x4x1_S4x8192x4x512_0_1_2_3 (Host.rsqrt (addf (Host.divf (broadcastInDim S4x8192x4x1 ![0, 1, 2] bcast_S4x8192x4_S4x8192x4x1_0_1_2 (Host.reduceAdd (mulf (shapeCast S4x8192x4x512 yz shapeCasts_S4x8192x2048_S4x8192x4x512) (shapeCast S4x8192x4x512 yz shapeCasts_S4x8192x2048_S4x8192x4x512)) (constant S_ .f32 0x00000000#32) reducesTo_S4x8192x4x512_S4x8192x4_d3 h_S_)) (broadcastInDim S4x8192x4x1 ![] bcast_S_S4x8192x4x1 (constant S_ .f32 0x44000000#32))) (broadcastInDim S4x8192x4x1 ![] bcast_S_S4x8192x4x1 (constant S_ .f32 0x358637BD#32)))))) shapeCasts_S4x8192x4x512_S4x8192x2048) (broadcastInDim S4x8192x2048 ![0, 1, 2] bcast_S1x1x2048_S4x8192x2048_0_1_2 (broadcastInDim S1x1x2048 ![2] bcast_S2048_S1x1x2048_2 ng))) bitsLt_bf16_f32

section compose

variable (V : Valuation τ sig (Elt Ideal))

def vAct : FVec Ideal S4x8192x3072 .f32 :=
  act (conv (padded (V (Proc.devRef .tc main_arg1))) (V (Proc.devRef .tc main_arg3)) (V (Proc.devRef .tc main_arg4)))
def vStep : FVec Ideal S4x8192x32 .f32 := soft (biased (V (Proc.devRef .tc main_arg2)) (V (Proc.devRef .tc main_arg5)))
def vCum : FVec Ideal S4x64x128x4x8 .f32 := cumul (rated (vStep V) (V (Proc.devRef .tc main_arg6)))
def vXd : FVec Ideal S4x64x128x4x8x64 .f32 := scaled (heads (vAct V)) (vStep V)

/-- The result, from the contents after the loop. -/
theorem out_stages : out_main_v170 V =
    normed (gated (skipped (inside (vXd V) (scores (inC (vAct V)) (inB (vAct V))) (between (vCum V)))
      (entering (V (Proc.devRef .tc main_v68_4)) (inC (vAct V)) (vCum V)) (heads (vAct V)) (V (Proc.devRef .tc main_arg7)))
      (V (Proc.devRef .tc main_arg0))) (V (Proc.devRef .tc main_arg8)) := rfl

/-- What each chunk adds to the state, before the loop; -/
theorem entry_states : afterL preI V (Proc.devRef .tc main_v68_0) = states (vXd V) (toEnd (vCum V)) (inB (vAct V)) := by
  simp only [afterL_cons, afterL_nil]
  after_reads_simp
  rfl

/-- the decay over each chunk; -/
theorem entry_decays : afterL preI V (Proc.devRef .tc main_v68_1) = decays (vCum V) := by
  simp only [afterL_cons, afterL_nil]
  after_reads_simp
  rfl

/-- and the state before the first. -/
theorem entry_zero : afterL preI V (Proc.devRef .tc main_v68_3) = (show FVec Ideal S4x4x8x64x128 .f32 from broadcastInDim S4x4x8x64x128 ![] bcast_S_S4x4x8x64x128 (constant S_ .f32 0x00000000#32)) := by
  simp only [afterL_cons, afterL_nil]
  after_reads_simp
  rfl

end compose

end Cert.ReferenceIdeal.Ssd
-- ==== Proof.SsdPieces.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

set_option maxHeartbeats 1600000

open Idealize.ShloMosaic Idealize.ShloMosaic.TcCoe Idealize.SL.Sem

namespace Cert.KernelIdeal.Ssd

open Cert.KernelIdeal Cert.KernelIdeal.Gen

/-- head of a lane. -/
def hd (q : Fin 2048) : Fin 128 := ⟨q.val / 64, by omega⟩

/-- the lane `128 j + r`. -/
def lane (j : Fin 16) (r : Fin 128) : Fin 2048 := ⟨128 * j.val + r.val, by omega⟩

theorem hd_low (j : Fin 16) (r : Fin 128) (hr : r.val < 64) : hd (lane j r) = ⟨2 * j.val, by omega⟩ :=
  Fin.ext (by simp only [hd, lane]; omega)

theorem hd_high (j : Fin 16) (r : Fin 128) (hr : ¬ r.val < 64) : hd (lane j r) = ⟨2 * j.val + 1, by omega⟩ :=
  Fin.ext (by simp only [hd, lane]; omega)

theorem lane_zero (r : Fin 128) : lane 0 r = ⟨r.val, by omega⟩ := Fin.ext (by simp [lane])

/-- column `128 g + n` of four groups of 128. -/
def gcol (g : Fin 4) (n : Fin 128) : Fin 512 := ⟨128 * g.val + n.val, by omega⟩

theorem gcol_zero (n : Fin 128) : gcol 0 n = ⟨n.val, by omega⟩ := Fin.ext (by simp [gcol])

theorem low_eq (r : Fin 128) :
    IntOp.cmpi CmpIPredicate.slt (BitVec.ofNat 32 r.val) 64#32 = if r.val < 64 then 1#1 else 0#1 := by
  revert r; decide +kernel

/-- a choice by the half of a 128-lane pair. -/
theorem sel_low (r : Fin 128) (a b : EReal) :
    Scalar.select (IntOp.cmpi CmpIPredicate.slt (BitVec.ofNat 32 r.val) 64#32) a b = if r.val < 64 then a else b := by
  rw [low_eq]; split <;> rfl

def G2 (X : FVec Ideal S128x2048 .f32) (D A : FVec Ideal S128x128 .f32) : FVec Ideal S128x2048 .bf16 := fun i =>
  X (ix2 (i 0) (i 1)) * D (ix2 (i 0) (hd (i 1))) * Ideal.exp (A (ix2 127 (hd (i 1))) - A (ix2 (i 0) (hd (i 1))))

def G4 (A : FVec Ideal S128x128 .f32) : FVec Ideal S1x2048 .f32 := fun i => Ideal.exp (A (ix2 127 (hd (i 1))))

/-- The sixteen blocks stored as inputs weighted by the decay to the chunk's end. -/
theorem x2_pieces (X : FVec Ideal S128x2048 .f32) (D A : FVec Ideal S128x128 .f32) (l r : Fin 128) :
    k0_pay40 (F := Ideal) k0_pay28 (k0_pay36 X D k0_pay28) (k0_pay38 (k0_pay25 A)) (k0_pay39 (k0_pay25 A)) (ix2 l r) = G2 X D A (ix2 l (lane 0 r)) ∧
    k0_pay47 (F := Ideal) (k0_pay25 A) k0_pay28 (k0_pay44 X D k0_pay28) (ix2 l r) = G2 X D A (ix2 l (lane 1 r)) ∧
    k0_pay55 (F := Ideal) k0_pay28 (k0_pay51 X D k0_pay28) (k0_pay53 (k0_pay25 A)) (k0_pay54 (k0_pay25 A)) (ix2 l r) = G2 X D A (ix2 l (lane 2 r)) ∧
    k0_pay64 (F := Ideal) (k0_pay25 A) k0_pay28 (k0_pay59 X D k0_pay28) (ix2 l r) = G2 X D A (ix2 l (lane 3 r)) ∧
    k0_pay78 (F := Ideal) (k0_pay25 A) k0_pay28 (k0_pay73 X) (k0_pay74 D) (k0_pay75 D) (ix2 l r) = G2 X D A (ix2 l (lane 4 r)) ∧
    k0_pay86 (F := Ideal) (k0_pay25 A) k0_pay28 (k0_pay82 X D k0_pay28) (ix2 l r) = G2 X D A (ix2 l (lane 5 r)) ∧
    k0_pay93 (F := Ideal) D (k0_pay25 A) k0_pay28 (k0_pay89 X) (k0_pay90 D) (ix2 l r) = G2 X D A (ix2 l (lane 6 r)) ∧
    k0_pay101 (F := Ideal) (k0_pay25 A) k0_pay28 (k0_pay97 X D k0_pay28) (ix2 l r) = G2 X D A (ix2 l (lane 7 r)) ∧
    k0_pay115 (F := Ideal) (k0_pay25 A) k0_pay28 (k0_pay109 X D k0_pay28) (ix2 l r) = G2 X D A (ix2 l (lane 8 r)) ∧
    k0_pay123 (F := Ideal) (k0_pay122 X D (k0_pay25 A) k0_pay28) (ix2 l r) = G2 X D A (ix2 l (lane 9 r)) ∧
    k0_pay132 (F := Ideal) (k0_pay25 A) k0_pay28 (k0_pay126 X D k0_pay28) (ix2 l r) = G2 X D A (ix2 l (lane 10 r)) ∧
    k0_pay141 (F := Ideal) (k0_pay140 X D (k0_pay25 A) k0_pay28) (ix2 l r) = G2 X D A (ix2 l (lane 11 r)) ∧
    k0_pay153 (F := Ideal) (k0_pay25 A) k0_pay28 (k0_pay151 X D k0_pay28) (ix2 l r) = G2 X D A (ix2 l (lane 12 r)) ∧
    k0_pay159 (F := Ideal) (k0_pay25 A) k0_pay28 (k0_pay157 X D k0_pay28) (ix2 l r) = G2 X D A (ix2 l (lane 13 r)) ∧
    k0_pay166 (F := Ideal) (k0_pay25 A) k0_pay28 (k0_pay163 X D k0_pay28) (ix2 l r) = G2 X D A (ix2 l (lane 14 r)) ∧
    k0_pay174 (F := Ideal) (k0_pay25 A) k0_pay28 (k0_pay169 X) (k0_pay170 D) (k0_pay171 D) (ix2 l r) = G2 X D A (ix2 l (lane 15 r)) := by
  unfold G2
  refine ⟨?_, ?_, ?_, ?_, ?_, ?_, ?_, ?_, ?_, ?_, ?_, ?_, ?_, ?_, ?_, ?_⟩
  all_goals
    pointwise [k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76,
    k0_pay77, k0_pay78, k0_pay79, k0_pay80, k0_pay81, k0_pay82, k0_pay83, k0_pay84, k0_pay85,
    k0_pay86, k0_pay87, k0_pay88, k0_pay89, k0_pay90, k0_pay91, k0_pay92, k0_pay93, k0_pay94,
    k0_pay95, k0_pay96, k0_pay97, k0_pay98, k0_pay99, k0_pay100, k0_pay101, k0_pay102, k0_pay103,
    k0_pay104, k0_pay105, k0_pay106, k0_pay107, k0_pay108, k0_pay109, k0_pay110, k0_pay111,
    k0_pay112, k0_pay113, k0_pay114, k0_pay115, k0_pay116, k0_pay117, k0_pay118, k0_pay119,
    k0_pay120, k0_pay121, k0_pay122, k0_pay123, k0_pay124, k0_pay125, k0_pay126, k0_pay127,
    k0_pay128, k0_pay129, k0_pay130, k0_pay131, k0_pay132, k0_pay133, k0_pay134, k0_pay135,
    k0_pay136, k0_pay137, k0_pay138, k0_pay139, k0_pay140, k0_pay141, k0_pay142, k0_pay143,
    k0_pay144, k0_pay145, k0_pay146, k0_pay147, k0_pay148, k0_pay149, k0_pay150, k0_pay151,
    k0_pay152, k0_pay153, k0_pay154, k0_pay155, k0_pay156, k0_pay157, k0_pay158, k0_pay159,
    k0_pay160, k0_pay161, k0_pay162, k0_pay163, k0_pay164, k0_pay165, k0_pay166, k0_pay167,
    k0_pay168, k0_pay169, k0_pay170, k0_pay171, k0_pay172, k0_pay173, k0_pay174, k0_pay175,
    k0_pay176]
    by_cases hr : r.val < 64
    · simp only [sel_low, hr, if_true, hd_low _ _ hr, Finset.sum_const_zero, add_zero]
      try simp only [lane_zero, gcol_zero]
      rfl
    · simp only [sel_low, hr, if_false, hd_high _ _ hr, Finset.sum_const_zero, zero_add]
      try simp only [lane_zero, gcol_zero]
      rfl

/-- The sixteen blocks stored as the chunk's decay. -/
theorem cd_pieces (A : FVec Ideal S128x128 .f32) (l : Fin 1) (r : Fin 128) :
    k0_pay41 (F := Ideal) (k0_pay26 A) k0_pay29 (ix2 l r) = G4 A (ix2 l (lane 0 r)) ∧
    k0_pay48 (F := Ideal) (k0_pay26 A) k0_pay29 (ix2 l r) = G4 A (ix2 l (lane 1 r)) ∧
    k0_pay56 (F := Ideal) (k0_pay26 A) k0_pay29 (ix2 l r) = G4 A (ix2 l (lane 2 r)) ∧
    k0_pay65 (F := Ideal) (k0_pay26 A) k0_pay29 (ix2 l r) = G4 A (ix2 l (lane 3 r)) ∧
    k0_pay80 (F := Ideal) (k0_pay79 (k0_pay26 A) k0_pay29) (ix2 l r) = G4 A (ix2 l (lane 4 r)) ∧
    k0_pay87 (F := Ideal) (k0_pay26 A) k0_pay29 (ix2 l r) = G4 A (ix2 l (lane 5 r)) ∧
    k0_pay95 (F := Ideal) (k0_pay94 (k0_pay26 A) k0_pay29) (ix2 l r) = G4 A (ix2 l (lane 6 r)) ∧
    k0_pay102 (F := Ideal) (k0_pay26 A) k0_pay29 (ix2 l r) = G4 A (ix2 l (lane 7 r)) ∧
    k0_pay116 (F := Ideal) (k0_pay26 A) k0_pay29 (ix2 l r) = G4 A (ix2 l (lane 8 r)) ∧
    k0_pay124 (F := Ideal) (k0_pay26 A) k0_pay29 (ix2 l r) = G4 A (ix2 l (lane 9 r)) ∧
    k0_pay133 (F := Ideal) (k0_pay26 A) k0_pay29 (ix2 l r) = G4 A (ix2 l (lane 10 r)) ∧
    k0_pay142 (F := Ideal) (k0_pay26 A) k0_pay29 (ix2 l r) = G4 A (ix2 l (lane 11 r)) ∧
    k0_pay154 (F := Ideal) (k0_pay26 A) k0_pay29 (ix2 l r) = G4 A (ix2 l (lane 12 r)) ∧
    k0_pay160 (F := Ideal) (k0_pay26 A) k0_pay29 (ix2 l r) = G4 A (ix2 l (lane 13 r)) ∧
    k0_pay167 (F := Ideal) (k0_pay26 A) k0_pay29 (ix2 l r) = G4 A (ix2 l (lane 14 r)) ∧
    k0_pay175 (F := Ideal) (k0_pay26 A) k0_pay29 (ix2 l r) = G4 A (ix2 l (lane 15 r)) := by
  unfold G4
  refine ⟨?_, ?_, ?_, ?_, ?_, ?_, ?_, ?_, ?_, ?_, ?_, ?_, ?_, ?_, ?_, ?_⟩
  all_goals
    pointwise [k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76,
    k0_pay77, k0_pay78, k0_pay79, k0_pay80, k0_pay81, k0_pay82, k0_pay83, k0_pay84, k0_pay85,
    k0_pay86, k0_pay87, k0_pay88, k0_pay89, k0_pay90, k0_pay91, k0_pay92, k0_pay93, k0_pay94,
    k0_pay95, k0_pay96, k0_pay97, k0_pay98, k0_pay99, k0_pay100, k0_pay101, k0_pay102, k0_pay103,
    k0_pay104, k0_pay105, k0_pay106, k0_pay107, k0_pay108, k0_pay109, k0_pay110, k0_pay111,
    k0_pay112, k0_pay113, k0_pay114, k0_pay115, k0_pay116, k0_pay117, k0_pay118, k0_pay119,
    k0_pay120, k0_pay121, k0_pay122, k0_pay123, k0_pay124, k0_pay125, k0_pay126, k0_pay127,
    k0_pay128, k0_pay129, k0_pay130, k0_pay131, k0_pay132, k0_pay133, k0_pay134, k0_pay135,
    k0_pay136, k0_pay137, k0_pay138, k0_pay139, k0_pay140, k0_pay141, k0_pay142, k0_pay143,
    k0_pay144, k0_pay145, k0_pay146, k0_pay147, k0_pay148, k0_pay149, k0_pay150, k0_pay151,
    k0_pay152, k0_pay153, k0_pay154, k0_pay155, k0_pay156, k0_pay157, k0_pay158, k0_pay159,
    k0_pay160, k0_pay161, k0_pay162, k0_pay163, k0_pay164, k0_pay165, k0_pay166, k0_pay167,
    k0_pay168, k0_pay169, k0_pay170, k0_pay171, k0_pay172, k0_pay173, k0_pay174, k0_pay175,
    k0_pay176]
    by_cases hr : r.val < 64
    · simp only [sel_low, hr, if_true, hd_low _ _ hr, Finset.sum_const_zero, add_zero]
      try simp only [lane_zero, gcol_zero]
      rfl
    · simp only [sel_low, hr, if_false, hd_high _ _ hr, Finset.sum_const_zero, zero_add]
      try simp only [lane_zero, gcol_zero]
      rfl

/-- One output lane before gating, given the state column entering and the skip weight. -/
def yAt (X : FVec Ideal S128x2048 .f32) (B C : FVec Ideal S128x512 .f32) (D A AT : FVec Ideal S128x128 .f32)
    (g : Fin 4) (q : Fin 2048) (st : Fin 128 → EReal) (d : EReal) (l : Fin 128) : EReal :=
  (∑ s : Fin 128, Scalar.select (IntOp.cmpi CmpIPredicate.sge (BitVec.ofNat 32 l.val) (BitVec.ofNat 32 s.val))
      ((∑ n : Fin 128, C (ix2 l (gcol g n)) * B (ix2 s (gcol g n))) * Ideal.exp (A (ix2 l (hd q)) - AT (ix2 (hd q) s)) *
        (X (ix2 s q) * D (ix2 s (hd q)))) 0) +
    (∑ n : Fin 128, C (ix2 l (gcol g n)) * st n) * Ideal.exp (A (ix2 l (hd q))) + X (ix2 l q) * d

/-- The sixteen blocks of outputs before gating. -/
theorem y_pieces (X : FVec Ideal S128x2048 .f32) (B C : FVec Ideal S128x512 .f32) (D A AT : FVec Ideal S128x128 .f32)
    (S : FVec Ideal S1x128x512 .f32) (dr : FVec Ideal S1x128 .f32) (v149 v152 : FVec Ideal S128x128 .f32)
    (hAT : k0_pay22 (iota Kind.tc S128x128 32 [1] iota_S128x128_d1_w32) v149 k0_pay20 v152 = AT) (l r : Fin 128) :
    k0_pay37 (F := Ideal) X D A AT (k0_pay23 A) k0_pay27 k0_pay28 (k0_pay32 B C) (k0_pay33 C S) (k0_pay34 A (iota Kind.tc S128x128 32 [1] iota_S128x128_d1_w32) v149 k0_pay20 v152) dr (ix2 l r) =
      yAt X B C D A AT 0 (lane 0 r) (fun n => S (ix3 0 n (gcol 0 r))) (dr (ix2 0 r)) l ∧
    k0_pay46 (F := Ideal) (k0_pay23 A) k0_pay28 (k0_pay33 C S) (k0_pay42 A AT k0_pay27 (k0_pay32 B C)) (k0_pay43 X) (k0_pay45 X D k0_pay28) dr (ix2 l r) =
      yAt X B C D A AT 0 (lane 1 r) (fun n => S (ix3 0 n (gcol 1 r))) (dr (ix2 0 r)) l ∧
    k0_pay52 (F := Ideal) X D A AT (k0_pay23 A) k0_pay27 k0_pay28 (k0_pay32 B C) (k0_pay33 C S) (k0_pay49 A AT) (FloatOps.ofBits FTy.f32 0#32) dr (ix2 l r) =
      yAt X B C D A AT 0 (lane 2 r) (fun n => S (ix3 0 n (gcol 2 r))) (dr (ix2 0 r)) l ∧
    k0_pay63 (F := Ideal) (k0_pay23 A) k0_pay28 (k0_pay33 C S) (k0_pay57 A AT k0_pay27 (k0_pay32 B C)) (k0_pay58 X) (k0_pay60 X D k0_pay28) k0_pay61 (k0_pay62 X D k0_pay28) dr (ix2 l r) =
      yAt X B C D A AT 0 (lane 3 r) (fun n => S (ix3 0 n (gcol 3 r))) (dr (ix2 0 r)) l ∧
    k0_pay77 (F := Ideal) (k0_pay23 A) k0_pay28 (k0_pay71 C S) (k0_pay72 B C A AT k0_pay27) (k0_pay73 X) (k0_pay74 D) (k0_pay75 D) dr (ix2 l r) =
      yAt X B C D A AT 1 (lane 4 r) (fun n => S (ix3 0 n (gcol 0 r))) (dr (ix2 0 r)) l ∧
    k0_pay85 (F := Ideal) (k0_pay83 X D A AT (k0_pay23 A) k0_pay27 k0_pay28 (k0_pay70 B C) (k0_pay71 C S)) (k0_pay84 X dr) (ix2 l r) =
      yAt X B C D A AT 1 (lane 5 r) (fun n => S (ix3 0 n (gcol 1 r))) (dr (ix2 0 r)) l ∧
    k0_pay92 (F := Ideal) D (k0_pay23 A) k0_pay28 (k0_pay71 C S) (k0_pay88 A AT k0_pay27 (k0_pay70 B C)) (k0_pay89 X) (k0_pay90 D) dr (ix2 l r) =
      yAt X B C D A AT 1 (lane 6 r) (fun n => S (ix3 0 n (gcol 2 r))) (dr (ix2 0 r)) l ∧
    k0_pay100 (F := Ideal) (k0_pay96 X) (k0_pay98 X D A AT (k0_pay23 A) k0_pay27 k0_pay28 (k0_pay70 B C) (k0_pay71 C S)) (k0_pay99 dr) (ix2 l r) =
      yAt X B C D A AT 1 (lane 7 r) (fun n => S (ix3 0 n (gcol 3 r))) (dr (ix2 0 r)) l ∧
    k0_pay114 (F := Ideal) k0_pay28 (k0_pay108 X) (k0_pay110 X B C D A AT k0_pay27 k0_pay28) (k0_pay111 C S) (k0_pay112 (k0_pay23 A)) (k0_pay113 (k0_pay23 A)) dr (ix2 l r) =
      yAt X B C D A AT 2 (lane 8 r) (fun n => S (ix3 0 n (gcol 0 r))) (dr (ix2 0 r)) l ∧
    k0_pay121 (F := Ideal) X D (k0_pay23 A) k0_pay27 k0_pay28 (k0_pay106 B C) (k0_pay107 C S) (k0_pay117 A AT k0_pay27) (k0_pay118 A AT) dr (ix2 l r) =
      yAt X B C D A AT 2 (lane 9 r) (fun n => S (ix3 0 n (gcol 1 r))) (dr (ix2 0 r)) l ∧
    k0_pay131 (F := Ideal) k0_pay28 (k0_pay125 X) (k0_pay127 X D A AT k0_pay27 k0_pay28 (k0_pay106 B C)) (k0_pay128 (k0_pay107 C S)) (k0_pay129 (k0_pay23 A)) (k0_pay130 (k0_pay23 A)) dr (ix2 l r) =
      yAt X B C D A AT 2 (lane 10 r) (fun n => S (ix3 0 n (gcol 2 r))) (dr (ix2 0 r)) l ∧
    k0_pay139 (F := Ideal) X D (k0_pay23 A) k0_pay27 k0_pay28 (k0_pay106 B C) (k0_pay107 C S) (k0_pay134 A AT k0_pay27) (k0_pay135 AT) (k0_pay136 A) dr (ix2 l r) =
      yAt X B C D A AT 2 (lane 11 r) (fun n => S (ix3 0 n (gcol 3 r))) (dr (ix2 0 r)) l ∧
    k0_pay152 (F := Ideal) X D A AT (k0_pay23 A) k0_pay27 k0_pay28 (k0_pay146 B C) (k0_pay147 C S) (k0_pay148 AT) (k0_pay149 A) dr (ix2 l r) =
      yAt X B C D A AT 3 (lane 12 r) (fun n => S (ix3 0 n (gcol 0 r))) (dr (ix2 0 r)) l ∧
    k0_pay158 (F := Ideal) (k0_pay23 A) k0_pay28 (k0_pay147 C S) (k0_pay155 A AT k0_pay27 (k0_pay146 B C)) (k0_pay156 X) (k0_pay157 X D k0_pay28) dr (ix2 l r) =
      yAt X B C D A AT 3 (lane 13 r) (fun n => S (ix3 0 n (gcol 1 r))) (dr (ix2 0 r)) l ∧
    k0_pay165 (F := Ideal) (k0_pay164 X D A AT (k0_pay23 A) k0_pay27 k0_pay28 (k0_pay146 B C) (k0_pay147 C S) (k0_pay161 A) dr) (ix2 l r) =
      yAt X B C D A AT 3 (lane 14 r) (fun n => S (ix3 0 n (gcol 2 r))) (dr (ix2 0 r)) l ∧
    k0_pay173 (F := Ideal) (k0_pay23 A) k0_pay28 (k0_pay147 C S) (k0_pay168 A AT k0_pay27 (k0_pay146 B C)) (k0_pay169 X) (k0_pay170 D) (k0_pay171 D) dr (ix2 l r) =
      yAt X B C D A AT 3 (lane 15 r) (fun n => S (ix3 0 n (gcol 3 r))) (dr (ix2 0 r)) l := by
  unfold yAt k0_pay34
  rw [hAT]
  refine ⟨?_, ?_, ?_, ?_, ?_, ?_, ?_, ?_, ?_, ?_, ?_, ?_, ?_, ?_, ?_, ?_⟩
  all_goals
    pointwise [k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76,
    k0_pay77, k0_pay78, k0_pay79, k0_pay80, k0_pay81, k0_pay82, k0_pay83, k0_pay84, k0_pay85,
    k0_pay86, k0_pay87, k0_pay88, k0_pay89, k0_pay90, k0_pay91, k0_pay92, k0_pay93, k0_pay94,
    k0_pay95, k0_pay96, k0_pay97, k0_pay98, k0_pay99, k0_pay100, k0_pay101, k0_pay102, k0_pay103,
    k0_pay104, k0_pay105, k0_pay106, k0_pay107, k0_pay108, k0_pay109, k0_pay110, k0_pay111,
    k0_pay112, k0_pay113, k0_pay114, k0_pay115, k0_pay116, k0_pay117, k0_pay118, k0_pay119,
    k0_pay120, k0_pay121, k0_pay122, k0_pay123, k0_pay124, k0_pay125, k0_pay126, k0_pay127,
    k0_pay128, k0_pay129, k0_pay130, k0_pay131, k0_pay132, k0_pay133, k0_pay134, k0_pay135,
    k0_pay136, k0_pay137, k0_pay138, k0_pay139, k0_pay140, k0_pay141, k0_pay142, k0_pay143,
    k0_pay144, k0_pay145, k0_pay146, k0_pay147, k0_pay148, k0_pay149, k0_pay150, k0_pay151,
    k0_pay152, k0_pay153, k0_pay154, k0_pay155, k0_pay156, k0_pay157, k0_pay158, k0_pay159,
    k0_pay160, k0_pay161, k0_pay162, k0_pay163, k0_pay164, k0_pay165, k0_pay166, k0_pay167,
    k0_pay168, k0_pay169, k0_pay170, k0_pay171, k0_pay172, k0_pay173, k0_pay174, k0_pay175,
    k0_pay176]
    by_cases hr : r.val < 64
    · simp only [sel_low, hr, if_true, hd_low _ _ hr, Finset.sum_const_zero, add_zero]
      try simp only [lane_zero, gcol_zero]
      rfl
    · simp only [sel_low, hr, if_false, hd_high _ _ hr, Finset.sum_const_zero, zero_add]
      try simp only [lane_zero, gcol_zero]
      rfl

end Cert.KernelIdeal.Ssd
-- ==== Proof.SsdBody.lean ====
/-
  The body of the scan's kernel at a grid point: the convolution's window, the state and the output it leaves, each
  as one function of the blocks it reads and of what the point before left.
-/
module

public import proofs.«01_k».proof.Proof.SsdPieces
public import Idealize.ShloMosaic.Lib.WritesUnit

@[expose] public section

set_option maxRecDepth 16384

noncomputable section

set_option maxHeartbeats 3200000

open Idealize.ShloMosaic Idealize.ShloMosaic.TcCoe Idealize.SL.Sem

namespace Cert.KernelIdeal.Ssd

open Cert.KernelIdeal Cert.KernelIdeal.Gen

variable (m : (ℓ : Loc nD τ sig) → Buf (Elt Ideal) ℓ)

/-- A load of a box that the stores cover, each a block of `G`, reads `G` there. -/
theorem readCov_pieces {sig : RefSig} {κ : Kind} {sp : Space} {s : Shape} {e : EltTy} {Val : EltTy → Type}
    [∀ e, Nonempty (Val e)] (v : View sig κ sp s e) (L : List (View.Piece Val s e)) (B : LoadRect s)
    (G : s.Idx → Val e) (h : View.PiecesOf G L)
    (hc : ∀ j : B.shape.Idx, ∃ p ∈ L, B.idx j ∈ p.1.set) : v.readCov L B = fun j => G (B.idx j) := by
  rw [View.readCov_eq_canon']
  funext j
  exact View.canon_apply_of_pieces G L h.mem _ (hc j)

/-- Eight rows of an earlier window, then the chunk's rows. -/
def win (T : FVec Ideal S136x3072 .f32) (xb : FVec Ideal S1x128x3072 .f32) : FVec Ideal S136x3072 .f32 := fun i =>
  if h : (i 0).val < 8 then T (ix2 (i 0) (i 1)) else xb (ix3 0 ⟨(i 0).val - 8, by have := (i 0).isLt; change (i 0).val < 136 at this; omega⟩ (i 1))

/-- The causal convolution of four taps over the window. -/
def convW (W : FVec Ideal S136x3072 .f32) (cw : FVec Ideal S4x3072 .f32) (cb : FVec Ideal S1x3072 .f32) :
    FVec Ideal S128x3072 .f32 := fun i =>
  cb (ix2 0 (i 1)) + cw (ix2 0 (i 1)) * W (ix2 ⟨5 + (i 0).val, by have := (i 0).isLt; change (i 0).val < 128 at this; omega⟩ (i 1))
    + cw (ix2 1 (i 1)) * W (ix2 ⟨6 + (i 0).val, by have := (i 0).isLt; change (i 0).val < 128 at this; omega⟩ (i 1))
    + cw (ix2 2 (i 1)) * W (ix2 ⟨7 + (i 0).val, by have := (i 0).isLt; change (i 0).val < 128 at this; omega⟩ (i 1))
    + cw (ix2 3 (i 1)) * W (ix2 ⟨8 + (i 0).val, by have := (i 0).isLt; change (i 0).val < 128 at this; omega⟩ (i 1))

/-- The window the point before left, zero at a batch's first chunk; -/
def prevT (c : Dev nD) (t : Fin cfg0.N) : FVec Ideal S136x3072 .f32 :=
  if t.val % 64 = 0 then fun _ => 0 else (outsAt0 m c (t.val - 1) (lt_of_le_of_lt (Nat.sub_le _ _) t.isLt)).2.1

/-- and its state. -/
def prevS (c : Dev nD) (t : Fin cfg0.N) : FVec Ideal S4x128x512 .f32 :=
  if t.val % 64 = 0 then fun _ => 0 else (outsAt0 m c (t.val - 1) (lt_of_le_of_lt (Nat.sub_le _ _) t.isLt)).2.2

/-- The chunk's convolution, -/
def cnv (c : Dev nD) (t : Fin cfg0.N) : FVec Ideal S128x3072 .f32 :=
  convW (win (prevT m c t) (iblk m c 0 t)) (iblk m c 4 t) (iblk m c 5 t)

/-- steps, -/
def dtv (c : Dev nD) (t : Fin cfg0.N) : FVec Ideal S128x128 .f32 := k0_pay13 (iblk m c 2 t) (iblk m c 6 t)

/-- prefix sums of the decay's exponents, -/
def acs (c : Dev nD) (t : Fin cfg0.N) : FVec Ideal S128x128 .f32 :=
  k0_pay18 (iota Kind.tc S128x128 32 [0] iota_S128x128_d0_w32) (k0_pay16 (k0_pay11 (iblk m c 8 t)) (dtv m c t)) k0_pay17

/-- and the same by heads. -/
def acst (c : Dev nD) (t : Fin cfg0.N) : FVec Ideal S128x128 .f32 :=
  k0_pay22 (iota Kind.tc S128x128 32 [1] iota_S128x128_d1_w32)
    (k0_pay19 (k0_pay12 (iblk m c 9 t)) (k0_pay15 (k0_pay14 (iblk m c 3 t) (iblk m c 7 t)))) k0_pay20
    (k0_pay21 (k0_pay12 (iblk m c 9 t)) (k0_pay15 (k0_pay14 (iblk m c 3 t) (iblk m c 7 t))))

def qg (q : Fin 2048) : Fin 4 := ⟨q.val / 512, by omega⟩
def qm (q : Fin 2048) : Fin 512 := ⟨q.val % 512, by omega⟩
def qq (g : Fin 4) (q : Fin 512) : Fin 2048 := ⟨512 * g.val + q.val, by omega⟩

/-- The outputs of a chunk before gating. -/
def G3 (X : FVec Ideal S128x2048 .f32) (B C : FVec Ideal S128x512 .f32) (D A AT : FVec Ideal S128x128 .f32)
    (S : FVec Ideal S4x128x512 .f32) (dk : FVec Ideal S1x2048 .f32) : FVec Ideal S128x2048 .f32 := fun i =>
  yAt X B C D A AT (qg (i 1)) (i 1) (fun n => S (ix3 (qg (i 1)) n (qm (i 1)))) (dk (ix2 0 (i 1))) (i 0)

theorem win_low (T : FVec Ideal S136x3072 .f32) (xb : FVec Ideal S1x128x3072 .f32) (i : Fin 136) (j : Fin 3072)
    (h : i.val < 8) : win T xb (ix2 i j) = T (ix2 i j) := dif_pos h

theorem win_high (T : FVec Ideal S136x3072 .f32) (xb : FVec Ideal S1x128x3072 .f32) (l : Fin 128) (i : Fin 136) (j : Fin 3072)
    (h : i.val = 8 + l.val) : win T xb (ix2 i j) = xb (ix3 0 l j) := by
  unfold win
  rw [dif_neg (by change ¬ i.val < 8; omega)]
  refine congrArg (fun a => xb (ix3 0 a j)) (Fin.ext ?_)
  change i.val - 8 = l.val
  omega

theorem ix2_ext {a b : ℕ} (y : (⟨2, ![a, b]⟩ : Shape).Idx) (i : Fin a) (j : Fin b) (h0 : (y 0).val = i.val)
    (h1 : (y 1).val = j.val) : y = ix2 i j := by
  rw [← ix2_eta y]
  exact congrArg₂ ix2 (Fin.ext h0) (Fin.ext h1)

/-- The state a chunk leaves. -/
def stF (X : FVec Ideal S128x2048 .f32) (B : FVec Ideal S128x512 .f32) (D A : FVec Ideal S128x128 .f32)
    (S : FVec Ideal S4x128x512 .f32) (g : Fin 4) (n : Fin 128) (q : Fin 512) : EReal :=
  S (ix3 g n q) * G4 A (ix2 0 (qq g q)) + ∑ l : Fin 128, B (ix2 l (gcol g n)) * G2 X D A (ix2 l (qq g q))

/-- The gated output. -/
def yz (Y : FVec Ideal S128x2048 .f32) (z : FVec Ideal S1x128x2048 .f32) (l : Fin 128) (q : Fin 2048) : EReal :=
  Y (ix2 l q) * (z (ix3 0 l q) * Ideal.logistic (z (ix3 0 l q)))

/-- The gated output over the root mean square of its group, times the norm's gain. -/
def outF (Y : FVec Ideal S128x2048 .f32) (z : FVec Ideal S1x128x2048 .f32) (ng : FVec Ideal S1x2048 .f32)
    (l : Fin 128) (q : Fin 2048) : EReal :=
  yz Y z l q * Ideal.rsqrt (Ideal.div (∑ k : Fin 512, yz Y z l (qq (qg q) k) * yz Y z l (qq (qg q) k)) (Ideal.ofBits FTy.f32 0x44000000#32) + Ideal.ofBits FTy.f32 0x358637BD#32) * ng (ix2 0 q)

theorem yAt_congr (X : FVec Ideal S128x2048 .f32) (B C : FVec Ideal S128x512 .f32) (D A AT : FVec Ideal S128x128 .f32)
    (S : FVec Ideal S4x128x512 .f32) (d : EReal) (l : Fin 128) {g g' : Fin 4} {q q' : Fin 2048} {p p' : Fin 512} (hg : g = g')
    (hq : q = q') (hp : p = p') :
    yAt X B C D A AT g q (fun n => S (ix3 g n p)) d l = yAt X B C D A AT g' q' (fun n => S (ix3 g' n p')) d l := by
  subst hg hq hp
  rfl

/-- The state as an array. -/
def stG (X : FVec Ideal S128x2048 .f32) (B : FVec Ideal S128x512 .f32) (D A : FVec Ideal S128x128 .f32)
    (S : FVec Ideal S4x128x512 .f32) : FVec Ideal S4x128x512 .f32 := fun i => stF X B D A S (i 0) (i 1) (i 2)

/-- The output as an array. -/
def outG (Y : FVec Ideal S128x2048 .f32) (z : FVec Ideal S1x128x2048 .f32) (ng : FVec Ideal S1x2048 .f32) :
    FVec Ideal S1x128x2048 .f32 := fun i => outF Y z ng (i 1) (i 2)

/-- The first stores, blocks of `G`, over any earlier ones. -/
theorem canon_first {s : Shape} {e : EltTy} {Val : EltTy → Type} [∀ e, Nonempty (Val e)] (k : ℕ) (G : s.Idx → Val e)
    (L : List (View.Piece Val s e)) (y : s.Idx) (h : View.PiecesOf G (L.take k)) (hc : ∃ p ∈ L.take k, y ∈ p.1.set) :
    View.canon L y = G y := by
  rw [← List.take_append_drop k L]
  exact View.canon_append_of_piecesOf G _ _ h y hc

theorem emb2 {a b p q : ℕ} (o0 o1 : ℕ) (inb) (i : Fin p) (j : Fin q) (h0 : o0 + i.val < a) (h1 : o1 + j.val < b) :
    (Rect.unit (s := ⟨2, ![a, b]⟩) ![o0, o1] ![p, q] inb).emb (ix2 i j) = ix2 ⟨o0 + i.val, h0⟩ ⟨o1 + j.val, h1⟩ :=
  ix2_ext _ _ _ (by simp [Rect.emb_apply]) (by simp [Rect.emb_apply])

theorem emb3 {a b c p q r : ℕ} (o0 o1 o2 : ℕ) (inb) (i : Fin p) (j : Fin q) (k : Fin r) (h0 : o0 + i.val < a) (h1 : o1 + j.val < b)
    (h2 : o2 + k.val < c) :
    (Rect.unit (s := ⟨3, ![a, b, c]⟩) ![o0, o1, o2] ![p, q, r] inb).emb (ix3 i j k) =
      ix3 ⟨o0 + i.val, h0⟩ ⟨o1 + j.val, h1⟩ ⟨o2 + k.val, h2⟩ := by
  rw [← ix3_eta ((Rect.unit (s := ⟨3, ![a, b, c]⟩) ![o0, o1, o2] ![p, q, r] inb).emb (ix3 i j k))]
  have e0 : (Rect.unit (s := ⟨3, ![a, b, c]⟩) ![o0, o1, o2] ![p, q, r] inb).emb (ix3 i j k) 0 = ⟨o0 + i.val, h0⟩ := Fin.ext (by simp [Rect.emb_apply])
  have e1 : (Rect.unit (s := ⟨3, ![a, b, c]⟩) ![o0, o1, o2] ![p, q, r] inb).emb (ix3 i j k) 1 = ⟨o1 + j.val, h1⟩ := Fin.ext (by simp [Rect.emb_apply])
  have e2 : (Rect.unit (s := ⟨3, ![a, b, c]⟩) ![o0, o1, o2] ![p, q, r] inb).emb (ix3 i j k) 2 = ⟨o2 + k.val, h2⟩ := Fin.ext (by simp [Rect.emb_apply])
  rw [e0, e1, e2]
  rfl

theorem body (c : Dev nD) (t : Fin cfg0.N) :
    (∀ g n q, (outsAt0 m c t.val t.isLt).2.2 (ix3 g n q) = stF (k0_pay8 (cnv m c t)) (k0_pay9 (cnv m c t)) (dtv m c t) (acs m c t) (prevS m c t) g n q) ∧
    (∀ (i : Fin 136) (hi : i.val < 8) (j : Fin 3072), (outsAt0 m c t.val t.isLt).2.1 (ix2 i j) = iblk m c 0 t (ix3 0 ⟨120 + i.val, by omega⟩ j)) ∧
    (∀ l q, (outsAt0 m c t.val t.isLt).1 (ix3 0 l q) = outF (G3 (k0_pay8 (cnv m c t)) (k0_pay9 (cnv m c t)) (k0_pay10 (cnv m c t)) (dtv m c t) (acs m c t) (acst m c t) (prevS m c t) (iblk m c 10 t)) (iblk m c 1 t) (iblk m c 11 t) l q) := by
  by_cases nz : t.val % 64 = 0
  on_goal 1 =>
    rw [outsAt0_A m c t nz]
    frame_open
    simp (disch := decide) only [↓ View.readCov_skip, ↓ View.readCov_cons_toLoadRect, ↓ View.readCov_fill]
    frame_out
    have eS : prevS m c t = k0_pay2 := by
      rw [prevS, if_pos nz]
      funext i
      rw [← ix3_eta i]
      pointwise [k0_pay2]
    rw [← eS]
    generalize hv30 : k0_pay5 (F:=Ideal) _ _ _ _ _ _ _ _ _ = v30
    have e30 : v30 = cnv m c t := by
      rw [← hv30]
      clear hv30
      funext i
      obtain ⟨l, j, rfl⟩ : ∃ l j, i = ix2 l j := ⟨i 0, i 1, (ix2_eta i).symm⟩
      have hz : prevT m c t = fun _ => 0 := if_pos nz
      generalize hL : (List.cons (α := View.Piece (Elt Ideal) S136x3072 cc0_scratch0.ty.elt) _ (List.cons _ _)) = L
      have key : View.PiecesOf (win (prevT m c t) (iblk m c 0 t)) L := by
        rw [← hL]
        refine ⟨fun x => ?_, fun x => ?_, trivial⟩
        · obtain ⟨a, b, rfl⟩ : ∃ l j, x = ix2 l j := ⟨x 0, x 1, (ix2_eta x).symm⟩
          refine Eq.trans (b := win (prevT m c t) (iblk m c 0 t) (ix2 ⟨8 + a.val, by omega⟩ b)) ?_
            (congrArg _ (ix2_ext _ _ _ (by change _ = 8 + a.val; simp [Rect.emb_apply]) (by simp [Rect.emb_apply])).symm)
          rw [win_high _ _ a ⟨8 + a.val, by omega⟩ b rfl]
          pointwise [k0_pay4, k0_pay3]
        · obtain ⟨a, b, rfl⟩ : ∃ l j, x = ix2 l j := ⟨x 0, x 1, (ix2_eta x).symm⟩
          rw [hz]
          have ha : a.val < 8 := a.isLt
          refine Eq.trans (b := win (fun _ => 0) (iblk m c 0 t) (ix2 ⟨a.val, by omega⟩ b)) ?_
            (congrArg _ (ix2_ext _ _ _ (by change _ = a.val; simp [Rect.emb_apply]) (by simp [Rect.emb_apply])).symm)
          rw [win_low _ _ ⟨a.val, by omega⟩ b ha]
          pointwise [k0_pay1]
      have cov : ∀ y : S136x3072.Idx, ∃ p ∈ L, y ∈ p.1.set := by
        rw [← hL]
        intro y
        obtain ⟨a, b, rfl⟩ : ∃ l j, y = ix2 l j := ⟨y 0, y 1, (ix2_eta y).symm⟩
        simp only [List.mem_cons, List.not_mem_nil, or_false, exists_eq_or_imp, exists_eq_left, Rect.mem_set_unit]
        have ha : a.val < 136 := a.isLt
        have hb : b.val < 3072 := b.isLt
        simp only [Fin.forall_fin_two]
        change (8 ≤ a.val ∧ a.val < 8 + 128) ∧ (0 ≤ b.val ∧ b.val < 0 + 3072) ∨
          (0 ≤ a.val ∧ a.val < 0 + 8) ∧ (0 ≤ b.val ∧ b.val < 0 + 3072)
        omega
      clear hL
      unfold cnv convW
      simp only [readCov_pieces _ L _ _ key (fun j => cov _)]
      pointwise [k0_pay5, k0_pay4, k0_pay3]
      rw [win_high _ _ l ⟨8 + l.val, by omega⟩ j rfl]
    clear hv30
    rw [← e30]
    clear e30
  on_goal 2 =>
    rw [outsAt0_B m c t nz]
    frame_open
    simp (disch := decide) only [↓ View.readCov_skip, ↓ View.readCov_cons_toLoadRect, ↓ View.readCov_fill]
    frame_out
    have eS : prevS m c t = (outsAt0 m c (t.val - 1) (lt_of_le_of_lt (Nat.sub_le _ _) t.isLt)).2.2 := if_neg nz
    generalize hv30 : k0_pay5 (F:=Ideal) _ _ _ _ _ _ _ _ _ = v30
    have e30 : v30 = cnv m c t := by
      rw [← hv30]
      clear hv30
      funext i
      obtain ⟨l, j, rfl⟩ : ∃ l j, i = ix2 l j := ⟨i 0, i 1, (ix2_eta i).symm⟩
      generalize hW : View.read (Elt Ideal) (View.whole cc0_scratch0) _ = W
      have eW : W = win (prevT m c t) (iblk m c 0 t) := by
        rw [← hW]
        clear hW
        funext y
        obtain ⟨a, b, rfl⟩ : ∃ l j, y = ix2 l j := ⟨y 0, y 1, (ix2_eta y).symm⟩
        rw [View.read_writes_cons_unit _ _ _ _ _ _ rfl, View.writes_nil, read_unread_whole]
        split
        · rename_i hy
          have h0 := (hy 0).1
          change 8 ≤ a.val at h0
          rw [win_high _ _ ⟨a.val - 8, by omega⟩ a b (by simp only; omega)]
          pointwise [k0_pay4, k0_pay3]
          rfl
        · rename_i hy
          have h0 : a.val < 8 := by
            by_contra h0
            refine hy fun x => ?_
            match x with
            | ⟨0, _⟩ => change 8 ≤ a.val ∧ a.val < 8 + 128; omega
            | ⟨1, _⟩ => change 0 ≤ b.val ∧ b.val < 0 + 3072; omega
          rw [win_low _ _ a b h0, prevT, if_neg nz]
      unfold cnv convW
      pointwise [k0_pay5, k0_pay4, k0_pay3]
      rw [eW, win_high _ _ l ⟨8 + l.val, by omega⟩ j rfl]
    simp only [read_unread_whole]
    rw [← eS]
    clear hv30
    rw [← e30]
    clear e30
  all_goals
    generalize prevS m c t = PS
    generalize hv63 : k0_pay13 (F := Ideal) _ _ = v63
    generalize hv122 : k0_pay18 (F:=Ideal) _ _ _ = v122
    generalize hv149 : k0_pay19 (F:=Ideal) _ _ = v149
    generalize hv152 : k0_pay21 (F:=Ideal) _ _ = v152
    generalize hv167 : k0_pay22 (F:=Ideal) _ _ _ _ = v167
    generalize hv37 : k0_pay8 (F:=Ideal) _ = v37
    have eD : dtv m c t = v63 := hv63
    have eA : acs m c t = v122 := by rw [acs, eD]; exact hv122
    have eT : acst m c t = v167 := by rw [acst, hv149, hv152]; exact hv167
    rw [eD, eA, eT]
    clear eD eA eT hv63 hv122 hv149 hv152 hv37
    refine ⟨fun g n q => ?_, fun i hi j => ?_, fun l q => ?_⟩
    · refine (canon_first 4 (stG v37 (k0_pay9 v30) v63 v122 PS) _ _ ?_ ?_).trans rfl
      rotate_left
      · skip
        simp only [List.take, List.mem_cons, List.not_mem_nil, or_false, exists_eq_or_imp, exists_eq_left, Rect.mem_set_unit]
        have hg : g.val < 4 := g.isLt
        have hn : n.val < 128 := n.isLt
        have hq : q.val < 512 := q.isLt
        simp [Fin.forall_fin_succ]
        omega
      refine ⟨fun x => ?_, fun x => ?_, fun x => ?_, fun x => ?_, trivial⟩
      all_goals
          obtain ⟨i, n', q', rfl⟩ : ∃ i j k, x = ix3 i j k := ⟨x 0, x 1, x 2, (ix3_eta x).symm⟩
          obtain rfl : i = 0 := Subsingleton.elim _ _
          clear n q g
          generalize hX2 : View.readCov (Val := Elt Ideal) (View.whole cc0_scratch2) _ _ = X2
          have e2 : X2 = _ := hX2.symm.trans (readCov_pieces _ _ _ (G2 v37 v63 v122) ?pieces ?cov)
          case pieces =>
            clear hX2
            repeat' first | exact trivial | constructor
            all_goals
              intro x
              obtain ⟨a, b, rfl⟩ : ∃ l j, x = ix2 l j := ⟨x 0, x 1, (ix2_eta x).symm⟩
              simp only [x2_pieces v37 v63 v122]
              exact congrArg _ (ix2_ext _ _ _ (by simp [Rect.emb_apply]) (by simp [Rect.emb_apply, lane])).symm
          case cov =>
            clear hX2
            intro y
            obtain ⟨a, b, rfl⟩ : ∃ l j, y = ix2 l j := ⟨y 0, y 1, (ix2_eta y).symm⟩
            have ha : a.val < 128 := a.isLt
            have hb : b.val < 512 := b.isLt
            simp only [List.mem_cons, List.not_mem_nil, or_false, exists_eq_or_imp, exists_eq_left, Rect.mem_set_unit]
            have two : ∀ P : Fin cc0_scratch2.ty.shape.rank → Prop, (∀ a, P a) ↔ P (0 : Fin 2) ∧ P (1 : Fin 2) :=
              fun P => Fin.forall_fin_two (p := P)
            simp only [two]
            simp [LoadRect.idx]
            omega
          clear hX2
          generalize hX4 : View.readCov (Val := Elt Ideal) (View.whole cc0_scratch4) _ _ = X4
          have e4 : X4 = _ := hX4.symm.trans (readCov_pieces _ _ _ (G4 v122) ?pieces ?cov)
          case pieces =>
            clear hX4
            repeat' first | exact trivial | constructor
            all_goals
              intro x
              obtain ⟨a, b, rfl⟩ : ∃ l j, x = ix2 l j := ⟨x 0, x 1, (ix2_eta x).symm⟩
              simp only [cd_pieces v122]
              exact congrArg _ (ix2_ext _ _ _ (by simp [Rect.emb_apply]) (by simp [Rect.emb_apply, lane])).symm
          case cov =>
            clear hX4
            intro y
            obtain ⟨a, b, rfl⟩ : ∃ l j, y = ix2 l j := ⟨y 0, y 1, (ix2_eta y).symm⟩
            have ha : a.val < 1 := a.isLt
            have hb : b.val < 512 := b.isLt
            simp only [List.mem_cons, List.not_mem_nil, or_false, exists_eq_or_imp, exists_eq_left, Rect.mem_set_unit]
            have two : ∀ P : Fin cc0_scratch4.ty.shape.rank → Prop, (∀ a, P a) ↔ P (0 : Fin 2) ∧ P (1 : Fin 2) :=
              fun P => Fin.forall_fin_two (p := P)
            simp only [two]
            simp [LoadRect.idx]
            omega
          clear hX4
          rw [e2, e4]
          clear e2 e4
          have hn : n'.val < 128 := n'.isLt
          have hq : q'.val < 512 := q'.isLt
          rw [emb3 _ _ _ _ _ _ _ (by simp) (by simpa using hn) (by simpa using hq)]
          unfold stG stF
          pointwise [k0_pay176, k0_pay145, k0_pay143, k0_pay105, k0_pay103, k0_pay69, k0_pay67, k0_pay66, k0_pay31, k0_pay144, k0_pay104, k0_pay68, k0_pay30]
          simp [gcol, qq]
    · refine (canon_first 1 (fun y => iblk m c 0 t (ix3 0 (if h : (y 0).val < 8 then ⟨120 + (y 0).val, by omega⟩ else 0) (y 1))) _ _ ?_ ?_).trans ?_
      · refine ⟨fun x => ?_, trivial⟩
        obtain ⟨a, b, rfl⟩ : ∃ i j, x = ix2 i j := ⟨x 0, x 1, (ix2_eta x).symm⟩
        have ha : a.val < 8 := a.isLt
        have hb : b.val < 3072 := b.isLt
        rw [emb2 _ _ _ _ _ (by omega) (by omega)]
        pointwise [k0_pay6, k0_pay3]
      · simp only [List.take, List.mem_cons, List.not_mem_nil, or_false, exists_eq_or_imp, exists_eq_left, Rect.mem_set_unit]
        have hj : j.val < 3072 := j.isLt
        simp [Fin.forall_fin_succ]
        omega
      · exact congrArg (fun a => iblk m c 0 t (ix3 0 a j)) (dif_pos hi)
    · generalize hX3 : View.readCov (Val := Elt Ideal) (View.whole cc0_scratch3) _ _ = X3
      have e3 : X3 = _ := hX3.symm.trans (readCov_pieces _ _ _ (G3 v37 (k0_pay9 v30) (k0_pay10 v30) v63 v122 v167 PS (iblk m c 10 t)) ?pieces ?cov)
      case pieces =>
        clear hX3
        repeat' first | exact trivial | constructor
        all_goals
          intro x
          obtain ⟨a, b, rfl⟩ : ∃ l j, x = ix2 l j := ⟨x 0, x 1, (ix2_eta x).symm⟩
          simp only [fun S dr => y_pieces v37 (k0_pay9 v30) (k0_pay10 v30) v63 v122 v167 S dr v149 v152 hv167]
          have ha : a.val < 128 := a.isLt
          have hb : b.val < 128 := b.isLt
          rw [emb2 _ _ _ _ _ (by omega) (by omega)]
          unfold G3
          pointwise
          exact yAt_congr _ _ _ _ _ _ _ _ _ (Fin.ext (by simp [qg] <;> omega)) (Fin.ext (by simp [lane] <;> omega)) (Fin.ext (by simp [gcol, qm] <;> omega))
      case cov =>
        clear hX3
        intro y
        obtain ⟨a, b, rfl⟩ : ∃ l j, y = ix2 l j := ⟨y 0, y 1, (ix2_eta y).symm⟩
        have ha : a.val < 128 := a.isLt
        have hb : b.val < 2048 := b.isLt
        simp only [List.mem_cons, List.not_mem_nil, or_false, exists_eq_or_imp, exists_eq_left, Rect.mem_set_unit]
        have two : ∀ P : Fin cc0_scratch3.ty.shape.rank → Prop, (∀ a, P a) ↔ P (0 : Fin 2) ∧ P (1 : Fin 2) :=
          fun P => Fin.forall_fin_two (p := P)
        simp only [two]
        simp [LoadRect.idx]
        omega
      clear hX3
      replace e3 : X3 = G3 v37 (k0_pay9 v30) (k0_pay10 v30) v63 v122 v167 PS (iblk m c 10 t) := by
        rw [e3]
        funext y
        obtain ⟨a, b, rfl⟩ : ∃ l j, y = ix2 l j := ⟨y 0, y 1, (ix2_eta y).symm⟩
        exact congrArg _ (ix2_ext _ _ _ (by simp [LoadRect.idx]) (by simp [LoadRect.idx]))
      rw [← e3]
      clear e3
      refine (canon_first 4 (outG X3 (iblk m c 1 t) (iblk m c 11 t)) _ _ ?_ ?_).trans rfl
      rotate_left
      · skip
        simp only [List.take, List.mem_cons, List.not_mem_nil, or_false, exists_eq_or_imp, exists_eq_left, Rect.mem_set_unit]
        have hn : l.val < 128 := l.isLt
        have hq : q.val < 2048 := q.isLt
        simp [Fin.forall_fin_succ]
        omega
      refine ⟨fun x => ?_, fun x => ?_, fun x => ?_, fun x => ?_, trivial⟩
      all_goals
        obtain ⟨i, n', q', rfl⟩ : ∃ i j k, x = ix3 i j k := ⟨x 0, x 1, x 2, (ix3_eta x).symm⟩
        obtain rfl : i = 0 := Subsingleton.elim _ _
        have hn : n'.val < 128 := n'.isLt
        have hq : q'.val < 512 := q'.isLt
        rw [emb3 _ _ _ _ _ _ _ (by simp) (by simpa using hn) (by omega)]
        unfold outG outF
        pointwise [k0_pay183, k0_pay182, k0_pay181, k0_pay180, k0_pay179, k0_pay178, k0_pay177]
        have d3 : (1536 + q'.val) / 512 = 3 := by omega
        have d2 : (1024 + q'.val) / 512 = 2 := by omega
        have d1 : (512 + q'.val) / 512 = 1 := by omega
        have d0 : q'.val / 512 = 0 := by omega
        simp only [yz, qq, qg, d3, d2, d1, d0, Nat.reduceMul, Nat.mul_zero, Nat.zero_add]

end Cert.KernelIdeal.Ssd
-- ==== Proof.SsdSpec.lean ====
/-
  What the state-space scan computes, chunk by chunk: the convolved inputs, the steps, the prefix sums of the decay's
  exponents within a chunk, the state entering each chunk, and the gated, normed output.
-/
module

public import proofs.«01_k».proof.Proof.SsdBody

@[expose] public section

set_option maxRecDepth 16384

noncomputable section

open Idealize.ShloMosaic Idealize.ShloMosaic.TcCoe Idealize.SL.Sem

namespace Cert.KernelIdeal.Ssd

open Cert.KernelIdeal Cert.KernelIdeal.Gen

/-- The arguments of the call. -/
structure In where
  z : FVec Ideal ⟨3, ![4, 8192, 2048]⟩ .f32
  x : FVec Ideal ⟨3, ![4, 8192, 3072]⟩ .f32
  dt : FVec Ideal ⟨3, ![4, 8192, 32]⟩ .f32
  cw : FVec Ideal ⟨2, ![4, 3072]⟩ .f32
  cb : FVec Ideal ⟨1, ![3072]⟩ .f32
  dtb : FVec Ideal ⟨1, ![32]⟩ .f32
  alog : FVec Ideal ⟨1, ![32]⟩ .f32
  dsk : FVec Ideal ⟨1, ![32]⟩ .f32
  ng : FVec Ideal ⟨1, ![2048]⟩ .f32

/-- Token `l` of chunk `k`. -/
def tok (k : ℕ) (l : Fin 128) : Fin 8192 := ⟨(128 * k + l.val) % 8192, Nat.mod_lt _ (by decide)⟩

theorem tok_val (k : ℕ) (hk : k < 64) (l : Fin 128) : (tok k l).val = 128 * k + l.val := by
  unfold tok
  simp only
  omega

/-- Row `i` of the inputs with three zero rows in front. -/
def In.pad (a : In) (b : Fin 4) (i : ℕ) (j : Fin 3072) : EReal :=
  if h : 3 ≤ i ∧ i < 8195 then a.x (ix3 b ⟨i - 3, by omega⟩ j) else 0

/-- The causal convolution. -/
def In.conv (a : In) (b : Fin 4) (s : Fin 8192) (j : Fin 3072) : EReal :=
  a.cb (ix1 j) + a.cw (ix2 0 j) * a.pad b s.val j + a.cw (ix2 1 j) * a.pad b (1 + s.val) j + a.cw (ix2 2 j) * a.pad b (2 + s.val) j
    + a.cw (ix2 3 j) * a.pad b (3 + s.val) j

/-- `log(1 + exp x)`. -/
def softplus (x : EReal) : EReal := max x 0 + Ideal.log1p (Ideal.exp (0 - max x (-x)))

/-- The first 32 of 128 lanes, zero beyond. -/
def pad32 (f : Fin 32 → EReal) (h : Fin 128) : EReal := if hh : h.val < 32 then f ⟨h.val, hh⟩ else 0

/-- The step of token `s` and head `h`. -/
def In.step (a : In) (b : Fin 4) (s : Fin 8192) (h : Fin 128) : EReal :=
  softplus (pad32 (fun h => a.dt (ix3 b s h)) h + pad32 (fun h => a.dtb (ix1 h)) h)

/-- The rate of head `h`. -/
def In.rate (a : In) (h : Fin 128) : EReal := 0 - Ideal.exp (pad32 (fun h => a.alog (ix1 h)) h)

/-- The sum up to `l`. -/
def pre (f : Fin 128 → EReal) (l : Fin 128) : EReal := ∑ i : Fin 128, if i.val ≤ l.val then f i else 0

/-- The prefix sums of the decay's exponents in chunk `k`. -/
def In.cs (a : In) (b : Fin 4) (k : ℕ) (h l : Fin 128) : EReal := pre (fun i => a.step b (tok k i) h * a.rate h) l

def In.cnvC (a : In) (b : Fin 4) (k : ℕ) : FVec Ideal S128x3072 .f32 := fun i => a.conv b (tok k (i 0)) (i 1)
def In.X (a : In) (b : Fin 4) (k : ℕ) : FVec Ideal S128x2048 .f32 := k0_pay8 (a.cnvC b k)
def In.B (a : In) (b : Fin 4) (k : ℕ) : FVec Ideal S128x512 .f32 := k0_pay9 (a.cnvC b k)
def In.C (a : In) (b : Fin 4) (k : ℕ) : FVec Ideal S128x512 .f32 := k0_pay10 (a.cnvC b k)
def In.D (a : In) (b : Fin 4) (k : ℕ) : FVec Ideal S128x128 .f32 := fun i => a.step b (tok k (i 0)) (i 1)
def In.A (a : In) (b : Fin 4) (k : ℕ) : FVec Ideal S128x128 .f32 := fun i => a.cs b k (i 1) (i 0)
def In.AT (a : In) (b : Fin 4) (k : ℕ) : FVec Ideal S128x128 .f32 := fun i => a.cs b k (i 0) (i 1)
def In.dk (a : In) : FVec Ideal S1x2048 .f32 := fun i => a.dsk (ix1 ⟨(i 1).val / 64, by have := (i 1).isLt; change (i 1).val < 2048 at this; omega⟩)
def In.zC (a : In) (b : Fin 4) (k : ℕ) : FVec Ideal S1x128x2048 .f32 := fun i => a.z (ix3 b (tok k (i 1)) (i 2))
def In.gain (a : In) : FVec Ideal S1x2048 .f32 := fun i => a.ng (ix1 (i 1))

/-- The state entering chunk `k`. -/
def In.St (a : In) (b : Fin 4) : ℕ → FVec Ideal S4x128x512 .f32
  | 0 => fun _ => 0
  | k + 1 => stG (a.X b k) (a.B b k) (a.D b k) (a.A b k) (In.St a b k)

/-- The output of token `l` of chunk `k`, column `q`. -/
def In.out (a : In) (b : Fin 4) (k : ℕ) (l : Fin 128) (q : Fin 2048) : EReal :=
  outF (G3 (a.X b k) (a.B b k) (a.C b k) (a.D b k) (a.A b k) (a.AT b k) (a.St b k) a.dk) (a.zC b k) a.gain l q

/-! ## Prefix sums by doubling -/

/-- The sum of the `k` entries ending at `l`. -/
def wsum (f : Fin 128 → EReal) (k : ℕ) (l : Fin 128) : EReal := ∑ i : Fin 128, if i.val ≤ l.val ∧ l.val < i.val + k then f i else 0

theorem wsum_one (f : Fin 128 → EReal) (l : Fin 128) : wsum f 1 l = f l := by
  unfold wsum
  rw [Finset.sum_eq_single l]
  · rw [if_pos (by omega)]
  · intro i _ h
    rw [if_neg (fun h' => h (Fin.ext (by omega)))]
  · intro h
    exact absurd (Finset.mem_univ _) h

theorem wsum_all (f : Fin 128 → EReal) (l : Fin 128) : wsum f 128 l = pre f l := by
  unfold wsum pre
  refine Finset.sum_congr rfl fun i _ => ?_
  have := l.isLt
  by_cases h : i.val ≤ l.val
  · rw [if_pos h, if_pos (by omega)]
  · rw [if_neg h, if_neg (by omega)]

theorem wsum_double (f : Fin 128 → EReal) (k : ℕ) (hk : 0 < k) (hk' : k < 128) (l : Fin 128) (p : Fin 128) (hp : p.val = (l.val + 128 - k) % 128) :
    wsum f k l + Scalar.select (IntOp.cmpi CmpIPredicate.sge (BitVec.ofNat 32 l.val) (BitVec.ofNat 32 k)) (wsum f k p) 0 = wsum f (k + k) l := by
  have hl := l.isLt
  rw [WordCmp.cmpi_sge_ofNat (by omega) (by omega)]
  by_cases h : k ≤ l.val
  · have e : Scalar.select (BitVec.ofBool (decide (k ≤ l.val))) (wsum f k p) 0 = wsum f k p := by
      rw [decide_eq_true h]; rfl
    rw [e]
    unfold wsum
    rw [← Finset.sum_add_distrib]
    refine Finset.sum_congr rfl fun i _ => ?_
    have hp' : p.val = l.val - k := by omega
    by_cases h1 : i.val ≤ l.val ∧ l.val < i.val + k
    · rw [if_pos h1, if_neg (by omega), if_pos (by omega), add_zero]
    · rw [if_neg h1, zero_add]
      by_cases h2 : i.val ≤ p.val ∧ p.val < i.val + k
      · rw [if_pos h2, if_pos (by omega)]
      · rw [if_neg h2, if_neg (by omega)]
  · have e : Scalar.select (BitVec.ofBool (decide (k ≤ l.val))) (wsum f k p) 0 = 0 := by
      rw [decide_eq_false h]; rfl
    rw [e, add_zero]
    unfold wsum
    refine Finset.sum_congr rfl fun i _ => ?_
    by_cases h1 : i.val ≤ l.val
    · rw [if_pos (by omega), if_pos (by omega)]
    · rw [if_neg (by omega), if_neg (by omega)]

/-- One step of the running sum down the rows, -/
def stepR (k : BitVec 32) (x : FVec Ideal S128x128 .f32) : FVec Ideal S128x128 .f32 :=
  addf x (select (cmpi .sge (iota .tc S128x128 32 [0] iota_S128x128_d0_w32) (broadcast S128x128 k))
    (dynamicRotate 0 k none x rotates_S128x128_d0) (broadcast S128x128 (Scalar.ofBits (F := Ideal) .f32 0x00000000#32)))

/-- and along the lanes. -/
def stepC (k : BitVec 32) (x : FVec Ideal S128x128 .f32) : FVec Ideal S128x128 .f32 :=
  addf x (select (cmpi .sge (iota .tc S128x128 32 [1] iota_S128x128_d1_w32) (broadcast S128x128 k))
    (dynamicRotate 1 k none x rotates_S128x128_d1) (broadcast S128x128 (Scalar.ofBits (F := Ideal) .f32 0x00000000#32)))

theorem row_steps (a : FVec Ideal S1x128 .f32) (d : FVec Ideal S128x128 .f32) :
    k0_pay18 (iota Kind.tc S128x128 32 [0] iota_S128x128_d0_w32) (k0_pay16 a d) k0_pay17 =
      stepR 64#32 (stepR 32#32 (stepR 16#32 (stepR 8#32 (stepR 4#32 (stepR 2#32 (stepR 1#32 (mulf d (broadcastTo S128x128 a broadcasts_S1x128_S128x128)))))))) := rfl

theorem col_steps (a : FVec Ideal S128x1 .f32) (d : FVec Ideal S128x128 .f32) :
    k0_pay22 (iota Kind.tc S128x128 32 [1] iota_S128x128_d1_w32) (k0_pay19 a d) k0_pay20 (k0_pay21 a d) =
      stepC 64#32 (stepC 32#32 (stepC 16#32 (stepC 8#32 (stepC 4#32 (stepC 2#32 (stepC 1#32 (mulf d (broadcastTo S128x128 a broadcasts_S128x1_S128x128)))))))) := rfl

theorem stepR_wsum (f : Fin 128 → Fin 128 → EReal) (k : ℕ) (hk : k ∈ [1, 2, 4, 8, 16, 32, 64]) (x : FVec Ideal S128x128 .f32)
    (hx : ∀ l h, x (ix2 l h) = wsum (f h) k l) (l h : Fin 128) : stepR (BitVec.ofNat 32 k) x (ix2 l h) = wsum (f h) (k + k) l := by
  simp only [List.mem_cons, List.not_mem_nil, or_false] at hk
  rcases hk with rfl | rfl | rfl | rfl | rfl | rfl | rfl
  all_goals
    pointwise [stepR]
    rw [hx, hx]
    exact wsum_double _ _ (by omega) (by omega) _ _ rfl

theorem stepC_wsum (f : Fin 128 → Fin 128 → EReal) (k : ℕ) (hk : k ∈ [1, 2, 4, 8, 16, 32, 64]) (x : FVec Ideal S128x128 .f32)
    (hx : ∀ h l, x (ix2 h l) = wsum (f h) k l) (h l : Fin 128) : stepC (BitVec.ofNat 32 k) x (ix2 h l) = wsum (f h) (k + k) l := by
  simp only [List.mem_cons, List.not_mem_nil, or_false] at hk
  rcases hk with rfl | rfl | rfl | rfl | rfl | rfl | rfl
  all_goals
    pointwise [stepC]
    rw [hx, hx]
    exact wsum_double _ _ (by omega) (by omega) _ _ rfl

/-- The seven steps down the rows make the prefix sums, -/
theorem row_pre (a : FVec Ideal S1x128 .f32) (d : FVec Ideal S128x128 .f32) (l h : Fin 128) :
    k0_pay18 (iota Kind.tc S128x128 32 [0] iota_S128x128_d0_w32) (k0_pay16 a d) k0_pay17 (ix2 l h) =
      pre (fun i => d (ix2 i h) * a (ix2 0 h)) l := by
  rw [row_steps, ← wsum_all]
  have H := stepR_wsum fun h i => d (ix2 i h) * a (ix2 0 h)
  refine H 64 (by decide) _ (H 32 (by decide) _ (H 16 (by decide) _ (H 8 (by decide) _ (H 4 (by decide) _ (H 2 (by decide) _
    (H 1 (by decide) _ fun l h => ?_)))))) l h
  rw [wsum_one]
  pointwise

/-- and so do the seven along the lanes. -/
theorem col_pre (a : FVec Ideal S128x1 .f32) (d : FVec Ideal S128x128 .f32) (h l : Fin 128) :
    k0_pay22 (iota Kind.tc S128x128 32 [1] iota_S128x128_d1_w32) (k0_pay19 a d) k0_pay20 (k0_pay21 a d) (ix2 h l) =
      pre (fun i => d (ix2 h i) * a (ix2 h 0)) l := by
  rw [col_steps, ← wsum_all]
  have H := stepC_wsum fun h i => d (ix2 h i) * a (ix2 h 0)
  refine H 64 (by decide) _ (H 32 (by decide) _ (H 16 (by decide) _ (H 8 (by decide) _ (H 4 (by decide) _ (H 2 (by decide) _
    (H 1 (by decide) _ fun h l => ?_)))))) h l
  rw [wsum_one]
  pointwise

end Cert.KernelIdeal.Ssd
-- ==== Proof.Rows.lean ====
/-
  The mathematics of one row, stated once for the claims of this directory: the layer norm of a row of 1024 numbers and
  one hidden unit of the gated feed-forward block. Plain functions of extended reals, of no program's text.
-/
module

public import Idealize.ShloMosaic.Lib.Pipeline.ValueKit
public import Idealize.ShloMosaic.Lib.Pointwise

@[expose] public section

noncomputable section

open Idealize.ShloMosaic

namespace Cert.Rows

/-- The mean of a row of 1024 numbers: its sum over the float constant 1024. -/
def mean (h : Fin 1024 → EReal) : EReal := Ideal.div (∑ k, h k) (Ideal.ofBits FTy.f32 1149239296#32)

/-- The layer norm of the row `h` at lane `l`, with gain `g` and bias `b` there: the row less its mean, times the
    reciprocal square root of its mean square deviation plus epsilon, times the gain, plus the bias. -/
def layerNorm (h : Fin 1024 → EReal) (g b : EReal) (l : Fin 1024) : EReal :=
  (h l - mean h) * Ideal.rsqrt (mean (fun k => (h k - mean h) * (h k - mean h)) + Ideal.ofBits FTy.f32 925353388#32) * g + b

/-- The residual mix `alpha * x + s * y`, alpha the float constant of the eight-sublayer depth. -/
def mix (s x y : EReal) : EReal := Ideal.ofBits FTy.f32 1071072509#32 * x + s * y

/-- A gated unit from its gate's and its value's projections of the row `x`: silu of the gate times the value. -/
def unit (x wg wu : Fin 1024 → EReal) : EReal :=
  (∑ k, x k * wg k) * Ideal.logistic (∑ k, x k * wg k) * ∑ k, x k * wu k

/-- Row `r` of an array over batch, sequence and lanes, the batch and the sequence taken as one axis of 32768. -/
def row {n : Nat} {φ : FTy} (x : FVec Ideal (⟨3, ![4, 8192, n]⟩ : Shape) φ) (r : Fin 32768) (k : Fin n) : EReal :=
  x (ix3 (⟨r.val / 8192, by omega⟩ : Fin 4) (⟨r.val % 8192, by omega⟩ : Fin 8192) k)

/-- The integer zero, converted, is zero. -/
theorem sitofp_zero (φ : FTy) : (FloatOps.sitofp φ (0#32) : Ideal φ) = (0 : EReal) := by
  show (((BitVec.toInt (0#32) : ℤ) : ℝ) : EReal) = 0
  simp

end Cert.Rows
-- ==== Proof.SsdKernel.lean ====
/-
  The scan kernel's arrays after the run: what each block of the arguments reads, the state and the rows each chunk finds,
  and the result.
-/
module

public import proofs.«01_k».proof.Proof.SsdSpec
public import proofs.«01_k».proof.Proof.Rows

@[expose] public section

set_option maxRecDepth 16384

noncomputable section

set_option maxHeartbeats 1600000

open Idealize.ShloMosaic Idealize.ShloMosaic.TcCoe Idealize.SL.Sem

namespace Cert.KernelIdeal.Ssd

open Cert.KernelIdeal Cert.KernelIdeal.Gen Cert.Rows
open Idealize.ShloMosaic.StableHlo

variable (m : (ℓ : Loc nD τ sig) → Buf (Elt Ideal) ℓ)

/-- The index maps: point `t` is batch `t / 64`, chunk `t % 64`. -/
theorem idx : ∀ t : Fin cfg0.N, win0_0.index t = ![t.val / 64, t.val % 64, 0] ∧ win0_1.index t = ![t.val / 64, t.val % 64, 0]
    ∧ win0_2.index t = ![t.val / 64, t.val % 64, 0] ∧ win0_3.index t = ![t.val / 64, 0, t.val % 64] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_12.index t = ![t.val / 64, t.val % 64, 0] ∧ t.val < 256 :=
  (by decide +kernel : ∀ t : Fin grid0.N, _)

/-- The arguments, as the launch has them. -/
def args (c : Dev nD) : In where
  z := m ((c : Thread nD τ).loc main_arg0)
  x := m ((c : Thread nD τ).loc main_arg1)
  dt := m ((c : Thread nD τ).loc main_arg2)
  cw := m ((c : Thread nD τ).loc main_arg3)
  cb := m ((c : Thread nD τ).loc main_arg4)
  dtb := m ((c : Thread nD τ).loc main_arg5)
  alog := m ((c : Thread nD τ).loc main_arg6)
  dsk := m ((c : Thread nD τ).loc main_arg7)
  ng := m ((c : Thread nD τ).loc main_arg8)

theorem read_x (c : Dev nD) (t : Fin cfg0.N) (l : Fin 128) (j : Fin 3072) (i : Fin 4) (s : Fin 8192) (hi : i.val = t.val / 64)
    (hs : s.val = 128 * (t.val % 64) + l.val) :
    (show FVec Ideal S1x128x3072 .f32 from iblk m c 0 t) (ix3 0 l j) = (args m c).x (ix3 i s j) := by
  blk_simp [iblk, V]
  simp only [hostOps0, hostOps0_1, hostOps0_2, hostOps0_3, hostOps0_4, hostOps0_5, hostOps0_6, List.flatten_cons, List.flatten_nil, List.append_nil, List.cons_append,
    List.nil_append, TRef.binary, TRef.nullary, TRef.unary, TRef.toBuf, TRef.ofBuf, cast_eq]
  entry_read
  pointwise [args]
  blk_ext [idx t, hi, hs]

theorem read_z (c : Dev nD) (t : Fin cfg0.N) (l : Fin 128) (j : Fin 2048) (i : Fin 4) (s : Fin 8192) (hi : i.val = t.val / 64)
    (hs : s.val = 128 * (t.val % 64) + l.val) :
    (show FVec Ideal S1x128x2048 .f32 from iblk m c 1 t) (ix3 0 l j) = (args m c).z (ix3 i s j) := by
  blk_simp [iblk, V]
  simp only [hostOps0, hostOps0_1, hostOps0_2, hostOps0_3, hostOps0_4, hostOps0_5, hostOps0_6, List.flatten_cons, List.flatten_nil, List.append_nil, List.cons_append,
    List.nil_append, TRef.binary, TRef.nullary, TRef.unary, TRef.toBuf, TRef.ofBuf, cast_eq]
  entry_read
  pointwise [args]
  blk_ext [idx t, hi, hs]

theorem read_dt (c : Dev nD) (t : Fin cfg0.N) (l : Fin 128) (h : Fin 128) (i : Fin 4) (s : Fin 8192) (hi : i.val = t.val / 64)
    (hs : s.val = 128 * (t.val % 64) + l.val) :
    (show FVec Ideal S1x128x128 .f32 from iblk m c 2 t) (ix3 0 l h) = pad32 (fun h => (args m c).dt (ix3 i s h)) h := by
  blk_simp [iblk, V]
  simp only [hostOps0, hostOps0_1, hostOps0_2, hostOps0_3, hostOps0_4, hostOps0_5, hostOps0_6, List.flatten_cons, List.flatten_nil, List.append_nil, List.cons_append,
    List.nil_append, TRef.binary, TRef.nullary, TRef.unary, TRef.toBuf, TRef.ofBuf, cast_eq]
  entry_read
  pointwise [args]
  unfold pad32
  by_cases hh : h.val < 32
  · rw [dif_pos hh]
    blk_simp [idx t]
    rw [dif_pos (by omega)]
    blk_ext [idx t, hi, hs]
  · rw [dif_neg hh]
    blk_simp [idx t]
    rw [dif_neg (by omega)]
    exact sitofp_zero .f32

theorem read_dtT (c : Dev nD) (t : Fin cfg0.N) (l : Fin 128) (h : Fin 128) (i : Fin 4) (s : Fin 8192) (hi : i.val = t.val / 64)
    (hs : s.val = 128 * (t.val % 64) + l.val) :
    (show FVec Ideal S1x128x128 .f32 from iblk m c 3 t) (ix3 0 h l) = pad32 (fun h => (args m c).dt (ix3 i s h)) h := by
  blk_simp [iblk, V]
  simp only [hostOps0, hostOps0_1, hostOps0_2, hostOps0_3, hostOps0_4, hostOps0_5, hostOps0_6, List.flatten_cons, List.flatten_nil, List.append_nil, List.cons_append,
    List.nil_append, TRef.binary, TRef.nullary, TRef.unary, TRef.toBuf, TRef.ofBuf, cast_eq]
  entry_read
  pointwise [args]
  unfold pad32
  by_cases hh : h.val < 32
  · rw [dif_pos hh]
    blk_simp [idx t]
    rw [dif_pos (by omega)]
    blk_ext [idx t, hi, hs]
  · rw [dif_neg hh]
    blk_simp [idx t]
    rw [dif_neg (by omega)]
    exact sitofp_zero .f32

theorem read_cw (c : Dev nD) (t : Fin cfg0.N) (i : Fin 4) (j : Fin 3072) :
    (show FVec Ideal S4x3072 .f32 from iblk m c 4 t) (ix2 i j) = (args m c).cw (ix2 i j) := by
  blk_simp [iblk, V]
  simp only [hostOps0, hostOps0_1, hostOps0_2, hostOps0_3, hostOps0_4, hostOps0_5, hostOps0_6, List.flatten_cons, List.flatten_nil, List.append_nil, List.cons_append,
    List.nil_append, TRef.binary, TRef.nullary, TRef.unary, TRef.toBuf, TRef.ofBuf, cast_eq]
  entry_read
  pointwise [args]
  blk_ext [idx t]

theorem read_cb (c : Dev nD) (t : Fin cfg0.N) (j : Fin 3072) :
    (show FVec Ideal S1x3072 .f32 from iblk m c 5 t) (ix2 0 j) = (args m c).cb (ix1 j) := by
  blk_simp [iblk, V]
  simp only [hostOps0, hostOps0_1, hostOps0_2, hostOps0_3, hostOps0_4, hostOps0_5, hostOps0_6, List.flatten_cons, List.flatten_nil, List.append_nil, List.cons_append,
    List.nil_append, TRef.binary, TRef.nullary, TRef.unary, TRef.toBuf, TRef.ofBuf, cast_eq]
  entry_read
  pointwise [args]
  blk_ext [idx t]

theorem read_dtb (c : Dev nD) (t : Fin cfg0.N) (h : Fin 128) :
    (show FVec Ideal S1x128 .f32 from iblk m c 6 t) (ix2 0 h) = pad32 (fun h => (args m c).dtb (ix1 h)) h := by
  blk_simp [iblk, V]
  simp only [hostOps0, hostOps0_1, hostOps0_2, hostOps0_3, hostOps0_4, hostOps0_5, hostOps0_6, List.flatten_cons, List.flatten_nil, List.append_nil, List.cons_append,
    List.nil_append, TRef.binary, TRef.nullary, TRef.unary, TRef.toBuf, TRef.ofBuf, cast_eq]
  entry_read
  pointwise [args]
  unfold pad32
  by_cases hh : h.val < 32
  · rw [dif_pos hh]
    blk_simp [idx t]
    rw [dif_pos (by omega)]
    blk_ext [idx t]
  · rw [dif_neg hh]
    blk_simp [idx t]
    rw [dif_neg (by omega)]
    exact sitofp_zero .f32

theorem read_dtbT (c : Dev nD) (t : Fin cfg0.N) (h : Fin 128) :
    (show FVec Ideal S128x1 .f32 from iblk m c 7 t) (ix2 h 0) = pad32 (fun h => (args m c).dtb (ix1 h)) h := by
  blk_simp [iblk, V]
  simp only [hostOps0, hostOps0_1, hostOps0_2, hostOps0_3, hostOps0_4, hostOps0_5, hostOps0_6, List.flatten_cons, List.flatten_nil, List.append_nil, List.cons_append,
    List.nil_append, TRef.binary, TRef.nullary, TRef.unary, TRef.toBuf, TRef.ofBuf, cast_eq]
  entry_read
  pointwise [args]
  unfold pad32
  by_cases hh : h.val < 32
  · rw [dif_pos hh]
    blk_simp [idx t]
    rw [dif_pos (by omega)]
    blk_ext [idx t]
  · rw [dif_neg hh]
    blk_simp [idx t]
    rw [dif_neg (by omega)]
    exact sitofp_zero .f32

theorem read_alog (c : Dev nD) (t : Fin cfg0.N) (h : Fin 128) :
    (show FVec Ideal S1x128 .f32 from iblk m c 8 t) (ix2 0 h) = pad32 (fun h => (args m c).alog (ix1 h)) h := by
  blk_simp [iblk, V]
  simp only [hostOps0, hostOps0_1, hostOps0_2, hostOps0_3, hostOps0_4, hostOps0_5, hostOps0_6, List.flatten_cons, List.flatten_nil, List.append_nil, List.cons_append,
    List.nil_append, TRef.binary, TRef.nullary, TRef.unary, TRef.toBuf, TRef.ofBuf, cast_eq]
  entry_read
  pointwise [args]
  unfold pad32
  by_cases hh : h.val < 32
  · rw [dif_pos hh]
    blk_simp [idx t]
    rw [dif_pos (by omega)]
    blk_ext [idx t]
  · rw [dif_neg hh]
    blk_simp [idx t]
    rw [dif_neg (by omega)]
    exact sitofp_zero .f32

theorem read_alogT (c : Dev nD) (t : Fin cfg0.N) (h : Fin 128) :
    (show FVec Ideal S128x1 .f32 from iblk m c 9 t) (ix2 h 0) = pad32 (fun h => (args m c).alog (ix1 h)) h := by
  blk_simp [iblk, V]
  simp only [hostOps0, hostOps0_1, hostOps0_2, hostOps0_3, hostOps0_4, hostOps0_5, hostOps0_6, List.flatten_cons, List.flatten_nil, List.append_nil, List.cons_append,
    List.nil_append, TRef.binary, TRef.nullary, TRef.unary, TRef.toBuf, TRef.ofBuf, cast_eq]
  entry_read
  pointwise [args]
  unfold pad32
  by_cases hh : h.val < 32
  · rw [dif_pos hh]
    blk_simp [idx t]
    rw [dif_pos (by omega)]
    blk_ext [idx t]
  · rw [dif_neg hh]
    blk_simp [idx t]
    rw [dif_neg (by omega)]
    exact sitofp_zero .f32

theorem read_dsk (c : Dev nD) (t : Fin cfg0.N) (q : Fin 2048) :
    (show FVec Ideal S1x2048 .f32 from iblk m c 10 t) (ix2 0 q) = (args m c).dk (ix2 0 q) := by
  blk_simp [iblk, V]
  simp only [hostOps0, hostOps0_1, hostOps0_2, hostOps0_3, hostOps0_4, hostOps0_5, hostOps0_6, List.flatten_cons, List.flatten_nil, List.append_nil, List.cons_append,
    List.nil_append, TRef.binary, TRef.nullary, TRef.unary, TRef.toBuf, TRef.ofBuf, cast_eq]
  entry_read
  pointwise [args, In.dk]
  blk_ext [idx t]

theorem read_ng (c : Dev nD) (t : Fin cfg0.N) (q : Fin 2048) :
    (show FVec Ideal S1x2048 .f32 from iblk m c 11 t) (ix2 0 q) = (args m c).ng (ix1 q) := by
  blk_simp [iblk, V]
  simp only [hostOps0, hostOps0_1, hostOps0_2, hostOps0_3, hostOps0_4, hostOps0_5, hostOps0_6, List.flatten_cons, List.flatten_nil, List.append_nil, List.cons_append,
    List.nil_append, TRef.binary, TRef.nullary, TRef.unary, TRef.toBuf, TRef.ofBuf, cast_eq]
  entry_read
  pointwise [args]
  blk_ext [idx t]

theorem lt_N (t : Fin cfg0.N) : t.val < 256 := (idx t).2.2.2.2.2.2.2.2.2.2.2.2.2

/-- A row of the window that the convolution reads. -/
theorem win_pad (c : Dev nD) (t : Fin cfg0.N) (b : Fin 4) (hb : b.val = t.val / 64) (i : Fin 136) (j : Fin 3072) (h5 : 5 ≤ i.val)
    (r : ℕ) (hr : r = 128 * (t.val % 64) + i.val - 5) :
    win (prevT m c t) (iblk m c 0 t) (ix2 i j) = (args m c).pad b r j := by
  have ht := lt_N t
  unfold In.pad
  by_cases h8 : i.val < 8
  · rw [win_low _ _ _ _ h8, prevT]
    by_cases h0 : t.val % 64 = 0
    · rw [if_pos h0, dif_neg (by omega)]
    · rw [if_neg h0, dif_pos (by omega)]
      refine ((body m c ⟨t.val - 1, lt_of_le_of_lt (Nat.sub_le _ _) t.isLt⟩).2.1 i h8 j).trans ?_
      refine read_x m c ⟨t.val - 1, lt_of_le_of_lt (Nat.sub_le _ _) t.isLt⟩ _ j b _ ?_ ?_
      · simp only; omega
      · simp only; omega
  · rw [win_high _ _ ⟨i.val - 8, by omega⟩ _ _ (by simp only; omega), dif_pos (by omega)]
    refine read_x m c t _ j b _ hb ?_
    simp only; omega

theorem cnv_eq (c : Dev nD) (t : Fin cfg0.N) (b : Fin 4) (hb : b.val = t.val / 64) :
    cnv m c t = (args m c).cnvC b (t.val % 64) := by
  have hk : t.val % 64 < 64 := Nat.mod_lt _ (by decide)
  funext i
  obtain ⟨l, j, rfl⟩ : ∃ l j, i = ix2 l j := ⟨i 0, i 1, (ix2_eta i).symm⟩
  have hs := tok_val (t.val % 64) hk l
  change convW _ _ _ (ix2 l j) = (args m c).conv b (tok (t.val % 64) l) j
  unfold convW In.conv
  simp only [ix2_0, ix2_1]
  rw [win_pad m c t b hb _ j (by simp only; omega) (tok (t.val % 64) l).val (by simp only; omega),
    win_pad m c t b hb _ j (by simp only; omega) (1 + (tok (t.val % 64) l).val) (by simp only; omega),
    win_pad m c t b hb _ j (by simp only; omega) (2 + (tok (t.val % 64) l).val) (by simp only; omega),
    win_pad m c t b hb _ j (by simp only; omega) (3 + (tok (t.val % 64) l).val) (by simp only; omega)]
  have c0 := read_cw m c t 0 j
  have c1 := read_cw m c t 1 j
  have c2 := read_cw m c t 2 j
  have c3 := read_cw m c t 3 j
  have cb := read_cb m c t j
  rw [← c0, ← c1, ← c2, ← c3, ← cb]

theorem softplus_lane (c : Dev nD) (t : Fin cfg0.N) (l h : Fin 128) :
    dtv m c t (ix2 l h) = softplus ((show FVec Ideal S1x128x128 .f32 from iblk m c 2 t) (ix3 0 l h) + (show FVec Ideal S1x128 .f32 from iblk m c 6 t) (ix2 0 h)) := by
  unfold dtv
  pointwise [k0_pay13, softplus]
  rfl

theorem softplus_row (c : Dev nD) (t : Fin cfg0.N) (l h : Fin 128) :
    k0_pay15 (k0_pay14 (iblk m c 3 t) (iblk m c 7 t)) (ix2 h l) = softplus ((show FVec Ideal S1x128x128 .f32 from iblk m c 3 t) (ix3 0 h l) + (show FVec Ideal S128x1 .f32 from iblk m c 7 t) (ix2 h 0)) := by
  pointwise [k0_pay14, k0_pay15, softplus]
  rfl

theorem dtv_eq (c : Dev nD) (t : Fin cfg0.N) (b : Fin 4) (hb : b.val = t.val / 64) :
    dtv m c t = (args m c).D b (t.val % 64) := by
  have hk : t.val % 64 < 64 := Nat.mod_lt _ (by decide)
  funext i
  obtain ⟨l, h, rfl⟩ : ∃ l h, i = ix2 l h := ⟨i 0, i 1, (ix2_eta i).symm⟩
  change _ = (args m c).step b (tok (t.val % 64) l) h
  rw [softplus_lane, read_dt m c t l h b (tok (t.val % 64) l) hb (tok_val _ hk l), read_dtb m c t h]
  rfl

theorem acs_eq (c : Dev nD) (t : Fin cfg0.N) (b : Fin 4) (hb : b.val = t.val / 64) :
    acs m c t = (args m c).A b (t.val % 64) := by
  funext i
  obtain ⟨l, h, rfl⟩ : ∃ l h, i = ix2 l h := ⟨i 0, i 1, (ix2_eta i).symm⟩
  change _ = (args m c).cs b (t.val % 64) h l
  rw [acs, row_pre, dtv_eq m c t b hb]
  have e : k0_pay11 (iblk m c 8 t) (ix2 0 h) = (args m c).rate h := by
    have r := read_alog m c t h
    pointwise [k0_pay11, In.rate]
    rw [← r]
  rw [e]
  rfl

theorem acst_eq (c : Dev nD) (t : Fin cfg0.N) (b : Fin 4) (hb : b.val = t.val / 64) :
    acst m c t = (args m c).AT b (t.val % 64) := by
  have hk : t.val % 64 < 64 := Nat.mod_lt _ (by decide)
  funext i
  obtain ⟨h, l, rfl⟩ : ∃ h l, i = ix2 h l := ⟨i 0, i 1, (ix2_eta i).symm⟩
  change _ = (args m c).cs b (t.val % 64) h l
  rw [acst, col_pre]
  have e : k0_pay12 (iblk m c 9 t) (ix2 h 0) = (args m c).rate h := by
    have r := read_alogT m c t h
    pointwise [k0_pay12, In.rate]
    rw [← r]
  rw [e]
  unfold In.cs
  refine congrArg (pre · l) (funext fun i => congrArg (· * _) ?_)
  rw [softplus_row, read_dtT m c t i h b (tok (t.val % 64) i) hb (tok_val _ hk i), read_dtbT m c t h]
  rfl

theorem dk_eq (c : Dev nD) (t : Fin cfg0.N) : (show FVec Ideal S1x2048 .f32 from iblk m c 10 t) = (args m c).dk := by
  funext i
  obtain ⟨a, q, rfl⟩ : ∃ l h, i = ix2 l h := ⟨i 0, i 1, (ix2_eta i).symm⟩
  obtain rfl : a = (0 : Fin 1) := Subsingleton.elim (α := Fin 1) _ _
  exact read_dsk m c t q

theorem gain_eq (c : Dev nD) (t : Fin cfg0.N) : (show FVec Ideal S1x2048 .f32 from iblk m c 11 t) = (args m c).gain := by
  funext i
  obtain ⟨a, q, rfl⟩ : ∃ l h, i = ix2 l h := ⟨i 0, i 1, (ix2_eta i).symm⟩
  obtain rfl : a = (0 : Fin 1) := Subsingleton.elim (α := Fin 1) _ _
  exact read_ng m c t q

theorem zC_eq (c : Dev nD) (t : Fin cfg0.N) (b : Fin 4) (hb : b.val = t.val / 64) :
    (show FVec Ideal S1x128x2048 .f32 from iblk m c 1 t) = (args m c).zC b (t.val % 64) := by
  have hk : t.val % 64 < 64 := Nat.mod_lt _ (by decide)
  funext i
  obtain ⟨a, l, q, rfl⟩ : ∃ a l h, i = ix3 a l h := ⟨i 0, i 1, i 2, (ix3_eta i).symm⟩
  obtain rfl : a = (0 : Fin 1) := Subsingleton.elim (α := Fin 1) _ _
  exact read_z m c t l q b (tok (t.val % 64) l) hb (tok_val _ hk l)

/-- The state a chunk leaves is the next chunk's. -/
theorem leaves (c : Dev nD) (t : Fin cfg0.N) (b : Fin 4) (hb : b.val = t.val / 64)
    (hS : prevS m c t = (args m c).St b (t.val % 64)) :
    (outsAt0 m c t.val t.isLt).2.2 = (args m c).St b (t.val % 64 + 1) := by
  funext i
  obtain ⟨g, n, q, rfl⟩ : ∃ a l h, i = ix3 a l h := ⟨i 0, i 1, i 2, (ix3_eta i).symm⟩
  rw [(body m c t).1 g n q, cnv_eq m c t b hb, dtv_eq m c t b hb, acs_eq m c t b hb, hS]
  rfl

/-- The state each chunk finds. -/
theorem prevS_eq (c : Dev nD) (b : Fin 4) : ∀ (k : ℕ) (t : Fin cfg0.N), t.val % 64 = k → b.val = t.val / 64 →
    prevS m c t = (args m c).St b k
  | 0, t, hk, hb => by rw [prevS, if_pos hk]; rfl
  | k + 1, t, hk, hb => by
    have ht := lt_N t
    rw [prevS, if_neg (by omega)]
    have e1 : (⟨t.val - 1, lt_of_le_of_lt (Nat.sub_le _ _) t.isLt⟩ : Fin cfg0.N).val % 64 = k := by simp only; omega
    have e2 : b.val = (⟨t.val - 1, lt_of_le_of_lt (Nat.sub_le _ _) t.isLt⟩ : Fin cfg0.N).val / 64 := by simp only; omega
    have hl := leaves m c ⟨t.val - 1, lt_of_le_of_lt (Nat.sub_le _ _) t.isLt⟩ b e2 ((prevS_eq c b k _ e1 e2).trans (by rw [e1]))
    rw [e1] at hl
    exact hl

/-- The result's array. -/
def res (a : In) : FVec Ideal S4x8192x2048 .f32 := fun i =>
  a.out (i 0) ((i 1).val / 128) ⟨(i 1).val % 128, Nat.mod_lt _ (by decide)⟩ (i 2)

theorem block_eq (c : Dev nD) (t : Fin cfg0.N) (l : Fin 128) (q : Fin 2048) (b : Fin 4) (hb : b.val = t.val / 64) :
    (outsAt0 m c t.val t.isLt).1 (ix3 0 l q) = (args m c).out b (t.val % 64) l q := by
  rw [(body m c t).2.2 l q, cnv_eq m c t b hb, dtv_eq m c t b hb, acs_eq m c t b hb, acst_eq m c t b hb, prevS_eq m c b _ t rfl hb]
  have h1 := dk_eq m c t
  have h2 := gain_eq m c t
  have h3 := zC_eq m c t b hb
  unfold In.out
  rw [← h1, ← h2, ← h3]
  rfl

theorem final (c : Dev nD) : (dats m 0 c).arrAt 12 cfg0.N = res (args m c) := by
  refine (dats m 0 c).arrAt_eq_of_covers 12 _ (by decide +kernel) fun t _ y => ?_
  blk_simp
  rw [after0_12]
  idx_vars y
  have ht := lt_N t
  obtain rfl : y0 = (0 : Fin 1) := Subsingleton.elim (α := Fin 1) _ _
  rw [block_eq m c t y1 y2 ⟨t.val / 64, by omega⟩ rfl]
  refine Eq.trans (b := res (args m c) (ix3 (⟨t.val / 64, by omega⟩ : Fin 4) (⟨128 * (t.val % 64) + y1.val, by omega⟩ : Fin 8192) y2)) ?_ ?_
  · unfold res
    have e1 : (128 * (t.val % 64) + y1.val) / 128 = t.val % 64 := by omega
    have e2 : (128 * (t.val % 64) + y1.val) % 128 = y1.val := by omega
    simp only [ix3_0, ix3_1, ix3_2, e1, e2]
  · blk_ext [idx t]

end Cert.KernelIdeal.Ssd
-- ==== Proof.SsdRef.lean ====
/-
  The reference's stages before its loop, at an index, in the terms of what the scan computes.
-/
module

public import proofs.«01_k».proof.Proof.SsdStages
public import proofs.«01_k».proof.Proof.SsdKernel
public import Idealize.ShloMosaic.Lib.WordCmp
public import Idealize.ShloMosaic.Lib.IdealHost

@[expose] public section

set_option maxRecDepth 16384

noncomputable section

set_option maxHeartbeats 1600000

open Idealize.ShloMosaic Idealize.ShloMosaic.TcCoe Idealize.SL.Sem
open Idealize.ShloMosaic.StableHlo

namespace Cert.KernelIdeal.Ssd

open Cert.KernelIdeal Cert.KernelIdeal.Gen

/-- The activation. -/
def silu (x : EReal) : EReal := x * Ideal.logistic x

theorem In.X_apply (a : In) (b : Fin 4) (k : ℕ) (l : Fin 128) (q : Fin 2048) (j : Fin 3072) (hj : j.val = q.val) :
    a.X b k (ix2 l q) = silu (a.conv b (tok k l) j) := by
  obtain rfl : j = ⟨q.val, lt_of_lt_of_le q.isLt (by decide)⟩ := Fin.ext hj
  unfold In.X
  pointwise [k0_pay8, k0_pay7]
  rfl

theorem In.B_apply (a : In) (b : Fin 4) (k : ℕ) (l : Fin 128) (q : Fin 512) (j : Fin 3072) (hj : j.val = 2048 + q.val) :
    a.B b k (ix2 l q) = silu (a.conv b (tok k l) j) := by
  obtain rfl : j = ⟨2048 + q.val, lt_of_lt_of_le (Nat.add_lt_add_left q.isLt 2048) (by decide)⟩ := Fin.ext hj
  unfold In.B
  pointwise [k0_pay9, k0_pay7]
  rfl

theorem In.C_apply (a : In) (b : Fin 4) (k : ℕ) (l : Fin 128) (q : Fin 512) (j : Fin 3072) (hj : j.val = 2560 + q.val) :
    a.C b k (ix2 l q) = silu (a.conv b (tok k l) j) := by
  obtain rfl : j = ⟨2560 + q.val, lt_of_lt_of_le (Nat.add_lt_add_left q.isLt 2560) (by decide)⟩ := Fin.ext hj
  unfold In.C
  pointwise [k0_pay10, k0_pay7]
  rfl

theorem pad32_of (f : Fin 32 → EReal) (h : Fin 128) (h' : Fin 32) (e : h.val = h'.val) : pad32 f h = f h' := by
  unfold pad32
  rw [dif_pos (by omega)]
  exact congrArg f (Fin.ext e)

end Cert.KernelIdeal.Ssd

namespace Cert.ReferenceIdeal.Ssd

open Cert.ReferenceIdeal Cert.ReferenceIdeal.Gen Cert.ReferenceIdeal.Value Cert.Rows
open Cert.KernelIdeal.Ssd (In tok tok_val silu softplus pad32 pad32_of pre gcol hd qq qg qm)

section stages

variable (a : In)

/-- The stages at the arguments. -/
def rAct : FVec Ideal S4x8192x3072 .f32 := act (conv (padded a.x) a.cw a.cb)
def rStep : FVec Ideal S4x8192x32 .f32 := soft (biased a.dt a.dtb)
def rCum : FVec Ideal S4x64x128x4x8 .f32 := cumul (rated (rStep a) a.alog)
def rXd : FVec Ideal S4x64x128x4x8x64 .f32 := scaled (heads (rAct a)) (rStep a)

theorem tok_mk (k : Fin 64) (l : Fin 128) (h) : (⟨k.val * 128 + l.val, h⟩ : Fin 8192) = tok k l := by
  refine Fin.ext ?_
  rw [tok_val _ k.isLt]
  simp only
  omega

theorem padded_eq (b : Fin 4) (i : Fin 8195) (r : ℕ) (hr : i.val = r) (j : Fin 3072) : padded a.x (ix3 b i j) = a.pad b r j := by
  subst hr
  unfold In.pad
  pointwise [padded]
  by_cases h : 3 ≤ i.val
  · rw [dif_pos h, dif_pos (by omega)]
  · rw [dif_neg h, dif_neg (by omega)]
    exact sitofp_zero .f32

theorem conv_eq (b : Fin 4) (s : Fin 8192) (j : Fin 3072) : conv (padded a.x) a.cw a.cb (ix3 b s j) = a.conv b s j := by
  pointwise [conv]
  rw [padded_eq a b _ s.val rfl, padded_eq a b _ (1 + s.val) rfl, padded_eq a b _ (2 + s.val) rfl, padded_eq a b _ (3 + s.val) rfl]
  unfold In.conv
  simp only [mul_comm]

theorem act_eq (b : Fin 4) (s : Fin 8192) (j : Fin 3072) : rAct a (ix3 b s j) = silu (a.conv b s j) := by
  unfold rAct silu
  pointwise [act]
  rw [conv_eq]
  rfl

theorem step_eq (b : Fin 4) (s : Fin 8192) (h : Fin 128) (h' : Fin 32) (e : h.val = h'.val) : rStep a (ix3 b s h') = a.step b s h := by
  unfold rStep In.step softplus
  rw [pad32_of _ _ _ e, pad32_of _ _ _ e]
  pointwise [soft, biased]
  rw [if_neg (fun h => h rfl), sub_eq_add_neg, zero_add]
  rfl

theorem rate_eq (h : Fin 128) (h' : Fin 32) (e : h.val = h'.val) : -Ideal.exp (a.alog (ix1 h')) = a.rate h := by
  unfold In.rate
  rw [pad32_of _ _ _ e, sub_eq_add_neg, zero_add]

def grp (g : Fin 4) (r : Fin 8) : Fin 128 := ⟨g.val * 8 + r.val, by omega⟩

theorem rated_eq (b : Fin 4) (k : Fin 64) (l : Fin 128) (g : Fin 4) (r : Fin 8) :
    rated (rStep a) a.alog (ix5 b k l g r) = a.step b (tok k l) (grp g r) * a.rate (grp g r) := by
  pointwise [rated]
  rw [tok_mk, step_eq a b _ (grp g r) _ rfl, rate_eq a (grp g r) _ rfl]

/-- A left fold of additions is a sum. -/
theorem foldl_sum {n : ℕ} (f : Fin n → EReal) : (List.finRange n).foldl (fun r i => r + f i) 0 = ∑ i, f i := by
  rw [← List.foldl_map (f := f) (g := fun r x : EReal => r + x), ← List.sum_eq_foldl, ← List.sum_ofFn, List.ofFn_eq_map]

/-- The positions of a window along the middle of five axes. -/
def along : (⟨5, ![1, 1, 128, 1, 1]⟩ : Shape).Idx ≃ Fin 128 where
  toFun p := p 2
  invFun i := ix5 0 0 i 0 0
  left_inv p := by
    obtain ⟨a, b, i, d, e, rfl⟩ : ∃ a b i d e, p = ix5 a b i d e := ⟨p 0, p 1, p 2, p 3, p 4, (ix5_eta p).symm⟩
    obtain rfl : a = (0 : Fin 1) := Subsingleton.elim (α := Fin 1) _ _
    obtain rfl : b = (0 : Fin 1) := Subsingleton.elim (α := Fin 1) _ _
    obtain rfl : d = (0 : Fin 1) := Subsingleton.elim (α := Fin 1) _ _
    obtain rfl : e = (0 : Fin 1) := Subsingleton.elim (α := Fin 1) _ _
    rfl
  right_inv i := rfl

/-- The `n`-th position of the window. -/
abbrev Q (n : Fin (⟨5, ![1, 1, 128, 1, 1]⟩ : Shape).numel) : (⟨5, ![1, 1, 128, 1, 1]⟩ : Shape).Idx := (Shape.rowMajor _).symm n

theorem cumul_eq (ad : FVec Ideal S4x64x128x4x8 .f32) (b : Fin 4) (k : Fin 64) (l : Fin 128) (g : Fin 4) (r : Fin 8) :
    cumul ad (ix5 b k l g r) = pre (fun i => ad (ix5 b k i g r)) l := by
  unfold cumul
  have h0 : Ideal.ofBits FTy.f32 0x00000000#32 = 0 := Ideal.ofBits_zero_f32
  change Host.reduceWindow (fun x y : EReal => x + y) ![1, 1, 128, 1, 1] ![1, 1, 1, 1, 1] ![0, 0, 127, 0, 0] ![0, 0, 0, 0, 0] ad
    (fun _ : S_.Idx => Ideal.ofBits FTy.f32 0x00000000#32) reduceWindows_S4x64x128x4x8_S4x64x128x4x8_w1s1p0_0_w1s1p0_0_w128s1p127_0_w1s1p0_0_w1s1p0_0 h_S_ (ix5 b k l g r) = _
  rw [h0]
  unfold Host.reduceWindow
  dsimp only
  rw [foldl_sum]
  unfold pre
  refine Fintype.sum_equiv ((Shape.rowMajor _).symm.trans (along.trans (Equiv.addRight (l + 1)))) _ _ fun n => ?_
  change _ = if (Equiv.addRight (l + 1) (along (Q n))).val ≤ l.val then ad (ix5 b k (Equiv.addRight (l + 1) (along (Q n))) g r) else 0
  have p0 : (Q n 0).val < 1 := (Q n 0).isLt
  have p1 : (Q n 1).val < 1 := (Q n 1).isLt
  have p3 : (Q n 3).val < 1 := (Q n 3).isLt
  have p4 : (Q n 4).val < 1 := (Q n 4).isLt
  have hi : (Q n 2).val < 128 := (Q n 2).isLt
  have hl := l.isLt
  have hb := b.isLt
  have hk := k.isLt
  have hg := g.isLt
  have hr := r.isLt
  have he : (Equiv.addRight (l + 1) (along (Q n))).val = ((Q n 2).val + l.val + 1) % 128 := by
    change (along (Q n) + (l + 1)).val = _
    simp only [Fin.val_add]
    change ((Q n 2).val + (l.val + 1) % 128) % 128 = _
    omega
  by_cases hc : 127 ≤ l.val + (Q n 2).val
  · rw [dif_pos, if_pos (by omega)]
    · refine congrArg ad (funext fun a => Fin.ext ?_)
      exact match a with
      | ⟨0, _⟩ => by
        change b.val * 1 + (Q n 0).val - 0 = b.val
        omega
      | ⟨1, _⟩ => by
        change k.val * 1 + (Q n 1).val - 0 = k.val
        omega
      | ⟨2, _⟩ => by
        change l.val * 1 + (Q n 2).val - 127 = (Equiv.addRight (l + 1) (along (Q n))).val
        omega
      | ⟨3, _⟩ => by
        change g.val * 1 + (Q n 3).val - 0 = g.val
        omega
      | ⟨4, _⟩ => by
        change r.val * 1 + (Q n 4).val - 0 = r.val
        omega
    · intro a
      exact match a with
      | ⟨0, _⟩ => by
        change 0 ≤ b.val * 1 + (Q n 0).val ∧ b.val * 1 + (Q n 0).val - 0 < 4
        omega
      | ⟨1, _⟩ => by
        change 0 ≤ k.val * 1 + (Q n 1).val ∧ k.val * 1 + (Q n 1).val - 0 < 64
        omega
      | ⟨2, _⟩ => by
        change 127 ≤ l.val * 1 + (Q n 2).val ∧ l.val * 1 + (Q n 2).val - 127 < 128
        omega
      | ⟨3, _⟩ => by
        change 0 ≤ g.val * 1 + (Q n 3).val ∧ g.val * 1 + (Q n 3).val - 0 < 4
        omega
      | ⟨4, _⟩ => by
        change 0 ≤ r.val * 1 + (Q n 4).val ∧ r.val * 1 + (Q n 4).val - 0 < 8
        omega
  · rw [dif_neg, if_neg (by omega)]
    intro h
    have h2 := (h 2).1
    change 127 ≤ l.val * 1 + (Q n 2).val at h2
    omega

theorem cum_eq (b : Fin 4) (k : Fin 64) (l : Fin 128) (g : Fin 4) (r : Fin 8) :
    rCum a (ix5 b k l g r) = a.cs b k (grp g r) l := by
  unfold rCum In.cs
  rw [cumul_eq]
  simp only [rated_eq]

/-- Column `64 r + p` of a group's 512. -/
def hp (r : Fin 8) (p : Fin 64) : Fin 512 := ⟨64 * r.val + p.val, by omega⟩

theorem hd_hp (g : Fin 4) (r : Fin 8) (p : Fin 64) : hd (qq g (hp r p)) = grp g r := by
  refine Fin.ext ?_
  simp only [hd, qq, hp, grp]
  omega

theorem heads_eq (b : Fin 4) (k : ℕ) (l : Fin 128) (g : Fin 4) (r : Fin 8) (p : Fin 64) (h : Fin 32) (hh : h.val = g.val * 8 + r.val) :
    heads (rAct a) (ix4 b (tok k l) h p) = a.X b k (ix2 l (qq g (hp r p))) := by
  pointwise [heads]
  rw [act_eq]
  refine (a.X_apply b k l _ _ ?_).symm
  simp only [qq, hp]
  omega

theorem inB_eq (b : Fin 4) (k : Fin 64) (l : Fin 128) (g : Fin 4) (n : Fin 128) :
    inB (rAct a) (ix5 b k l g n) = a.B b k (ix2 l (gcol g n)) := by
  pointwise [inB]
  rw [tok_mk, act_eq]
  refine (a.B_apply b k l _ _ ?_).symm
  simp only [gcol]
  omega

theorem inC_eq (b : Fin 4) (k : Fin 64) (l : Fin 128) (g : Fin 4) (n : Fin 128) :
    inC (rAct a) (ix5 b k l g n) = a.C b k (ix2 l (gcol g n)) := by
  pointwise [inC]
  rw [tok_mk, act_eq]
  refine (a.C_apply b k l _ _ ?_).symm
  simp only [gcol]
  omega

theorem xd_eq (b : Fin 4) (k : Fin 64) (l : Fin 128) (g : Fin 4) (r : Fin 8) (p : Fin 64) :
    rXd a (ix6 b k l g r p) = a.X b k (ix2 l (qq g (hp r p))) * a.D b k (ix2 l (grp g r)) := by
  unfold rXd
  pointwise [scaled]
  rw [tok_mk, heads_eq a b k l g r p _ rfl, step_eq a b _ (grp g r) _ rfl]
  rfl

theorem states_eq (b : Fin 4) (k : Fin 64) (g : Fin 4) (r : Fin 8) (p : Fin 64) (n : Fin 128) :
    states (rXd a) (toEnd (rCum a)) (inB (rAct a)) (ix6 k b g r p n) =
      ∑ l : Fin 128, a.B b k (ix2 l (gcol g n)) * Cert.KernelIdeal.Ssd.G2 (a.X b k) (a.D b k) (a.A b k) (ix2 l (qq g (hp r p))) := by
  pointwise [states]
  refine Finset.sum_congr rfl fun l _ => ?_
  rw [xd_eq, inB_eq]
  pointwise [toEnd]
  rw [cum_eq, cum_eq, mul_comm]
  unfold Cert.KernelIdeal.Ssd.G2
  simp only [ix2_0, ix2_1, hd_hp]
  rfl

theorem decays_eq (b : Fin 4) (k : Fin 64) (g : Fin 4) (r : Fin 8) (p : Fin 64) :
    decays (rCum a) (ix4 k b g r) = Cert.KernelIdeal.Ssd.G4 (a.A b k) (ix2 0 (qq g (hp r p))) := by
  pointwise [decays]
  rw [cum_eq]
  unfold Cert.KernelIdeal.Ssd.G4
  simp only [ix2_0, ix2_1, hd_hp]
  rfl

end stages

end Cert.ReferenceIdeal.Ssd
-- ==== Proof.SsdLoop.lean ====
/-
  The reference's loop over the chunks leaves the state entering each chunk.
-/
module

public import proofs.«01_k».proof.Proof.SsdRef

@[expose] public section

set_option maxRecDepth 16384

noncomputable section

set_option maxHeartbeats 1600000

open Idealize.ShloMosaic Idealize.ShloMosaic.TcCoe Idealize.SL.Sem
open Idealize.ShloMosaic.StableHlo

namespace Cert.ReferenceIdeal.Ssd

open Cert.ReferenceIdeal Cert.ReferenceIdeal.Gen Cert.ReferenceIdeal.Value Cert.Rows
open Cert.KernelIdeal.Ssd (In tok tok_val silu softplus pad32 pad32_of pre gcol hd qq qg qm)

/-- The state after a chunk, at an index. -/
theorem St_succ (a : In) (b : Fin 4) (k : Fin 64) (g : Fin 4) (r : Fin 8) (p : Fin 64) (n : Fin 128) :
    a.St b (k.val + 1) (ix3 g n (hp r p)) =
      a.St b k (ix3 g n (hp r p)) * decays (rCum a) (ix4 k b g r) +
        states (rXd a) (toEnd (rCum a)) (inB (rAct a)) (ix6 k b g r p n) := by
  rw [decays_eq a b k g r p, states_eq]
  rfl

theorem toInt_nat (k : ℕ) (hk : k < 64) : (BitVec.ofNat 32 k).toInt = k := WordCmp.toInt_ofNat_of_lt (by omega)

/-- What the loop carries before trip `k`. -/
structure Inv (a : In) (E V : Valuation τ sig (Elt Ideal)) (k : ℕ) : Prop where
  h0 : V (Proc.devRef .tc main_v68_0) = E (Proc.devRef .tc main_v68_0)
  h1 : V (Proc.devRef .tc main_v68_1) = E (Proc.devRef .tc main_v68_1)
  h2 : V (Proc.devRef .tc main_v68_2) = fun _ => BitVec.ofNat 32 k
  h3 : ∀ b g r p n, (show FVec Ideal S4x4x8x64x128 .f32 from V (Proc.devRef .tc main_v68_3)) (ix5 b g r p n) = a.St b k (ix3 g n (hp r p))
  h4 : ∀ (j : Fin 64), j.val < k → ∀ b g r p n, (show FVec Ideal S64x4x4x8x64x128 .f32 from V (Proc.devRef .tc main_v68_4)) (ix6 j b g r p n) = a.St b j (ix3 g n (hp r p))

/-- The state after a trip, of what the loop carries. -/
def carried (hs : FVec Ideal S64x4x4x8x64x128 .f32) (dc : FVec Ideal S64x4x4x8 .f32) (c : IVec S_ 32) (st : FVec Ideal S4x4x8x64x128 .f32) : FVec Ideal S4x4x8x64x128 .f32 :=
  (addf (mulf st (broadcastInDim S4x4x8x64x128 ![0, 1, 2, 3, 4] bcast_S4x4x8x1x1_S4x4x8x64x128_0_1_2_3_4 (broadcastInDim S4x4x8x1x1 ![0, 1, 2] bcast_S4x4x8_S4x4x8x1x1_0_1_2 (shapeCast S4x4x8 (Host.dynamicSlice S1x4x4x8 dc (fun k => (((![c, constantI S_ 32 0#32, constantI S_ 32 0#32, constantI S_ 32 0#32] : Fin 4 → IVec S_ 32)) k (Shape.Idx.first h_S_)).toInt) sliceFits_S64x4x4x8_S1x4x4x8) shapeCasts_S1x4x4x8_S4x4x8)))) (shapeCast S4x4x8x64x128 (Host.dynamicSlice S1x4x4x8x64x128 hs (fun k => (((![c, constantI S_ 32 0#32, constantI S_ 32 0#32, constantI S_ 32 0#32, constantI S_ 32 0#32, constantI S_ 32 0#32] : Fin 6 → IVec S_ 32)) k (Shape.Idx.first h_S_)).toInt) sliceFits_S64x4x4x8x64x128_S1x4x4x8x64x128) shapeCasts_S1x4x4x8x64x128_S4x4x8x64x128))

/-- The states collected after a trip. -/
def collected (c : IVec S_ 32) (st : FVec Ideal S4x4x8x64x128 .f32) (out : FVec Ideal S64x4x4x8x64x128 .f32) : FVec Ideal S64x4x4x8x64x128 .f32 :=
  (Host.dynamicUpdateSlice out (broadcastInDim S1x4x4x8x64x128 ![1, 2, 3, 4, 5] bcast_S4x4x8x64x128_S1x4x4x8x64x128_1_2_3_4_5 st) (fun k => (((![c, constantI S_ 32 0#32, constantI S_ 32 0#32, constantI S_ 32 0#32, constantI S_ 32 0#32, constantI S_ 32 0#32] : Fin 6 → IVec S_ 32)) k (Shape.Idx.first h_S_)).toInt) updateFits_S64x4x4x8x64x128_S1x4x4x8x64x128)

theorem carried_eq (hs : FVec Ideal S64x4x4x8x64x128 .f32) (dc : FVec Ideal S64x4x4x8 .f32) (st : FVec Ideal S4x4x8x64x128 .f32) (k : Fin 64)
    (b : Fin 4) (g : Fin 4) (r : Fin 8) (p : Fin 64) (n : Fin 128) :
    carried hs dc (fun _ => BitVec.ofNat 32 k.val) st (ix5 b g r p n) = st (ix5 b g r p n) * dc (ix4 k b g r) + hs (ix6 k b g r p n) := by
  unfold carried
  have hk := k.isLt
  have t := toInt_nat k.val hk
  rw [WordCmp.dynamicSlice_eq_extract S1x4x4x8 dc _ _ ![k.val, 0, 0, 0] ⟨rfl, fun a => by fin_cases a <;> first | (change k.val + 1 ≤ 64; omega) | exact Nat.le_refl _⟩ (fun a => by fin_cases a <;> first | exact t | rfl),
    WordCmp.dynamicSlice_eq_extract S1x4x4x8x64x128 hs _ _ ![k.val, 0, 0, 0, 0, 0] ⟨rfl, fun a => by fin_cases a <;> first | (change k.val + 1 ≤ 64; omega) | exact Nat.le_refl _⟩ (fun a => by fin_cases a <;> first | exact t | rfl)]
  pointwise

theorem collected_eq (st : FVec Ideal S4x4x8x64x128 .f32) (out : FVec Ideal S64x4x4x8x64x128 .f32) (k j : Fin 64)
    (b : Fin 4) (g : Fin 4) (r : Fin 8) (p : Fin 64) (n : Fin 128) :
    collected (fun _ => BitVec.ofNat 32 k.val) st out (ix6 j b g r p n) = if j.val = k.val then st (ix5 b g r p n) else out (ix6 j b g r p n) := by
  unfold collected
  have hk := k.isLt
  have t := toInt_nat k.val hk
  rw [WordCmp.dynamicUpdateSlice_eq_update (u := S1x4x4x8x64x128) out _ _ _ ![k.val, 0, 0, 0, 0, 0] ⟨rfl, fun a => by fin_cases a <;> first | (change k.val + 1 ≤ 64; omega) | exact Nat.le_refl _⟩ (fun a => by fin_cases a <;> first | exact t | rfl)]
  pointwise
  split_ifs <;> first | rfl | omega

theorem carried_congr {hs hs' : FVec Ideal S64x4x4x8x64x128 .f32} {dc dc' : FVec Ideal S64x4x4x8 .f32} {c c' : IVec S_ 32} {st : FVec Ideal S4x4x8x64x128 .f32}
    (e0 : hs = hs') (e1 : dc = dc') (e2 : c = c') : carried hs dc c st = carried hs' dc' c' st := by
  rw [e0, e1, e2]

theorem collected_congr {c c' : IVec S_ 32} {st : FVec Ideal S4x4x8x64x128 .f32} {out : FVec Ideal S64x4x4x8x64x128 .f32} (e : c = c') :
    collected c st out = collected c' st out := by
  rw [e]

theorem inv_step (a : In) (E V : Valuation τ sig (Elt Ideal)) (k : Fin 64)
    (e0 : E (Proc.devRef .tc main_v68_0) = states (rXd a) (toEnd (rCum a)) (inB (rAct a)))
    (e1 : E (Proc.devRef .tc main_v68_1) = decays (rCum a)) (h : Inv a E V k.val) : Inv a E (STEP V) (k.val + 1) := by
  refine ⟨(STEP_main_v68_0 V).trans h.h0, (STEP_main_v68_1 V).trans h.h1, (STEP_main_v68_2 V).trans ?_, fun b g r p n => ?_, fun j hj b g r p n => ?_⟩
  · unfold step_main_v68_2
    rw [h.h2]
    funext i
    change BitVec.ofNat 32 k.val + 1#32 = _
    rw [← BitVec.ofNat_add]
  · have e : STEP V (Proc.devRef .tc main_v68_3) = carried (states (rXd a) (toEnd (rCum a)) (inB (rAct a))) (decays (rCum a)) (fun _ => BitVec.ofNat 32 k.val) (V (Proc.devRef .tc main_v68_3)) := by
      exact (STEP_main_v68_3 V).trans (carried_congr (h.h0.trans e0) (h.h1.trans e1) h.h2)
    change (STEP V (Proc.devRef .tc main_v68_3) : FVec Ideal S4x4x8x64x128 .f32) _ = _
    rw [e, carried_eq]
    exact (congrArg (fun x : EReal => x * decays (rCum a) (ix4 k b g r) + states (rXd a) (toEnd (rCum a)) (inB (rAct a)) (ix6 k b g r p n)) (h.h3 b g r p n)).trans (St_succ a b k g r p n).symm
  · have e : STEP V (Proc.devRef .tc main_v68_4) = collected (fun _ => BitVec.ofNat 32 k.val) (V (Proc.devRef .tc main_v68_3)) (V (Proc.devRef .tc main_v68_4)) := by
      exact (STEP_main_v68_4 V).trans (collected_congr h.h2)
    change (STEP V (Proc.devRef .tc main_v68_4) : FVec Ideal S64x4x4x8x64x128 .f32) _ = _
    rw [e, collected_eq]
    by_cases hjk : j.val = k.val
    · rw [if_pos hjk, hjk]
      exact h.h3 b g r p n
    · rw [if_neg hjk]
      exact h.h4 j (by omega) b g r p n

theorem inv_iter (a : In) (E : Valuation τ sig (Elt Ideal))
    (e0 : E (Proc.devRef .tc main_v68_0) = states (rXd a) (toEnd (rCum a)) (inB (rAct a)))
    (e1 : E (Proc.devRef .tc main_v68_1) = decays (rCum a))
    (e2 : E (Proc.devRef .tc main_v68_2) = fun _ => 0#32)
    (e3 : E (Proc.devRef .tc main_v68_3) = (show FVec Ideal S4x4x8x64x128 .f32 from broadcastInDim S4x4x8x64x128 ![] bcast_S_S4x4x8x64x128 (constant S_ .f32 0x00000000#32))) :
    ∀ k : ℕ, k ≤ 64 → Inv a E (STEP^[k] E) k
  | 0, _ => ⟨rfl, rfl, e2, fun b g r p n => by
      change (show FVec Ideal S4x4x8x64x128 .f32 from E (Proc.devRef .tc main_v68_3)) (ix5 b g r p n) = _
      rw [e3]
      pointwise
      rfl, fun j hj => absurd hj (Nat.not_lt_zero _)⟩
  | k + 1, hk => by
    rw [Function.iterate_succ_apply']
    exact inv_step a E _ ⟨k, hk⟩ e0 e1 (inv_iter a E e0 e1 e2 e3 k (by omega))

end Cert.ReferenceIdeal.Ssd
-- ==== Proof.SsdPost.lean ====
/-
  The reference's output from the states entering the chunks, and its equality with the scan.
-/
module

public import proofs.«01_k».proof.Proof.SsdLoop

@[expose] public section

set_option maxRecDepth 16384

noncomputable section

set_option maxHeartbeats 1600000

open Idealize.ShloMosaic Idealize.ShloMosaic.TcCoe Idealize.SL.Sem
open Idealize.ShloMosaic.StableHlo

namespace Cert.ReferenceIdeal.Ssd

open Cert.ReferenceIdeal Cert.ReferenceIdeal.Gen Cert.ReferenceIdeal.Value Cert.Rows
open Cert.KernelIdeal.Ssd (In tok tok_val silu softplus pad32 pad32_of pre gcol hd qq qg qm G3 yAt yz outF res)

section post

variable (a : In)

/-- The decay between two tokens times their score: nothing when the second comes later. -/
theorem masked (l s : Fin 128) (x sc xd : EReal) :
    xd * (sc * Ideal.exp (Scalar.select (Scalar.select (IntOp.cmpi CmpIPredicate.sge (IntOp.addi (BitVec.ofNat 32 l.val) 0#32) (BitVec.ofNat 32 s.val)) 1#1 0#1) x (Ideal.ofBits FTy.f32 0xFF800000#32))) =
      Scalar.select (IntOp.cmpi CmpIPredicate.sge (BitVec.ofNat 32 l.val) (BitVec.ofNat 32 s.val)) (sc * Ideal.exp x * xd) 0 := by
  have e : IntOp.addi (BitVec.ofNat 32 l.val) 0#32 = BitVec.ofNat 32 l.val := BitVec.add_zero _
  have hb : Ideal.ofBits FTy.f32 0xFF800000#32 = ⊥ := by simp [Ideal.ofBits, Ideal.ieee]
  have hl := l.isLt
  have hs := s.isLt
  rw [e, hb, WordCmp.cmpi_sge_ofNat (by omega) (by omega)]
  by_cases h : s.val ≤ l.val
  · rw [decide_eq_true h]
    exact mul_comm _ _
  · rw [decide_eq_false h]
    change xd * (sc * 0) = 0
    rw [mul_zero, mul_zero]

theorem inside_eq (b : Fin 4) (k : Fin 64) (l : Fin 128) (g : Fin 4) (r : Fin 8) (p : Fin 64) :
    inside (rXd a) (scores (inC (rAct a)) (inB (rAct a))) (between (rCum a)) (ix6 b k l g r p) =
      ∑ s : Fin 128, Scalar.select (IntOp.cmpi CmpIPredicate.sge (BitVec.ofNat 32 l.val) (BitVec.ofNat 32 s.val))
        ((∑ n : Fin 128, a.C b k (ix2 l (gcol g n)) * a.B b k (ix2 s (gcol g n))) *
          Ideal.exp (a.A b k (ix2 l (grp g r)) - a.AT b k (ix2 (grp g r) s)) *
          (a.X b k (ix2 s (qq g (hp r p))) * a.D b k (ix2 s (grp g r)))) 0 := by
  pointwise [inside]
  refine Finset.sum_congr rfl fun s _ => ?_
  rw [xd_eq]
  pointwise [scores, between]
  rw [cum_eq, cum_eq, masked]
  simp only [inC_eq, inB_eq]
  rfl

theorem entering_eq (hs : FVec Ideal S64x4x4x8x64x128 .f32) (b : Fin 4) (k : Fin 64)
    (h : ∀ g r p n, hs (ix6 k b g r p n) = a.St b k (ix3 g n (hp r p))) (l : Fin 128) (g : Fin 4) (r : Fin 8) (p : Fin 64) :
    entering hs (inC (rAct a)) (rCum a) (ix6 b k l g r p) =
      (∑ n : Fin 128, a.C b k (ix2 l (gcol g n)) * a.St b k (ix3 g n (hp r p))) * Ideal.exp (a.A b k (ix2 l (grp g r))) := by
  pointwise [entering]
  rw [cum_eq]
  simp only [inC_eq, h]
  refine congrArg₂ (· * ·) (Finset.sum_congr rfl fun n _ => mul_comm _ _) rfl

/-- The output before gating. -/
def ypre (hs : FVec Ideal S64x4x4x8x64x128 .f32) : FVec Ideal S4x8192x2048 .f32 :=
  skipped (inside (rXd a) (scores (inC (rAct a)) (inB (rAct a))) (between (rCum a))) (entering hs (inC (rAct a)) (rCum a)) (heads (rAct a)) a.dsk

theorem ypre_eq (hs : FVec Ideal S64x4x4x8x64x128 .f32) (b : Fin 4) (k : Fin 64)
    (h : ∀ g r p n, hs (ix6 k b g r p n) = a.St b k (ix3 g n (hp r p))) (s : Fin 8192) (l : Fin 128) (hs' : s.val = k.val * 128 + l.val) (q : Fin 2048) :
    ypre a hs (ix3 b s q) = G3 (a.X b k) (a.B b k) (a.C b k) (a.D b k) (a.A b k) (a.AT b k) (a.St b k) a.dk (ix2 l q) := by
  obtain ⟨g, r, p, hq⟩ : ∃ (g : Fin 4) (r : Fin 8) (p : Fin 64), q.val = 512 * g.val + (64 * r.val + p.val) := by
    have := q.isLt
    exact ⟨⟨q.val / 512, by omega⟩, ⟨q.val / 64 % 8, by omega⟩, ⟨q.val % 64, by omega⟩, by simp only; omega⟩
  have hl := l.isLt
  have hr := r.isLt
  have hp' := p.isLt
  unfold ypre
  pointwise [skipped]
  have hh : q.val / 64 = g.val * 8 + r.val := by omega
  have e1 : ∀ h, (⟨s.val / 128, h⟩ : Fin 64) = k := fun _ => Fin.ext (by simp only; omega)
  have e2 : ∀ h, (⟨s.val % 128, h⟩ : Fin 128) = l := fun _ => Fin.ext (by simp only; omega)
  have e3 : ∀ h, (⟨q.val / 64 / 8, h⟩ : Fin 4) = g := fun _ => Fin.ext (by simp only; omega)
  have e4 : ∀ h, (⟨q.val / 64 % 8, h⟩ : Fin 8) = r := fun _ => Fin.ext (by simp only; omega)
  have e5 : ∀ h, (⟨q.val % 64, h⟩ : Fin 64) = p := fun _ => Fin.ext (by simp only; omega)
  simp only [e1, e2, e3, e4, e5]
  obtain rfl : s = tok k l := Fin.ext (by rw [tok_val _ k.isLt]; omega)
  rw [inside_eq, entering_eq a hs b k h, heads_eq a b k l g r p _ hh]
  obtain rfl : q = qq g (hp r p) := Fin.ext hq
  have g1 : qg (qq g (hp r p)) = g := Fin.ext (by simp only [qg, qq, hp]; omega)
  have g2 : qm (qq g (hp r p)) = hp r p := Fin.ext (by simp only [qm, qq, hp]; omega)
  unfold G3 yAt
  simp only [ix2_0, ix2_1, g1, g2, hd_hp]
  rfl

theorem out_eq (hs : FVec Ideal S64x4x4x8x64x128 .f32) (b : Fin 4) (k : Fin 64)
    (h : ∀ g r p n, hs (ix6 k b g r p n) = a.St b k (ix3 g n (hp r p))) (s : Fin 8192) (l : Fin 128) (hs' : s.val = k.val * 128 + l.val) (q : Fin 2048) :
    normed (gated (ypre a hs) a.z) a.ng (ix3 b s q) = a.out b k l q := by
  have hg : ∀ q, gated (ypre a hs) a.z (ix3 b s q) = yz (G3 (a.X b k) (a.B b k) (a.C b k) (a.D b k) (a.A b k) (a.AT b k) (a.St b k) a.dk) (a.zC b k) l q := by
    intro q
    pointwise [gated]
    rw [ypre_eq a hs b k h s l hs' q]
    obtain rfl : s = tok k l := Fin.ext (by rw [tok_val _ k.isLt]; omega)
    rfl
  pointwise [normed]
  simp only [hg]
  have e : ∀ (x : Fin 512) h, (⟨q.val / 512 * 512 + x.val, h⟩ : Fin 2048) = qq (qg q) x := fun x _ => Fin.ext (by simp only [qq, qg]; omega)
  simp only [e]
  rfl

/-- The reference's output is the scan's. -/
theorem all_eq (hs : FVec Ideal S64x4x4x8x64x128 .f32)
    (h : ∀ k b g r p n, hs (ix6 k b g r p n) = a.St b k.val (ix3 g n (hp r p))) : normed (gated (ypre a hs) a.z) a.ng = res a := by
  funext i
  obtain ⟨b, s, q, rfl⟩ : ∃ (b : Fin 4) (s : Fin 8192) (q : Fin 2048), i = ix3 b s q := ⟨i 0, i 1, i 2, (ix3_eta i).symm⟩
  exact out_eq a hs b ⟨s.val / 128, by omega⟩ (h _ b) s ⟨s.val % 128, by omega⟩ (by simp only; omega) q

end post

/-- The arguments of the reference's call. -/
def args (V : Valuation τ sig (Elt Ideal)) : In where
  z := V (Proc.devRef .tc main_arg0)
  x := V (Proc.devRef .tc main_arg1)
  dt := V (Proc.devRef .tc main_arg2)
  cw := V (Proc.devRef .tc main_arg3)
  cb := V (Proc.devRef .tc main_arg4)
  dtb := V (Proc.devRef .tc main_arg5)
  alog := V (Proc.devRef .tc main_arg6)
  dsk := V (Proc.devRef .tc main_arg7)
  ng := V (Proc.devRef .tc main_arg8)

/-- The result from the contents after the loop is the scan of the arguments, when the collected states are the scan's. -/
theorem out_of (V : Valuation τ sig (Elt Ideal)) (a : In) (ha : args V = a)
    (h : ∀ (k : Fin 64) b g r p n, (show FVec Ideal S64x4x4x8x64x128 .f32 from V (Proc.devRef .tc main_v68_4)) (ix6 k b g r p n) = a.St b k.val (ix3 g n (hp r p))) :
    out_main_v170 V = res a := by
  subst ha
  exact (out_stages V).trans (all_eq (args V) _ h)

variable (m : (ℓ : Loc nD τ sig) → Buf (Elt Ideal) ℓ)

/-- What the reference leaves is the scan of its arguments. -/
theorem result_eq (c : Dev nD) (a : In) (ha : args (launchContents m c) = a) :
    out_main_v170 (STEP^[64] (entryContents preI m c)) = res a := by
  have hi := inv_iter a (entryContents preI m c) (ha ▸ entry_states (launchContents m c)) (ha ▸ entry_decays (launchContents m c))
    (ctr_entry m c) (entry_zero (launchContents m c)) 64 (le_refl _)
  refine out_of _ a (Eq.trans ?_ ha) fun k b g r p n => hi.h4 k k.isLt b g r p n
  unfold args
  rw [iter_main_arg0, iter_main_arg1, iter_main_arg2, iter_main_arg3, iter_main_arg4, iter_main_arg5, iter_main_arg6, iter_main_arg7, iter_main_arg8]

end Cert.ReferenceIdeal.Ssd
-- ==== Proof.SsdClaims.lean ====
/-
  The claims about the state-space scan (`Kernel`, `Reference`), assembled from SsdKernel.lean, SsdPost.lean and the generated runs.
-/
module

public import proofs.«01_k».proof.Defs
public import proofs.«01_k».proof.Proof.SsdPost
public import proofs.«01_k».proof.Proof.Gen.Kernel.Frame
public import Idealize.ShloMosaic.Lib.Quiescent

@[expose] public section

noncomputable section

open Idealize.ShloMosaic Idealize.ShloMosaic.TcCoe Idealize.SL.Sem

namespace Cert.Proof.SsdClaims

/-- The kernel runs, on any floats, and ends with its counters at zero and its arguments unchanged. -/
theorem frame_kernel : Cert.quiescent_Kernel := fun m ρ _ => Cert.Kernel.Gen.frame m ρ

/-- So does its idealization, -/
theorem frame_ideal : Cert.quiescent_KernelIdeal := fun m ρ _ => Cert.KernelIdeal.Gen.frame m ρ

/-- and the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealizer rewrote nothing. -/
theorem preserves : Cert.preserves_Kernel_KernelIdeal := trivial

/-- At the ideal instance the kernel and the reference end with equal results. -/
theorem algebraic : Cert.algebraic_KernelIdeal_ReferenceIdeal := by
  intro m g m' g' _ hag
  refine ⟨fun c => Cert.KernelIdeal.Ssd.res (Cert.KernelIdeal.Ssd.args m c), ?_, ?_⟩
  · exact (θ_run Cert.KernelIdeal.defs _ _).mono (fun _ h c => ⟨(h c).1.trans (Cert.KernelIdeal.Ssd.final m c), (h c).2⟩)
      (Cert.KernelIdeal.Value.run_blocks (F := Ideal) m g)
  · refine (θ_run Cert.ReferenceIdeal.defs _ _).mono (fun _ h c => ⟨(h c).1.trans ?_, (h c).2⟩)
      (Cert.ReferenceIdeal.Value.run (F := Ideal) m' g')
    obtain ⟨h0, h1, h2, h3, h4, h5, h6, h7, h8⟩ := hag c
    refine Cert.ReferenceIdeal.Ssd.result_eq m' c _ ?_
    unfold Cert.KernelIdeal.Ssd.args
    rw [← h0, ← h1, ← h2, ← h3, ← h4, ← h5, ← h6, ← h7, ← h8]
    rfl

end Cert.Proof.SsdClaims
-- ==== Proof.Ffn.lean ====
/-
  The feed-forward sublayer with its residual and layer norm: the pipelined kernel against the reference, at the ideal
  instance. Both are shown equal to ONE function of the arguments, `spec`: row by row, the layer norm of
  `alpha * x + 1/2 * ffn(x)`, the sum over the 2816 hidden units being split by the kernel into 11 chunks of 256.
-/
module

public import proofs.«01_k».proof.Proof.Rows
public import proofs.«01_k».proof.Proof.Gen.Reference2Ideal.Run
public import proofs.«01_k».proof.Proof.Gen.Kernel2Ideal.Value

@[expose] public section

set_option maxRecDepth 16384

noncomputable section

open Idealize.ShloMosaic Idealize.ShloMosaic.TcCoe Idealize.SL.Sem
open Cert.Rows

namespace Cert.Kernel2Ideal.Ffn

open Cert.Kernel2Ideal Cert.Kernel2Ideal.Gen

/-! ## The function both programs compute -/

/-- Hidden unit `j` of a row: the gate's weights are column `j`, the value's column `2816 + j`. -/
def hid (x : Fin 1024 → EReal) (w : FVec Ideal S1024x5632 .f32) (j : Fin 2816) : EReal :=
  unit x (fun k => w (ix2 k (⟨j.val, by omega⟩ : Fin 5632))) (fun k => w (ix2 k (⟨2816 + j.val, by omega⟩ : Fin 5632)))

/-- The sublayer at row `r`, lane `l`. -/
def spec (x : FVec Ideal S4x8192x1024 .f32) (w : FVec Ideal S1024x5632 .f32) (w' : FVec Ideal S2816x1024 .f32)
    (g b : FVec Ideal S1024 .f32) (r : Fin 32768) (l : Fin 1024) : EReal :=
  layerNorm (fun l => mix (Ideal.ofBits FTy.f32 1056964608#32) (row x r l) (∑ j, hid (row x r) w j * w' (ix2 j l)))
    (g (ix1 l)) (b (ix1 l)) l

/-! ## The kernel's body, on blocks -/

variable (x : FVec Ideal S1024x1024 .f32) (w : FVec Ideal S22x1024x256 .bf16) (o : FVec Ideal S11x256x1024 .bf16)

/-- What chunk `q` of 256 hidden units adds to row `r`, lane `l`, from the blocks the body reads. -/
def chunk (r l : Fin 1024) (q : Fin 11) : EReal :=
  ∑ i : Fin 256, unit (fun k => x (ix2 r k)) (fun k => w (ix3 (⟨q.val, by omega⟩ : Fin 22) k i))
    (fun k => w (ix3 (⟨11 + q.val, by omega⟩ : Fin 22) k i)) * o (ix3 q i l)

/-- The layer norm that ends the body, of the accumulated sum `a` (row `r` of which is `S`). -/
theorem norm_at (g b : FVec Ideal S1x1024 .f32) (a : FVec Ideal S1024x1024 .f32) (r l : Fin 1024) (S : Fin 1024 → EReal)
    (h : ∀ l, a (ix2 r l) = S l) :
    k0_pay1 (F := Ideal) (k0_pay22 g) (k0_pay23 b) (k0_pay24 (k0_pay2 x) a) (k0_pay25 (k0_pay2 x) a) (ix2 r l)
      = layerNorm (fun l => mix (Ideal.ofBits FTy.f32 1056964608#32) (x (ix2 r l)) (S l)) (g (ix2 0 l)) (b (ix2 0 l)) l := by
  pointwise [k0_pay1, k0_pay22, k0_pay23, k0_pay24, k0_pay25, k0_pay2]
  simp only [h]
  rfl

/-- A sum over the 11 chunks, added up in order. -/
theorem sum_eleven (f : Fin 11 → EReal) :
    ∑ q, f q = f 0 + f 1 + f 2 + f 3 + f 4 + f 5 + f 6 + f 7 + f 8 + f 9 + f 10 := by
  simp only [Fin.sum_univ_succ, Fin.sum_univ_zero, add_zero, add_assoc]
  rfl

variable (m : (ℓ : Loc nD τ sig) → Buf (Elt Ideal) ℓ)

set_option maxHeartbeats 1600000 in
/-- What the body leaves in the output's buffer at a grid point: the layer norm of the mix of its rows with the sum of
    the 11 chunks. -/
theorem body (c : Dev nD) (t : Fin cfg0.N) (r l : Fin 1024) (g b : FVec Ideal S1x1024 .f32)
    (hx : iblk m c 0 t = x) (hw : iblk m c 1 t = w) (ho : iblk m c 2 t = o)
    (hg : iblk m c 3 t = g) (hb : iblk m c 4 t = b) :
    outsAt0 m c t (ix2 r l) = layerNorm (fun l => mix (Ideal.ofBits FTy.f32 1056964608#32) (x (ix2 r l)) (∑ q, chunk x w o r l q))
      (g (ix2 0 l)) (b (ix2 0 l)) l := by
  unfold outsAt0
  frame_out
  rw [hx, hw, ho, hg, hb]
  refine norm_at x g b _ r l _ fun l => ?_
  rw [sum_eleven]
  pointwise [k0_pay21, k0_pay20, k0_pay19, k0_pay18, k0_pay17, k0_pay16, k0_pay15, k0_pay14, k0_pay13, k0_pay12,
    k0_pay11, k0_pay10, k0_pay9, k0_pay8, k0_pay7, k0_pay6, k0_pay5, k0_pay4, k0_pay3, k0_pay2]
  rfl

/-! ## The blocks, read from the arguments -/

/-- The index maps: the rows of point `t` are block `t`; the weights' and the norm's blocks are their whole arrays. -/
theorem idx : ∀ t : Fin cfg0.N, win0_0.index t = ![t.val, 0] ∧ win0_1.index t = ![0, 0, 0] ∧ win0_2.index t = ![0, 0, 0]
    ∧ win0_3.index t = ![0, 0] ∧ win0_4.index t = ![0, 0] ∧ win0_5.index t = ![t.val, 0] ∧ t.val < 32 :=
  (by decide +kernel : ∀ t : Fin grid0.N, _)

/-- Row `r` of point `t`'s block of activations is row `1024 * t + r`. -/
theorem read_x (c : Dev nD) (t : Fin cfg0.N) (r k : Fin 1024) (R : Fin 32768) (hR : R.val = t.val * 1024 + r.val) :
    (show FVec Ideal S1024x1024 .f32 from iblk m c 0 t) (ix2 r k) = row (φ := .f32) (m ((c : Thread nD τ).loc main_arg0)) R k := by
  blk_simp [iblk]
  entry_read
  pointwise [row]
  blk_ext [idx t, hR]

/-- Block `q`, input `k`, unit `i` of the packed first weights is column `256 * q + i` of them. -/
theorem read_w (c : Dev nD) (t : Fin cfg0.N) (q : Fin 22) (k : Fin 1024) (i : Fin 256) (j : Fin 5632)
    (hj : j.val = q.val * 256 + i.val) :
    (show FVec Ideal S22x1024x256 .bf16 from iblk m c 1 t) (ix3 q k i)
      = (show FVec Ideal S1024x5632 .f32 from m ((c : Thread nD τ).loc main_arg1)) (ix2 k j) := by
  blk_simp [iblk]
  entry_read
  pointwise
  blk_ext [idx t, hj]

/-- Chunk `q`, unit `i` of the packed second weights is row `256 * q + i` of them. -/
theorem read_o (c : Dev nD) (t : Fin cfg0.N) (q : Fin 11) (i : Fin 256) (l : Fin 1024) (j : Fin 2816)
    (hj : j.val = q.val * 256 + i.val) :
    (show FVec Ideal S11x256x1024 .bf16 from iblk m c 2 t) (ix3 q i l)
      = (show FVec Ideal S2816x1024 .f32 from m ((c : Thread nD τ).loc main_arg2)) (ix2 j l) := by
  blk_simp [iblk]
  entry_read
  pointwise
  blk_ext [idx t, hj]

/-- The gain's block is the gain. -/
theorem read_g (c : Dev nD) (t : Fin cfg0.N) (l : Fin 1024) :
    (show FVec Ideal S1x1024 .f32 from iblk m c 3 t) (ix2 0 l)
      = (show FVec Ideal S1024 .f32 from m ((c : Thread nD τ).loc main_arg3)) (ix1 l) := by
  blk_simp [iblk]
  entry_read
  pointwise
  blk_ext [idx t]

/-- The bias's block is the bias. -/
theorem read_b (c : Dev nD) (t : Fin cfg0.N) (l : Fin 1024) :
    (show FVec Ideal S1x1024 .f32 from iblk m c 4 t) (ix2 0 l)
      = (show FVec Ideal S1024 .f32 from m ((c : Thread nD τ).loc main_arg4)) (ix1 l) := by
  blk_simp [iblk]
  entry_read
  pointwise
  blk_ext [idx t]

/-! ## The result array -/

/-- The 11 chunks of a row are its sum over the 2816 hidden units. -/
theorem chunks (c : Dev nD) (t : Fin cfg0.N) (r l : Fin 1024) (R : Fin 32768) (hR : R.val = t.val * 1024 + r.val) :
    ∑ q, chunk (iblk m c 0 t) (iblk m c 1 t) (iblk m c 2 t) r l q
      = ∑ j, hid (row (φ := .f32) (m ((c : Thread nD τ).loc main_arg0)) R) (m ((c : Thread nD τ).loc main_arg1)) j
          * (show FVec Ideal S2816x1024 .f32 from m ((c : Thread nD τ).loc main_arg2)) (ix2 j l) := by
  rw [Fin.sum_univ_tiles 11 256 rfl]
  refine Finset.sum_congr rfl fun q _ => Finset.sum_congr rfl fun i _ => ?_
  have hx : (fun k => (show FVec Ideal S1024x1024 .f32 from iblk m c 0 t) (ix2 r k))
      = row (φ := .f32) (m ((c : Thread nD τ).loc main_arg0)) R := funext fun k => read_x m c t r k R hR
  refine congrArg₂ (· * ·) ?_ (read_o m c t q i l _ rfl)
  unfold hid
  refine congr (congr (congrArg unit hx) (funext fun k => read_w m c t _ k i _ rfl)) (funext fun k => read_w m c t _ k i _ ?_)
  show 2816 + (q.val * 256 + i.val) = (11 + q.val) * 256 + i.val
  omega

/-- The array of the sublayer's rows, as a function of the arguments. -/
def out (c : Dev nD) : FVec Ideal S32768x1024 .f32 := fun i =>
  spec (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- What a grid point leaves is its block of the sublayer. -/
theorem point (c : Dev nD) (t : Fin cfg0.N) (r l : Fin 1024) (R : Fin 32768) (hR : R.val = t.val * 1024 + r.val) :
    outsAt0 m c t (ix2 r l)
      = spec (m ((c : Thread nD τ).loc main_arg0)) (m ((c : Thread nD τ).loc main_arg1)) (m ((c : Thread nD τ).loc main_arg2))
          (m ((c : Thread nD τ).loc main_arg3)) (m ((c : Thread nD τ).loc main_arg4)) R l := by
  refine (body _ _ _ m c t r l _ _ rfl rfl rfl rfl rfl).trans ?_
  unfold spec
  refine congr (congr (congr (congrArg layerNorm (funext fun l => ?_)) (read_g m c t l)) (read_b m c t l)) rfl
  exact congrArg₂ (mix _) (read_x m c t r l R hR) (chunks m c t r l R hR)

/-- The result array after the run is the sublayer of the arguments. -/
theorem final (c : Dev nD) : (dats m 0 c).arrAt 5 cfg0.N = out m c := by
  refine (dats m 0 c).arrAt_eq_of_covers 5 _ (by decide +kernel) fun t _ y => ?_
  blk_simp
  rw [after0_5]
  idx_vars y
  have ht : t.val < 32 := (idx t).2.2.2.2.2.2
  refine (point m c t y0 y1 (⟨t.val * 1024 + y0.val, by omega⟩ : Fin 32768) rfl).trans ?_
  show out m c (ix2 (⟨t.val * 1024 + y0.val, by omega⟩ : Fin 32768) y1) = _
  blk_ext [idx t]

end Cert.Kernel2Ideal.Ffn

namespace Cert.Reference2Ideal.Ffn

open Cert.Reference2Ideal Cert.Reference2Ideal.Value

variable (m : (ℓ : Loc nD τ sig) → Buf (Elt Ideal) ℓ)

set_option maxHeartbeats 1600000 in
/-- The reference's result at row `r`, lane `l`. -/
theorem res_at (c : Dev nD) (r : Fin 32768) (l : Fin 1024) :
    (show FVec Ideal S32768x1024 .f32 from res_main_v35 (F := Ideal) m c) (ix2 r l)
      = Cert.Kernel2Ideal.Ffn.spec (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) r l := by
  pointwise [res_main_v35]
  rfl

end Cert.Reference2Ideal.Ffn
-- ==== Proof.FfnClaims.lean ====
/-
  The claims about the feed-forward sublayer (`Kernel2`, `Reference2`), assembled from Ffn.lean and the generated runs.
-/
module

public import proofs.«01_k».proof.Defs
public import proofs.«01_k».proof.Proof.Ffn
public import proofs.«01_k».proof.Proof.Gen.Kernel2.Frame
public import Idealize.ShloMosaic.Lib.Quiescent

@[expose] public section

noncomputable section

open Idealize.ShloMosaic Idealize.ShloMosaic.TcCoe Idealize.SL.Sem

namespace Cert.Proof.FfnClaims

/-- The kernel runs, on any floats, and ends with its counters at zero and its arguments unchanged. -/
theorem frame_kernel : Cert.quiescent_Kernel2 := fun m ρ _ => Cert.Kernel2.Gen.frame m ρ

/-- So does its idealization, -/
theorem frame_ideal : Cert.quiescent_Kernel2Ideal := fun m ρ _ => Cert.Kernel2Ideal.Gen.frame m ρ

/-- and the reference, which declares no semaphore. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference's result is the sublayer of the kernel's arguments, when its own are equal to them. -/
theorem reference_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) :
    Cert.Reference2Ideal.Value.res_main_v35 m' c = Cert.Kernel2Ideal.Ffn.out m c := by
  funext i
  obtain ⟨r, l, rfl⟩ : ∃ (r : Fin 32768) (l : Fin 1024), i = ix2 r l := ⟨i 0, i 1, (ix2_eta i).symm⟩
  refine (Cert.Reference2Ideal.Ffn.res_at m' c r l).trans ?_
  rw [h0, h1, h2, h3, h4]
  rfl

/-- The idealizer rewrote nothing. -/
theorem preserves : Cert.preserves_Kernel2_Kernel2Ideal := trivial

/-- At the ideal instance the kernel and the reference end with equal results. -/
theorem algebraic : Cert.algebraic_Kernel2Ideal_Reference2Ideal := by
  intro m g m' g' _ hag
  refine ⟨fun c => Cert.Kernel2Ideal.Ffn.out m c, ?_, ?_⟩
  · exact (θ_run Cert.Kernel2Ideal.defs _ _).mono (fun _ h c => ⟨(h c).1.trans (Cert.Kernel2Ideal.Ffn.final m c), (h c).2⟩)
      (Cert.Kernel2Ideal.Value.run_blocks (F := Ideal) m g)
  · refine (θ_run Cert.Reference2Ideal.defs _ _).mono (fun _ h c => ⟨(h c).1.trans ?_, (h c).2⟩)
      (Cert.Reference2Ideal.Value.run (F := Ideal) m' g')
    obtain ⟨h0, h1, h2, h3, h4⟩ := hag c
    exact reference_eq m m' c h0 h1 h2 h3 h4

end Cert.Proof.FfnClaims
-- ==== Proof.InProj.lean ====
/-
  The input projection of the state-space sublayer: the pipelined kernel against the reference, at the ideal instance.
  Three results, each a group of columns of ONE product, `spec`; the third has 128 lanes, of which the first 32 are
  columns of the product and the rest zero.
-/
module

public import proofs.«01_k».proof.Defs
public import proofs.«01_k».proof.Proof.Rows
public import proofs.«01_k».proof.Proof.Gen.Reference3Ideal.Run
public import proofs.«01_k».proof.Proof.Gen.Kernel3Ideal.Value
public import proofs.«01_k».proof.Proof.Gen.Kernel3.Frame
public import Idealize.ShloMosaic.Lib.Quiescent

@[expose] public section

set_option maxRecDepth 16384

noncomputable section

open Idealize.ShloMosaic Idealize.ShloMosaic.TcCoe Idealize.SL.Sem
open Cert.Rows

namespace Cert.Kernel3Ideal.InProj

open Cert.Kernel3Ideal Cert.Kernel3Ideal.Gen
open Idealize.ShloMosaic.StableHlo

/-- Row `r`, column `l` of the product. -/
def spec (x : FVec Ideal S4x8192x1024 .f32) (w : FVec Ideal S1024x5152 .f32) (r : Fin 32768) (l : Fin 5152) : EReal :=
  ∑ k, row x r k * w (ix2 k l)

/-- Lane `l` of the padded third group: column `5120 + l` for the first 32 lanes, zero beyond. -/
def specPad (x : FVec Ideal S4x8192x1024 .f32) (w : FVec Ideal S1024x5152 .f32) (r : Fin 32768) (l : Fin 128) : EReal :=
  if h : l.val < 32 then spec x w r ⟨5120 + l.val, by omega⟩ else 0

variable (m : (ℓ : Loc nD τ sig) → Buf (Elt Ideal) ℓ)

/-- The first group of columns, as a function of the arguments, -/
def out4 (c : Dev nD) : FVec Ideal S32768x2048 .f32 := fun i =>
  spec (m ((c : Thread nD τ).loc main_arg0)) (m ((c : Thread nD τ).loc main_arg1)) (i 0) ⟨(i 1).val, lt_of_lt_of_le (i 1).isLt (by decide)⟩

/-- the second, -/
def out5 (c : Dev nD) : FVec Ideal S32768x3072 .f32 := fun i =>
  spec (m ((c : Thread nD τ).loc main_arg0)) (m ((c : Thread nD τ).loc main_arg1)) (i 0)
    ⟨2048 + (i 1).val, lt_of_lt_of_le (Nat.add_lt_add_left (i 1).isLt 2048) (by decide)⟩

/-- and the third. -/
def out6 (c : Dev nD) : FVec Ideal S32768x128 .f32 := fun i =>
  specPad (m ((c : Thread nD τ).loc main_arg0)) (m ((c : Thread nD τ).loc main_arg1)) (i 0) (i 1)

/-- The index maps: the rows of point `t` are block `t`; the weights' blocks are their whole arrays. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ t.val < 64 :=
  (by decide +kernel : ∀ t : Fin grid0.N, _)

/-- Row `r` of point `t`'s block of the activations is row `512 * t + r`. -/
theorem read_x (c : Dev nD) (t : Fin cfg0.N) (r : Fin 512) (k : Fin 1024) (R : Fin 32768) (hR : R.val = t.val * 512 + r.val) :
    (show FVec Ideal S512x1024 .f32 from iblk m c 0 t) (ix2 r k)
      = row (φ := .f32) (m ((c : Thread nD τ).loc main_arg0)) R k := by
  blk_simp [iblk, V]
  simp only [hostOps0, hostOps0_1, hostOps0_2, List.flatten_cons, List.flatten_nil, List.append_nil, List.cons_append,
    List.nil_append, TRef.binary, TRef.nullary, TRef.unary, TRef.toBuf, TRef.ofBuf, cast_eq]
  entry_read
  pointwise [row]
  blk_ext [idx t, hR]

/-- The first block of weights is the first 2048 columns. -/
theorem read_w1 (c : Dev nD) (t : Fin cfg0.N) (k : Fin 1024) (l : Fin 2048) :
    (show FVec Ideal S1024x2048 .bf16 from iblk m c 1 t) (ix2 k l)
      = (show FVec Ideal S1024x5152 .f32 from m ((c : Thread nD τ).loc main_arg1)) (ix2 k (⟨l.val, by omega⟩ : Fin 5152)) := by
  blk_simp [iblk, V]
  simp only [hostOps0, hostOps0_1, hostOps0_2, List.flatten_cons, List.flatten_nil, List.append_nil, List.cons_append,
    List.nil_append, TRef.binary, TRef.nullary, TRef.unary, TRef.toBuf, TRef.ofBuf, cast_eq]
  entry_read
  pointwise
  blk_ext [idx t]

/-- The second block of weights is the next 3072 columns. -/
theorem read_w2 (c : Dev nD) (t : Fin cfg0.N) (k : Fin 1024) (l : Fin 3072) :
    (show FVec Ideal S1024x3072 .bf16 from iblk m c 2 t) (ix2 k l)
      = (show FVec Ideal S1024x5152 .f32 from m ((c : Thread nD τ).loc main_arg1)) (ix2 k (⟨2048 + l.val, by omega⟩ : Fin 5152)) := by
  blk_simp [iblk, V]
  simp only [hostOps0, hostOps0_1, hostOps0_2, List.flatten_cons, List.flatten_nil, List.append_nil, List.cons_append,
    List.nil_append, TRef.binary, TRef.nullary, TRef.unary, TRef.toBuf, TRef.ofBuf, cast_eq]
  entry_read
  pointwise
  blk_ext [idx t]

/-- The third block of weights is the last 32 columns, with zero beyond. -/
theorem read_w3 (c : Dev nD) (t : Fin cfg0.N) (k : Fin 1024) (l : Fin 128) :
    (show FVec Ideal S1024x128 .bf16 from iblk m c 3 t) (ix2 k l)
      = if h : l.val < 32 then (show FVec Ideal S1024x5152 .f32 from m ((c : Thread nD τ).loc main_arg1)) (ix2 k (⟨5120 + l.val, by omega⟩ : Fin 5152)) else (0 : EReal) := by
  blk_simp [iblk, V]
  simp only [hostOps0, hostOps0_1, hostOps0_2, List.flatten_cons, List.flatten_nil, List.append_nil, List.cons_append,
    List.nil_append, TRef.binary, TRef.nullary, TRef.unary, TRef.toBuf, TRef.ofBuf, cast_eq]
  entry_read
  pointwise
  by_cases h : l.val < 32
  · rw [dif_pos h]
    blk_simp [idx t]
    rw [dif_pos (by omega)]
    blk_ext [idx t]
  · rw [dif_neg h]
    blk_simp [idx t]
    rw [dif_neg (by omega)]
    exact sitofp_zero .bf16

/-- Result 0 after the run. -/
theorem final4 (c : Dev nD) : (dats m 0 c).arrAt 4 cfg0.N = out4 m c := by
  refine (dats m 0 c).arrAt_eq_of_covers 4 _ (by decide +kernel) fun t _ y => ?_
  blk_simp
  rw [after0_4]
  frame_out
  idx_vars y
  have ht : t.val < 64 := (idx t).2.2.2.2.2.2.2
  refine Eq.trans (b := out4 m c (ix2 (⟨t.val * 512 + y0.val, by omega⟩ : Fin 32768) y1)) ?_ ?_
  · pointwise [k0_pay2, k0_pay1]
    exact Finset.sum_congr rfl fun k _ => congrArg₂ (· * ·) (read_x m c t y0 k _ rfl) (read_w1 m c t k y1)
  · blk_ext [idx t]

/-- Result 1 after the run. -/
theorem final5 (c : Dev nD) : (dats m 0 c).arrAt 5 cfg0.N = out5 m c := by
  refine (dats m 0 c).arrAt_eq_of_covers 5 _ (by decide +kernel) fun t _ y => ?_
  blk_simp
  rw [after0_5]
  frame_out
  idx_vars y
  have ht : t.val < 64 := (idx t).2.2.2.2.2.2.2
  refine Eq.trans (b := out5 m c (ix2 (⟨t.val * 512 + y0.val, by omega⟩ : Fin 32768) y1)) ?_ ?_
  · pointwise [k0_pay3, k0_pay1]
    exact Finset.sum_congr rfl fun k _ => congrArg₂ (· * ·) (read_x m c t y0 k _ rfl) (read_w2 m c t k y1)
  · blk_ext [idx t]

/-- Result 2 after the run. -/
theorem final6 (c : Dev nD) : (dats m 0 c).arrAt 6 cfg0.N = out6 m c := by
  refine (dats m 0 c).arrAt_eq_of_covers 6 _ (by decide +kernel) fun t _ y => ?_
  blk_simp
  rw [after0_6]
  frame_out
  idx_vars y
  have ht : t.val < 64 := (idx t).2.2.2.2.2.2.2
  refine Eq.trans (b := out6 m c (ix2 (⟨t.val * 512 + y0.val, by omega⟩ : Fin 32768) y1)) ?_ ?_
  · pointwise [k0_pay4, k0_pay1]
    show _ = specPad _ _ _ y1
    unfold specPad
    split
    next h =>
      exact Finset.sum_congr rfl fun k _ => congrArg₂ (· * ·) (read_x m c t y0 k _ rfl) ((read_w3 m c t k y1).trans (dif_pos h))
    next h =>
      exact Finset.sum_eq_zero fun k _ => mul_eq_zero_of_right _ ((read_w3 m c t k y1).trans (dif_neg h))
  · blk_ext [idx t]

end Cert.Kernel3Ideal.InProj

/-! ## The claims about the input projection (`Kernel3`, `Reference3`) -/

namespace Cert.Proof.InProjClaims

/-- The kernel runs, on any floats, and ends with its counters at zero and its arguments unchanged. -/
theorem frame_kernel : Cert.quiescent_Kernel3 := fun m ρ _ => Cert.Kernel3.Gen.frame m ρ

/-- So does its idealization, -/
theorem frame_ideal : Cert.quiescent_Kernel3Ideal := fun m ρ _ => Cert.Kernel3Ideal.Gen.frame m ρ

/-- and the reference, which declares no semaphore. -/
theorem frame_reference : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- The idealizer rewrote nothing. -/
theorem preserves : Cert.preserves_Kernel3_Kernel3Ideal := trivial

set_option maxHeartbeats 1600000 in
/-- At the ideal instance the kernel and the reference end with equal results. -/
theorem algebraic : Cert.algebraic_Kernel3Ideal_Reference3Ideal := by
  intro m g m' g' _ hag
  refine ⟨fun c => Cert.Kernel3Ideal.InProj.out4 m c, fun c => Cert.Kernel3Ideal.InProj.out5 m c,
    fun c => Cert.Kernel3Ideal.InProj.out6 m c, ?_, ?_⟩
  · exact (θ_run Cert.Kernel3Ideal.defs _ _).mono (fun _ h c => ⟨(h c).1.trans (Cert.Kernel3Ideal.InProj.final4 m c),
        (h c).2.1.trans (Cert.Kernel3Ideal.InProj.final5 m c), (h c).2.2.1.trans (Cert.Kernel3Ideal.InProj.final6 m c), (h c).2.2.2⟩)
      (Cert.Kernel3Ideal.Value.run_blocks (F := Ideal) m g)
  · refine (θ_run Cert.Reference3Ideal.defs _ _).mono (fun _ h c => ⟨(h c).1.trans ?_, (h c).2.1.trans ?_, (h c).2.2.1.trans ?_,
        (h c).2.2.2⟩) (Cert.Reference3Ideal.Value.run (F := Ideal) m' g')
    all_goals
      obtain ⟨h0, h1⟩ := hag c
      rw [h0, h1]
      funext i
    · obtain ⟨r, l, rfl⟩ : ∃ (r : Fin 32768) (l : Fin 2048), i = ix2 r l := ⟨i 0, i 1, (ix2_eta i).symm⟩
      pointwise
      rfl
    · obtain ⟨r, l, rfl⟩ : ∃ (r : Fin 32768) (l : Fin 3072), i = ix2 r l := ⟨i 0, i 1, (ix2_eta i).symm⟩
      pointwise
      rfl
    · obtain ⟨r, l, rfl⟩ : ∃ (r : Fin 32768) (l : Fin 128), i = ix2 r l := ⟨i 0, i 1, (ix2_eta i).symm⟩
      pointwise
      show _ = Cert.Kernel3Ideal.InProj.specPad _ _ r l
      unfold Cert.Kernel3Ideal.InProj.specPad
      by_cases h : l.val < 32
      · rw [dif_pos h, dif_pos ⟨by omega, by omega, h⟩]
        rfl
      · rw [dif_neg h, dif_neg fun h' => h h'.2.2]
        exact sitofp_zero .f32

end Cert.Proof.InProjClaims
-- ==== Proof.ProjLn.lean ====
/-
  The output projection with its residual and layer norm: the pipelined kernel against the reference, at the ideal
  instance. Both are ONE function of the arguments, `spec`: row by row, the layer norm of `alpha * x + y W`.
-/
module

public import proofs.«01_k».proof.Defs
public import proofs.«01_k».proof.Proof.Rows
public import proofs.«01_k».proof.Proof.Gen.Reference4Ideal.Run
public import proofs.«01_k».proof.Proof.Gen.Kernel4Ideal.Value
public import proofs.«01_k».proof.Proof.Gen.Kernel4.Frame
public import Idealize.ShloMosaic.Lib.Quiescent

@[expose] public section

set_option maxRecDepth 16384

noncomputable section

open Idealize.ShloMosaic Idealize.ShloMosaic.TcCoe Idealize.SL.Sem
open Cert.Rows

namespace Cert.Kernel4Ideal.ProjLn

open Cert.Kernel4Ideal Cert.Kernel4Ideal.Gen

/-- The sublayer's end at row `r`, lane `l`. -/
def spec (x : FVec Ideal S4x8192x1024 .f32) (y : FVec Ideal S4x8192x2048 .bf16) (w : FVec Ideal S2048x1024 .f32)
    (g b : FVec Ideal S1024 .f32) (r : Fin 32768) (l : Fin 1024) : EReal :=
  layerNorm (fun l => mix 1 (row x r l) (∑ k, row y r k * w (ix2 k l))) (g (ix1 l)) (b (ix1 l)) l

/-- The body's payload, on blocks. -/
theorem pay_at (y : FVec Ideal S512x2048 .bf16) (w : FVec Ideal S2048x1024 .bf16) (x : FVec Ideal S512x1024 .f32)
    (g b : FVec Ideal S1x1024 .f32) (r : Fin 512) (l : Fin 1024) :
    k0_pay1 (F := Ideal) y w x g b (ix2 r l)
      = layerNorm (fun l => mix 1 (x (ix2 r l)) (∑ k, y (ix2 r k) * w (ix2 k l))) (g (ix2 0 l)) (b (ix2 0 l)) l := by
  pointwise [k0_pay1]
  unfold layerNorm mean mix
  simp only [one_mul]

variable (m : (ℓ : Loc nD τ sig) → Buf (Elt Ideal) ℓ)

/-- The index maps: the rows of point `t` are block `t`; the weights' and the norm's blocks are their whole arrays. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ t.val < 64 :=
  (by decide +kernel : ∀ t : Fin grid0.N, _)

/-- Row `r` of point `t`'s block of the residual is row `512 * t + r`. -/
theorem read_x (c : Dev nD) (t : Fin cfg0.N) (r : Fin 512) (k : Fin 1024) (R : Fin 32768) (hR : R.val = t.val * 512 + r.val) :
    (show FVec Ideal S512x1024 .f32 from iblk m c 0 t) (ix2 r k)
      = row (φ := .f32) (m ((c : Thread nD τ).loc main_arg0)) R k := by
  blk_simp [iblk]
  entry_read
  pointwise [row]
  blk_ext [idx t, hR]

/-- Row `r` of point `t`'s block of the gated rows is row `512 * t + r`. -/
theorem read_y (c : Dev nD) (t : Fin cfg0.N) (r : Fin 512) (k : Fin 2048) (R : Fin 32768) (hR : R.val = t.val * 512 + r.val) :
    (show FVec Ideal S512x2048 .bf16 from iblk m c 1 t) (ix2 r k)
      = row (φ := .bf16) (m ((c : Thread nD τ).loc main_arg1)) R k := by
  blk_simp [iblk]
  entry_read
  pointwise [row]
  blk_ext [idx t, hR]

/-- The weights' block is the weights. -/
theorem read_w (c : Dev nD) (t : Fin cfg0.N) (k : Fin 2048) (l : Fin 1024) :
    (show FVec Ideal S2048x1024 .bf16 from iblk m c 2 t) (ix2 k l)
      = (show FVec Ideal S2048x1024 .f32 from m ((c : Thread nD τ).loc main_arg2)) (ix2 k l) := by
  blk_simp [iblk]
  entry_read
  pointwise
  blk_ext [idx t]

/-- The gain's block is the gain. -/
theorem read_g (c : Dev nD) (t : Fin cfg0.N) (l : Fin 1024) :
    (show FVec Ideal S1x1024 .f32 from iblk m c 3 t) (ix2 0 l)
      = (show FVec Ideal S1024 .f32 from m ((c : Thread nD τ).loc main_arg3)) (ix1 l) := by
  blk_simp [iblk]
  entry_read
  pointwise
  blk_ext [idx t]

/-- The bias's block is the bias. -/
theorem read_b (c : Dev nD) (t : Fin cfg0.N) (l : Fin 1024) :
    (show FVec Ideal S1x1024 .f32 from iblk m c 4 t) (ix2 0 l)
      = (show FVec Ideal S1024 .f32 from m ((c : Thread nD τ).loc main_arg4)) (ix1 l) := by
  blk_simp [iblk]
  entry_read
  pointwise
  blk_ext [idx t]

/-- The array of the sublayer's rows, as a function of the arguments. -/
def out (c : Dev nD) : FVec Ideal S32768x1024 .f32 := fun i =>
  spec (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- What a grid point computes from its blocks is its block of the sublayer. -/
theorem point (c : Dev nD) (t : Fin cfg0.N) (r : Fin 512) (l : Fin 1024) (R : Fin 32768) (hR : R.val = t.val * 512 + r.val) :
    k0_pay1 (F := Ideal) (iblk m c 1 t) (iblk m c 2 t) (iblk m c 0 t) (iblk m c 3 t) (iblk m c 4 t) (ix2 r l)
      = spec (m ((c : Thread nD τ).loc main_arg0)) (m ((c : Thread nD τ).loc main_arg1)) (m ((c : Thread nD τ).loc main_arg2))
          (m ((c : Thread nD τ).loc main_arg3)) (m ((c : Thread nD τ).loc main_arg4)) R l := by
  refine (pay_at _ _ _ _ _ r l).trans ?_
  unfold spec
  refine congr (congr (congr (congrArg layerNorm (funext fun l => ?_)) (read_g m c t l)) (read_b m c t l)) rfl
  exact congrArg₂ (mix _) (read_x m c t r l R hR)
    (Finset.sum_congr rfl fun k _ => congrArg₂ (· * ·) (read_y m c t r k R hR) (read_w m c t k l))

/-- The result array after the run is the sublayer of the arguments. -/
theorem final (c : Dev nD) : (dats m 0 c).arrAt 5 cfg0.N = out m c := by
  refine (dats m 0 c).arrAt_eq_of_covers 5 _ (by decide +kernel) fun t _ y => ?_
  blk_simp
  rw [after0_5]
  frame_out
  idx_vars y
  have ht : t.val < 64 := (idx t).2.2.2.2.2.2
  refine (point m c t y0 y1 (⟨t.val * 512 + y0.val, by omega⟩ : Fin 32768) rfl).trans ?_
  show out m c (ix2 (⟨t.val * 512 + y0.val, by omega⟩ : Fin 32768) y1) = _
  blk_ext [idx t]

end Cert.Kernel4Ideal.ProjLn

/-! ## The claims about the output projection (`Kernel4`, `Reference4`) -/

namespace Cert.Proof.ProjLnClaims

/-- The kernel runs, on any floats, and ends with its counters at zero and its arguments unchanged. -/
theorem frame_kernel : Cert.quiescent_Kernel4 := fun m ρ _ => Cert.Kernel4.Gen.frame m ρ

/-- So does its idealization, -/
theorem frame_ideal : Cert.quiescent_Kernel4Ideal := fun m ρ _ => Cert.Kernel4Ideal.Gen.frame m ρ

/-- and the reference, which declares no semaphore. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The idealizer rewrote nothing. -/
theorem preserves : Cert.preserves_Kernel4_Kernel4Ideal := trivial

set_option maxHeartbeats 1600000 in
/-- At the ideal instance the kernel and the reference end with equal results. -/
theorem algebraic : Cert.algebraic_Kernel4Ideal_Reference4Ideal := by
  intro m g m' g' _ hag
  refine ⟨fun c => Cert.Kernel4Ideal.ProjLn.out m c, ?_, ?_⟩
  · exact (θ_run Cert.Kernel4Ideal.defs _ _).mono (fun _ h c => ⟨(h c).1.trans (Cert.Kernel4Ideal.ProjLn.final m c), (h c).2⟩)
      (Cert.Kernel4Ideal.Value.run_blocks (F := Ideal) m g)
  · refine (θ_run Cert.Reference4Ideal.defs _ _).mono (fun _ h c => ⟨(h c).1.trans ?_, (h c).2⟩)
      (Cert.Reference4Ideal.Value.run (F := Ideal) m' g')
    obtain ⟨h0, h1, h2, h3, h4⟩ := hag c
    rw [h0, h1, h2, h3, h4]
    funext i
    obtain ⟨r, l, rfl⟩ : ∃ (r : Fin 32768) (l : Fin 1024), i = ix2 r l := ⟨i 0, i 1, (ix2_eta i).symm⟩
    pointwise
    unfold Cert.Kernel4Ideal.ProjLn.out Cert.Kernel4Ideal.ProjLn.spec layerNorm mean mix
    simp only [one_mul]
    rfl

end Cert.Proof.ProjLnClaims
-- ==== Proof.AttnProj.lean ====
/-
  The input projection of the attention sublayer: the pipelined kernel against the reference, at the ideal instance.
  Five results, each a group of columns of ONE product, `spec`: the queries; the latent, over its root mean square and
  times a gain; the indexer's queries; its keys; and its weights, scaled.
-/
module

public import proofs.«01_k».proof.Defs
public import proofs.«01_k».proof.Proof.Rows
public import proofs.«01_k».proof.Proof.Gen.Reference5Ideal.Run
public import proofs.«01_k».proof.Proof.Gen.Kernel5Ideal.Value
public import proofs.«01_k».proof.Proof.Gen.Kernel5.Frame
public import Idealize.ShloMosaic.Lib.Quiescent

@[expose] public section

set_option maxRecDepth 16384

noncomputable section

open Idealize.ShloMosaic Idealize.ShloMosaic.TcCoe Idealize.SL.Sem
open Cert.Rows

namespace Cert.Kernel5Ideal.AttnProj

open Cert.Kernel5Ideal Cert.Kernel5Ideal.Gen
open Idealize.ShloMosaic.StableHlo

/-- Row `r`, column `l` of the product. -/
def spec (x : FVec Ideal S4x8192x1024 .f32) (w : FVec Ideal S1024x1864 .f32) (r : Fin 32768) (l : Fin 1864) : EReal :=
  ∑ k, row x r k * w (ix2 k l)

/-- The columns from `o` on. -/
def group (o n : ℕ) (h : o + n ≤ 1864) (x : FVec Ideal S4x8192x1024 .f32) (w : FVec Ideal S1024x1864 .f32) (r : Fin 32768) (l : Fin n) : EReal :=
  spec x w r ⟨o + l.val, lt_of_lt_of_le (Nat.add_lt_add_left l.isLt o) h⟩

/-- A row over its root mean square, times a gain. -/
def rms (v : Fin 256 → EReal) (g : EReal) (l : Fin 256) : EReal :=
  v l * Ideal.rsqrt (Ideal.div (∑ k, v k * v k) (Ideal.ofBits FTy.f32 0x43800000#32) + Ideal.ofBits FTy.f32 0x358637BD#32) * g

/-- The indexer's weight at a column, scaled. -/
def scale (v : EReal) : EReal := v * Ideal.ofBits FTy.f32 0x3EB504F3#32 * Ideal.ofBits FTy.f32 0x3E000000#32

variable (m : (ℓ : Loc nD τ sig) → Buf (Elt Ideal) ℓ)

/-- The activations, -/
abbrev aX (c : Dev nD) : FVec Ideal S4x8192x1024 .f32 := m ((c : Thread nD τ).loc main_arg0)
/-- the weights -/
abbrev aW (c : Dev nD) : FVec Ideal S1024x1864 .f32 := m ((c : Thread nD τ).loc main_arg1)
/-- and the gain. -/
abbrev aG (c : Dev nD) : FVec Ideal S256 .f32 := m ((c : Thread nD τ).loc main_arg2)

/-- The queries, as a function of the arguments, -/
def out6 (c : Dev nD) : FVec Ideal S32768x1024 .f32 := fun i => group 0 1024 (by decide) (aX m c) (aW m c) (i 0) (i 1)

/-- the latent, -/
def out7 (c : Dev nD) : FVec Ideal S32768x256 .f32 := fun i =>
  rms (group 1024 256 (by decide) (aX m c) (aW m c) (i 0)) (aG m c (ix1 (i 1))) (i 1)

/-- the indexer's queries, -/
def out8 (c : Dev nD) : FVec Ideal S32768x512 .f32 := fun i => group 1280 512 (by decide) (aX m c) (aW m c) (i 0) (i 1)

/-- its keys -/
def out9 (c : Dev nD) : FVec Ideal S32768x64 .f32 := fun i => group 1792 64 (by decide) (aX m c) (aW m c) (i 0) (i 1)

/-- and its weights. -/
def out10 (c : Dev nD) : FVec Ideal S32768x8 .f32 := fun i => scale (group 1856 8 (by decide) (aX m c) (aW m c) (i 0) (i 1))

/-- The index maps: the rows of point `t` are block `t`; the weights' blocks are their whole arrays. -/
theorem idx : ∀ t : Fin cfg0.N, (win0_0.index t = ![t.val, 0] ∧ win0_1.index t = ![0, 0] ∧ win0_2.index t = ![0, 0]
    ∧ win0_3.index t = ![0, 0] ∧ win0_4.index t = ![0, 0] ∧ win0_5.index t = ![0, 0]) ∧ (win0_6.index t = ![t.val, 0]
    ∧ win0_7.index t = ![t.val, 0] ∧ win0_8.index t = ![t.val, 0] ∧ win0_9.index t = ![t.val, 0] ∧ win0_10.index t = ![t.val, 0])
    ∧ t.val < 64 :=
  (by decide +kernel : ∀ t : Fin grid0.N, _)

/-- Row `r` of point `t`'s block of the activations is row `512 * t + r`. -/
theorem read_x (c : Dev nD) (t : Fin cfg0.N) (r : Fin 512) (k : Fin 1024) (R : Fin 32768) (hR : R.val = t.val * 512 + r.val) :
    (show FVec Ideal S512x1024 .f32 from iblk m c 0 t) (ix2 r k) = row (aX m c) R k := by
  blk_simp [iblk, V]
  simp only [hostOps0, hostOps0_1, hostOps0_2, List.flatten_cons, List.flatten_nil, List.append_nil, List.cons_append,
    List.nil_append, TRef.binary, TRef.nullary, TRef.unary, TRef.toBuf, TRef.ofBuf, cast_eq]
  entry_read
  pointwise [row]
  blk_ext [idx t, hR]

/-- The weights of the queries, -/
theorem read_w1 (c : Dev nD) (t : Fin cfg0.N) (k : Fin 1024) (l : Fin 1024) :
    (show FVec Ideal S1024x1024 .bf16 from iblk m c 1 t) (ix2 k l) = aW m c (ix2 k (⟨0 + l.val, by omega⟩ : Fin 1864)) := by
  blk_simp [iblk, V]
  simp only [hostOps0, hostOps0_1, hostOps0_2, List.flatten_cons, List.flatten_nil, List.append_nil, List.cons_append,
    List.nil_append, TRef.binary, TRef.nullary, TRef.unary, TRef.toBuf, TRef.ofBuf, cast_eq]
  entry_read
  pointwise
  blk_ext [idx t]

/-- of the latent -/
theorem read_w2 (c : Dev nD) (t : Fin cfg0.N) (k : Fin 1024) (l : Fin 256) :
    (show FVec Ideal S1024x256 .bf16 from iblk m c 2 t) (ix2 k l) = aW m c (ix2 k (⟨1024 + l.val, by omega⟩ : Fin 1864)) := by
  blk_simp [iblk, V]
  simp only [hostOps0, hostOps0_1, hostOps0_2, List.flatten_cons, List.flatten_nil, List.append_nil, List.cons_append,
    List.nil_append, TRef.binary, TRef.nullary, TRef.unary, TRef.toBuf, TRef.ofBuf, cast_eq]
  entry_read
  pointwise
  blk_ext [idx t]

/-- and of the indexer's queries are columns of the weights; -/
theorem read_w3 (c : Dev nD) (t : Fin cfg0.N) (k : Fin 1024) (l : Fin 512) :
    (show FVec Ideal S1024x512 .bf16 from iblk m c 3 t) (ix2 k l) = aW m c (ix2 k (⟨1280 + l.val, by omega⟩ : Fin 1864)) := by
  blk_simp [iblk, V]
  simp only [hostOps0, hostOps0_1, hostOps0_2, List.flatten_cons, List.flatten_nil, List.append_nil, List.cons_append,
    List.nil_append, TRef.binary, TRef.nullary, TRef.unary, TRef.toBuf, TRef.ofBuf, cast_eq]
  entry_read
  pointwise
  blk_ext [idx t]

/-- so are the first 72 of the last block. -/
theorem read_w4 (c : Dev nD) (t : Fin cfg0.N) (k : Fin 1024) (l : Fin 128) (h : l.val < 72) :
    (show FVec Ideal S1024x128 .bf16 from iblk m c 4 t) (ix2 k l) = aW m c (ix2 k (⟨1792 + l.val, by omega⟩ : Fin 1864)) := by
  blk_simp [iblk, V]
  simp only [hostOps0, hostOps0_1, hostOps0_2, List.flatten_cons, List.flatten_nil, List.append_nil, List.cons_append,
    List.nil_append, TRef.binary, TRef.nullary, TRef.unary, TRef.toBuf, TRef.ofBuf, cast_eq]
  entry_read
  pointwise
  blk_simp [idx t]
  rw [dif_pos (by omega)]
  blk_ext [idx t]

/-- The gain. -/
theorem read_g (c : Dev nD) (t : Fin cfg0.N) (l : Fin 256) :
    (show FVec Ideal S1x256 .f32 from iblk m c 5 t) (ix2 0 l) = aG m c (ix1 l) := by
  blk_simp [iblk, V]
  simp only [hostOps0, hostOps0_1, hostOps0_2, List.flatten_cons, List.flatten_nil, List.append_nil, List.cons_append,
    List.nil_append, TRef.binary, TRef.nullary, TRef.unary, TRef.toBuf, TRef.ofBuf, cast_eq]
  entry_read
  pointwise
  blk_ext [idx t]

/-- The queries after the run, -/
theorem final6 (c : Dev nD) : (dats m 0 c).arrAt 6 cfg0.N = out6 m c := by
  refine (dats m 0 c).arrAt_eq_of_covers 6 _ (by decide +kernel) fun t _ y => ?_
  blk_simp
  rw [after0_6]
  frame_out
  idx_vars y
  have ht : t.val < 64 := (idx t).2.2
  refine Eq.trans (b := out6 m c (ix2 (⟨t.val * 512 + y0.val, by omega⟩ : Fin 32768) y1)) ?_ ?_
  · pointwise [k0_pay5, k0_pay4]
    exact Finset.sum_congr rfl fun k _ => congrArg₂ (· * ·) (read_x m c t y0 k _ rfl) (read_w1 m c t k y1)
  · blk_ext [idx t]

/-- the latent, -/
theorem final7 (c : Dev nD) : (dats m 0 c).arrAt 7 cfg0.N = out7 m c := by
  refine (dats m 0 c).arrAt_eq_of_covers 7 _ (by decide +kernel) fun t _ y => ?_
  blk_simp
  rw [after0_7]
  frame_out
  idx_vars y
  have ht : t.val < 64 := (idx t).2.2
  refine Eq.trans (b := out7 m c (ix2 (⟨t.val * 512 + y0.val, by omega⟩ : Fin 32768) y1)) ?_ ?_
  · pointwise [k0_pay6, k0_pay4]
    have e : ∀ l, (∑ k, (show FVec Ideal S512x1024 .f32 from iblk m c 0 t) (ix2 y0 k) * (show FVec Ideal S1024x256 .bf16 from iblk m c 2 t) (ix2 k l)) =
        group 1024 256 (by decide) (aX m c) (aW m c) ⟨t.val * 512 + y0.val, by omega⟩ l := fun l =>
      Finset.sum_congr rfl fun k _ => congrArg₂ (· * ·) (read_x m c t y0 k _ rfl) (read_w2 m c t k l)
    refine Eq.trans (b := rms (fun l => ∑ k, (show FVec Ideal S512x1024 .f32 from iblk m c 0 t) (ix2 y0 k) * (show FVec Ideal S1024x256 .bf16 from iblk m c 2 t) (ix2 k l))
      ((show FVec Ideal S1x256 .f32 from iblk m c 5 t) (ix2 0 y1)) y1) rfl ?_
    rw [funext e, read_g]
    rfl
  · blk_ext [idx t]

/-- the indexer's queries, -/
theorem final8 (c : Dev nD) : (dats m 0 c).arrAt 8 cfg0.N = out8 m c := by
  refine (dats m 0 c).arrAt_eq_of_covers 8 _ (by decide +kernel) fun t _ y => ?_
  blk_simp
  rw [after0_8]
  frame_out
  idx_vars y
  have ht : t.val < 64 := (idx t).2.2
  refine Eq.trans (b := out8 m c (ix2 (⟨t.val * 512 + y0.val, by omega⟩ : Fin 32768) y1)) ?_ ?_
  · pointwise [k0_pay7, k0_pay4]
    exact Finset.sum_congr rfl fun k _ => congrArg₂ (· * ·) (read_x m c t y0 k _ rfl) (read_w3 m c t k y1)
  · blk_ext [idx t]

/-- keys -/
theorem final9 (c : Dev nD) : (dats m 0 c).arrAt 9 cfg0.N = out9 m c := by
  refine (dats m 0 c).arrAt_eq_of_covers 9 _ (by decide +kernel) fun t _ y => ?_
  blk_simp
  rw [after0_9]
  frame_out
  idx_vars y
  have ht : t.val < 64 := (idx t).2.2
  refine Eq.trans (b := out9 m c (ix2 (⟨t.val * 512 + y0.val, by omega⟩ : Fin 32768) y1)) ?_ ?_
  · pointwise [k0_pay2, k0_pay1, k0_pay8, k0_pay4]
    change _ = ∑ k, row (aX m c) ⟨t.val * 512 + y0.val, by omega⟩ k * aW m c (ix2 k ⟨1792 + y1.val, by omega⟩)
    exact Finset.sum_congr rfl fun k _ => congrArg₂ (· * ·) (read_x m c t y0 k _ rfl) (read_w4 m c t k ⟨y1.val, by omega⟩ (lt_of_lt_of_le y1.isLt (by decide)))
  · blk_ext [idx t]

/-- and weights. -/
theorem final10 (c : Dev nD) : (dats m 0 c).arrAt 10 cfg0.N = out10 m c := by
  refine (dats m 0 c).arrAt_eq_of_covers 10 _ (by decide +kernel) fun t _ y => ?_
  blk_simp
  rw [after0_10]
  frame_out
  idx_vars y
  have ht : t.val < 64 := (idx t).2.2
  refine Eq.trans (b := out10 m c (ix2 (⟨t.val * 512 + y0.val, by omega⟩ : Fin 32768) y1)) ?_ ?_
  · pointwise [k0_pay3, k0_pay1, k0_pay8, k0_pay4]
    refine Eq.trans (congrArg scale (a₂ := ∑ k, row (aX m c) ⟨t.val * 512 + y0.val, by omega⟩ k * aW m c (ix2 k ⟨1856 + y1.val, by omega⟩)) ?_) rfl
    exact Finset.sum_congr rfl fun k _ => congrArg₂ (· * ·) (read_x m c t y0 k _ rfl) ((read_w4 m c t k ⟨64 + y1.val, by omega⟩ (Nat.add_lt_add_left y1.isLt 64)).trans (congrArg (fun j => aW m c (ix2 k j)) (Fin.ext (by change 1792 + (64 + y1.val) = 1856 + y1.val; omega))))
  · blk_ext [idx t]

end Cert.Kernel5Ideal.AttnProj

/-! ## The claims about the attention's input projection (`Kernel5`, `Reference5`) -/

namespace Cert.Proof.AttnProjClaims

open Cert.Kernel5Ideal.AttnProj

/-- The kernel runs, on any floats, and ends with its counters at zero and its arguments unchanged. -/
theorem frame_kernel : Cert.quiescent_Kernel5 := fun m ρ _ => Cert.Kernel5.Gen.frame m ρ

/-- So does its idealization, -/
theorem frame_ideal : Cert.quiescent_Kernel5Ideal := fun m ρ _ => Cert.Kernel5Ideal.Gen.frame m ρ

/-- and the reference, which declares no semaphore. -/
theorem frame_reference : Cert.quiescent_Reference5Ideal := fun m ρ _ =>
  (θ_run Cert.Reference5Ideal.defs _ _).mono (fun r h => ⟨fun c => (h c).2.2.2.2.2, sem_eq_zero_of_no_sems (by decide) r.2⟩)
    (Cert.Reference5Ideal.Value.run (F := Ideal) m ρ)

/-- The idealizer rewrote nothing. -/
theorem preserves : Cert.preserves_Kernel5_Kernel5Ideal := trivial

set_option maxHeartbeats 1600000 in
/-- At the ideal instance the kernel and the reference end with equal results. -/
theorem algebraic : Cert.algebraic_Kernel5Ideal_Reference5Ideal := by
  intro m g m' g' _ hag
  refine ⟨fun c => out6 m c, fun c => out7 m c, fun c => out8 m c, fun c => out9 m c, fun c => out10 m c, ?_, ?_⟩
  · exact (θ_run Cert.Kernel5Ideal.defs _ _).mono (fun _ h c => ⟨(h c).1.trans (final6 m c), (h c).2.1.trans (final7 m c),
        (h c).2.2.1.trans (final8 m c), (h c).2.2.2.1.trans (final9 m c), (h c).2.2.2.2.1.trans (final10 m c), (h c).2.2.2.2.2⟩)
      (Cert.Kernel5Ideal.Value.run_blocks (F := Ideal) m g)
  · refine (θ_run Cert.Reference5Ideal.defs _ _).mono (fun _ h c => ⟨(h c).1.trans ?_, (h c).2.1.trans ?_, (h c).2.2.1.trans ?_,
        (h c).2.2.2.1.trans ?_, (h c).2.2.2.2.1.trans ?_, (h c).2.2.2.2.2⟩) (Cert.Reference5Ideal.Value.run (F := Ideal) m' g')
    all_goals
      obtain ⟨h0, h1, h2⟩ := hag c
      rw [h0, h1]
      try rw [h2]
      funext i
      rw [← ix2_eta i]
      pointwise
    · unfold out6 group
      simp only [Nat.zero_add]
      rfl
    all_goals rfl

end Cert.Proof.AttnProjClaims
-- ==== Proof.DsaFrame.lean ====
/-
  The attention call: termination and unchanged arguments. Nothing is said here of the values the kernel computes. The
  body of the kernel only ever loads from and stores to buffers it was handed. So whoever owns those buffers, at
  whatever contents, owns them again after any part of the body.
-/
module

public import proofs.«01_k».proof.Proof.Gen.Kernel6.Frame
public import proofs.«01_k».proof.Proof.Gen.Kernel6.Skeleton

@[expose] public section

set_option maxRecDepth 65536

noncomputable section

namespace Cert.Kernel6.Dsa

open Cert.Kernel6.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- Buffer `m` owned on core `c`, at some contents. -/
def cell (c : Dev nD) {sp : Space} {sh : Shape} {e : EltTy} (m : Memref sig .tc sp sh e) : sProp 𝕄 :=
  iprop(∃ X, owns (c : Thread nD τ) m fullShare X)

/-- The resources `R` contain buffer `m`: it can be taken out and put back at any contents. -/
def Has (c : Dev nD) (R : sProp 𝕄) {sp : Space} {sh : Shape} {e : EltTy} (m : Memref sig .tc sp sh e) : Prop :=
  R ⊢ iprop(cell (F := F) c m ∗ (cell (F := F) c m -∗ R))

/-- Program `p` runs from the resources `R` and ends with them again. -/
def Keeps (c : Dev nD) (R : sProp 𝕄) {α : Type} (p : Prog (TpuEff nD τ sig (Elt F) Λ₀ .tc) α) : Prop :=
  R ⊢ wp frame (wpE (defs₀ (F := F)) Variants.none (c : Thread nD τ) none) Set.univ p (fun _ => R)

variable {c : Dev nD}

/-- A program that only returns keeps anything. -/
theorem keeps_pure {R : sProp 𝕄} {α : Type} (a : α) : Keeps (F := F) c R (Pure.pure a) := by
  unfold Keeps
  rw [wp_pure]
  iintro H
  imodintro
  iexact H

/-- Two programs in sequence. -/
theorem keeps_bind {R : sProp 𝕄} {α β : Type} {p : Prog (TpuEff nD τ sig (Elt F) Λ₀ .tc) α}
    {k : α → Prog (TpuEff nD τ sig (Elt F) Λ₀ .tc) β} (hp : Keeps c R p) (hk : ∀ a, Keeps c R (k a)) :
    Keeps c R (p >>= k) := by
  unfold Keeps at *
  rw [wp_bind]
  iintro H
  iapply (wp_wand_r _ _ _)
  isplitl [H]
  · iapply hp; iexact H
  · iintro %a H
    iapply (hk a); iexact H

/-- A choice between two programs. -/
theorem keeps_ite {R : sProp 𝕄} {α : Type} {b : Prop} [Decidable b] {p q : Prog (TpuEff nD τ sig (Elt F) Λ₀ .tc) α}
    (hp : Keeps c R p) (hq : Keeps c R q) : Keeps c R (if b then p else q) := by
  split <;> assumption

/-- A counted loop, whose every trip keeps the resources. -/
theorem keeps_loop {R : sProp 𝕄} {σ : Type} {w : Nat} (l : Scf.Loop w) (hok : l.OK) (init : σ)
    {body : Fin l.trips → σ → Prog (TpuEff nD τ sig (Elt F) Λ₀ .tc) σ} (hb : ∀ k a, Keeps c R (body k a)) :
    Keeps c R (Scf.Loop.for l hok init body) := by
  unfold Keeps at *
  iintro H
  iapply (Scf.wp_for _ _ _ _ _ _ hok init body (fun _ _ => R) hb)
  isplitl [H]
  · iexact H
  · iintro %a H
    iexact H

/-- A load from a buffer the resources contain. -/
theorem keeps_load {R : sProp 𝕄} {sh : Shape} {e : EltTy} {m : Memref sig .tc .vmem sh e} (hm : Has (F := F) c R m)
    (r : LoadRect sh) (hl : m.view.LoadsAt r) :
    Keeps c R (Prog.lift (.load m r hl)) := by
  unfold Keeps Has at *
  iintro H
  ihave H := hm $$ H
  unfold cell owns
  icases H with ⟨⟨%X, %f, %hf, Hm⟩, Hr⟩
  iapply (wp_load Variants.none (c : Thread nD τ) none Set.univ (View.setOn_subset_set _ _)) $$ Hm
  iintro Hm
  rw [wp_ret]
  imodintro
  iapply Hr
  iexists _
  iexists f
  isplitr
  · ipureintro; rfl
  iexact Hm

/-- A store to a buffer the resources contain. -/
theorem keeps_store {R : sProp 𝕄} {sh : Shape} {e : EltTy} {m : Memref sig .tc .vmem sh e} (hm : Has (F := F) c R m)
    (r : Rect sh) (v : r.shape.Idx → Elt F e) (Mk : Finset r.shape.Idx) (hx : (m.access r).Stores Mk)
    (hu : Mk = Finset.univ ∨ ∀ a, r.stride a = 1) :
    Keeps c R (Prog.lift (.store m r v Mk hx hu)) := by
  unfold Keeps Has at *
  iintro H
  ihave H := hm $$ H
  unfold cell owns
  icases H with ⟨⟨%X, %f, %hf, Hm⟩, Hr⟩
  iapply (wp_store (m := m) (r := r) Variants.none (c : Thread nD τ) none Set.univ
    ((View.setOn_subset_set (m.access r) Mk).trans (View.set_slice_subset m.view r))) $$ Hm
  iintro Hm
  rw [wp_ret]
  imodintro
  iapply Hr
  iexists m.view.read (Elt F) ((m.access r).write (Elt F) f v Mk)
  iexists (m.access r).write (Elt F) f v Mk
  isplitr
  · ipureintro; rfl
  iexact Hm

/-! ## The body -/

set_option maxHeartbeats 20000000 in
/-- The whole body: it keeps any resources that contain the buffers it is handed. -/
theorem keeps_body {R : sProp 𝕄}
    (i : grid0.Coords) (arg2 : Memref sig .tc .vmem S1x128x1024 .f32) (harg2 : arg2.IsWhole)
    (arg3 : Memref sig .tc .vmem S1x128x1024 .bf16) (harg3 : arg3.IsWhole)
    (arg4 : Memref sig .tc .vmem S1x128x512 .bf16) (harg4 : arg4.IsWhole) (arg5 : Memref sig .tc .vmem S1x8x128 .f32)
    (harg5 : arg5.IsWhole) (arg6 : Memref sig .tc .vmem S16x256x64 .bf16) (harg6 : arg6.IsWhole)
    (arg7 : Memref sig .tc .vmem S1x8192x256 .bf16) (harg7 : arg7.IsWhole)
    (arg8 : Memref sig .tc .vmem S1x256x8192 .bf16) (harg8 : arg8.IsWhole)
    (arg9 : Memref sig .tc .vmem S1x8192x64 .bf16) (harg9 : arg9.IsWhole)
    (arg10 : Memref sig .tc .vmem S16x64x256 .bf16) (harg10 : arg10.IsWhole)
    (arg11 : Memref sig .tc .vmem S1024x1024 .bf16) (harg11 : arg11.IsWhole)
    (arg12 : Memref sig .tc .vmem S1x1024 .f32) (harg12 : arg12.IsWhole) (arg13 : Memref sig .tc .vmem S1x1024 .f32)
    (harg13 : arg13.IsWhole) (arg14 : Memref sig .tc .vmem S1x1 .f32) (harg14 : arg14.IsWhole)
    (arg15 : Memref sig .tc .vmem S1x128x1024 .f32) (harg15 : arg15.IsWhole)
    (arg16 : Memref sig .tc .vmem S8192x128 .i32) (harg16 : arg16.IsWhole)
    (arg17 : Memref sig .tc .vmem S256x2048 .bf16) (harg17 : arg17.IsWhole)
    (arg18 : Memref sig .tc .vmem S4x256x64 .bf16) (harg18 : arg18.IsWhole)
    (arg19 : Memref sig .tc .vmem S256x2048 .f32) (harg19 : arg19.IsWhole)
    (arg20 : Memref sig .tc .vmem S1x2048 .f32) (harg20 : arg20.IsWhole) (arg21 : Memref sig .tc .vmem S1x2048 .f32)
    (harg21 : arg21.IsWhole) (arg22 : Memref sig .tc .vmem S1x2048 .f32) (harg22 : arg22.IsWhole)
    (arg23 : Memref sig .tc .vmem S1024x128 .f32) (harg23 : arg23.IsWhole) (arg24 : Memref sig .tc .vmem S1x128 .i32)
    (harg24 : arg24.IsWhole) (arg25 : Memref sig .tc .vmem S1x128 .i32) (harg25 : arg25.IsWhole)
    (arg26 : Memref sig .tc .vmem S1x128 .f32) (harg26 : arg26.IsWhole)
    (h2 : Has (F := F) c R arg2) (h3 : Has (F := F) c R arg3) (h4 : Has (F := F) c R arg4)
    (h5 : Has (F := F) c R arg5) (h6 : Has (F := F) c R arg6) (h7 : Has (F := F) c R arg7)
    (h8 : Has (F := F) c R arg8) (h9 : Has (F := F) c R arg9) (h10 : Has (F := F) c R arg10)
    (h11 : Has (F := F) c R arg11) (h12 : Has (F := F) c R arg12) (h13 : Has (F := F) c R arg13)
    (h14 : Has (F := F) c R arg14) (h15 : Has (F := F) c R arg15) (h16 : Has (F := F) c R arg16)
    (h17 : Has (F := F) c R arg17) (h18 : Has (F := F) c R arg18) (h19 : Has (F := F) c R arg19)
    (h20 : Has (F := F) c R arg20) (h21 : Has (F := F) c R arg21) (h22 : Has (F := F) c R arg22)
    (h23 : Has (F := F) c R arg23) (h24 : Has (F := F) c R arg24) (h25 : Has (F := F) c R arg25)
    (h26 : Has (F := F) c R arg26) :
    Keeps c R (cc0_dsa_attn (F := F)
      i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 arg25 harg25 arg26 harg26) := by
  rw [cc0_dsa_attn_eq_skeleton]
  delta cc0_dsa_attn_skel
  beta_reduce
  repeat' first
    | with_reducible exact keeps_load (by assumption) _ _
    | with_reducible exact keeps_store (by assumption) _ _ _ _ _
    | with_reducible exact keeps_pure _
    | with_reducible refine keeps_bind ?_ fun _ => ?_
    | with_reducible refine keeps_ite ?_ ?_
    | with_reducible refine keeps_loop _ _ _ fun _ _ => ?_
    | split
    | dsimp only
    | simp only
        [k0_part1_eq_skeleton, k0_part2_eq_skeleton, k0_part3_eq_skeleton, k0_part4_eq_skeleton,
        k0_part5_eq_skeleton, k0_part6_eq_skeleton, k0_part7_eq_skeleton, k0_part8_eq_skeleton, k0_part9_eq_skeleton,
        k0_part10_eq_skeleton, k0_part11_eq_skeleton, k0_part12_eq_skeleton, k0_part13_eq_skeleton,
        k0_part14_eq_skeleton, k0_part15_eq_skeleton, k0_part16_eq_skeleton, k0_part17_eq_skeleton,
        k0_part18_eq_skeleton, k0_part19_eq_skeleton, k0_part20_eq_skeleton, k0_part21_eq_skeleton,
        k0_part22_eq_skeleton, k0_part23_eq_skeleton, k0_part24_eq_skeleton, k0_part25_eq_skeleton,
        k0_part26_eq_skeleton, k0_part27_eq_skeleton, k0_part28_eq_skeleton, k0_part29_eq_skeleton,
        k0_part30_eq_skeleton, k0_part31_eq_skeleton, k0_part32_eq_skeleton, k0_part33_eq_skeleton,
        k0_part34_eq_skeleton, k0_part35_eq_skeleton, k0_part36_eq_skeleton, k0_part37_eq_skeleton,
        k0_part38_eq_skeleton, k0_part39_eq_skeleton, k0_part40_eq_skeleton, k0_part41_eq_skeleton,
        k0_part42_eq_skeleton, k0_part43_eq_skeleton, k0_part44_eq_skeleton, k0_part45_eq_skeleton,
        k0_part46_eq_skeleton, k0_part47_eq_skeleton, k0_part48_eq_skeleton, k0_part49_eq_skeleton,
        k0_part50_eq_skeleton, k0_part51_eq_skeleton, k0_part52_eq_skeleton, k0_part53_eq_skeleton,
        k0_part54_eq_skeleton, k0_part55_eq_skeleton, k0_part56_eq_skeleton, k0_part57_eq_skeleton,
        k0_part58_eq_skeleton, k0_part59_eq_skeleton, k0_part60_eq_skeleton, k0_part61_eq_skeleton,
        k0_part62_eq_skeleton, k0_part63_eq_skeleton, k0_part64_eq_skeleton, k0_part65_eq_skeleton,
        k0_part66_eq_skeleton, k0_part67_eq_skeleton, k0_part68_eq_skeleton, k0_part69_eq_skeleton,
        k0_part70_eq_skeleton, k0_part71_eq_skeleton, k0_part72_eq_skeleton, k0_part73_eq_skeleton,
        k0_part74_eq_skeleton, k0_part75_eq_skeleton, k0_part76_eq_skeleton, k0_part77_eq_skeleton,
        k0_part78_eq_skeleton, k0_part79_eq_skeleton, k0_part80_eq_skeleton, k0_part81_eq_skeleton,
        k0_part82_eq_skeleton, k0_part83_eq_skeleton, k0_part84_eq_skeleton, k0_part85_eq_skeleton,
        k0_part86_eq_skeleton, k0_part87_eq_skeleton, k0_part88_eq_skeleton, k0_part89_eq_skeleton,
        k0_part90_eq_skeleton, k0_part91_eq_skeleton, k0_part92_eq_skeleton, k0_part93_eq_skeleton,
        k0_part94_eq_skeleton, k0_part95_eq_skeleton, k0_part96_eq_skeleton, k0_part97_eq_skeleton,
        k0_part98_eq_skeleton]
      delta
        k0_part1_skel k0_part2_skel k0_part3_skel k0_part4_skel k0_part5_skel k0_part6_skel k0_part7_skel
        k0_part8_skel k0_part9_skel k0_part10_skel k0_part11_skel k0_part12_skel k0_part13_skel k0_part14_skel
        k0_part15_skel k0_part16_skel k0_part17_skel k0_part18_skel k0_part19_skel k0_part20_skel k0_part21_skel
        k0_part22_skel k0_part23_skel k0_part24_skel k0_part25_skel k0_part26_skel k0_part27_skel k0_part28_skel
        k0_part29_skel k0_part30_skel k0_part31_skel k0_part32_skel k0_part33_skel k0_part34_skel k0_part35_skel
        k0_part36_skel k0_part37_skel k0_part38_skel k0_part39_skel k0_part40_skel k0_part41_skel k0_part42_skel
        k0_part43_skel k0_part44_skel k0_part45_skel k0_part46_skel k0_part47_skel k0_part48_skel k0_part49_skel
        k0_part50_skel k0_part51_skel k0_part52_skel k0_part53_skel k0_part54_skel k0_part55_skel k0_part56_skel
        k0_part57_skel k0_part58_skel k0_part59_skel k0_part60_skel k0_part61_skel k0_part62_skel k0_part63_skel
        k0_part64_skel k0_part65_skel k0_part66_skel k0_part67_skel k0_part68_skel k0_part69_skel k0_part70_skel
        k0_part71_skel k0_part72_skel k0_part73_skel k0_part74_skel k0_part75_skel k0_part76_skel k0_part77_skel
        k0_part78_skel k0_part79_skel k0_part80_skel k0_part81_skel k0_part82_skel k0_part83_skel k0_part84_skel
        k0_part85_skel k0_part86_skel k0_part87_skel k0_part88_skel k0_part89_skel k0_part90_skel k0_part91_skel
        k0_part92_skel k0_part93_skel k0_part94_skel k0_part95_skel k0_part96_skel k0_part97_skel k0_part98_skel
      beta_reduce
    | (delta
        k0_t28_body k0_t29_body k0_t30_body k0_t31_body k0_t32_body k0_t33_body k0_t1_body k0_t2_body k0_t3_body
        k0_t4_body k0_t5_body k0_t6_body k0_t7_body k0_t8_body k0_t9_body k0_t10_body k0_t12_body k0_t13_body
        k0_t11_body k0_t15_body k0_t16_body k0_t14_body k0_t18_body k0_t19_body k0_t17_body k0_t21_body k0_t22_body
        k0_t20_body k0_t23_body k0_t24_body k0_t26_body k0_t27_body k0_t25_body k0_t34_body k0_t35_body k0_t36_body
        k0_t37_body
       beta_reduce)

/-! ## The buffers of a grid point -/

/-- One member of a family of resources can be taken out and put back. -/
theorem hold {I : Type} [DecidableEq I] {s : Finset I} {i : I} (P : I → sProp 𝕄) (hi : i ∈ s) :
    bigSep s P ⊢ iprop(P i ∗ (P i -∗ bigSep s P)) := by
  rw [show bigSep s P = iprop(P i ∗ bigSep (s.erase i) P) from bigSep_erase hi]
  iintro ⟨Hi, Hs⟩
  isplitl [Hi]
  · iexact Hi
  iintro Hi
  isplitl [Hi] <;> iassumption

/-- What the body is handed at grid point `t`, the contents forgotten: the scratch buffers, what the core owes (`O`),
and every operand's current buffer. -/
def held (c : Dev nD) (O : sProp 𝕄) (t : Fin cfg0.N) : sProp 𝕄 :=
  iprop(Pipeline.ΦA spec0 c ∗ O ∗ bigSep Finset.univ fun w : Fin cfg0.W =>
    iprop(∃ X, ⌜True⌝ ∗ owns (c : Thread nD τ) ((cfg0.win w).stage (cfg0.slots t w)) fullShare X))

/-- It contains operand `w`'s buffer. -/
theorem has_stage (c : Dev nD) (O : sProp 𝕄) (t : Fin cfg0.N) (w : Fin cfg0.W) :
    Has (F := F) c (held c O t) ((cfg0.win w).stage (cfg0.slots t w)) := by
  unfold Has held cell
  iintro ⟨HΦ, HO, HS⟩
  ihave HS := (hold _ (Finset.mem_univ w)) $$ HS
  icases HS with ⟨⟨%X, %_, Hw⟩, HS⟩
  isplitl [Hw]
  · iexists X; iexact Hw
  iintro ⟨%Y, Hw⟩
  isplitl [HΦ]
  · iexact HΦ
  isplitl [HO]
  · iexact HO
  iapply HS
  iexists Y
  isplitr
  · ipureintro; trivial
  iexact Hw

/-- It contains every scratch buffer. -/
theorem has_scratch (c : Dev nD) (O : sProp 𝕄) (t : Fin cfg0.N) (i : Fin (sig.nNear Kind.tc Space.vmem))
    (hk : sig.names Kind.tc Space.vmem i = true)
    (hi : (⟨Space.vmem, i, hk⟩ : Ref sig .tc)
      ∈ (Finset.univ.filter fun b : Ref sig .tc => b.isScoped) \ Finset.univ.image (Pipeline.stageRef spec0)) :
    Has (F := F) c (held c O t) (Memref.whole ⟨Space.vmem, i, hk⟩) := by
  unfold Has held cell Pipeline.ΦA Pipeline.scopedRest
  simp only [owns_whole]
  iintro ⟨⟨HR, Hg⟩, HO, HS⟩
  ihave HR := (hold _ hi) $$ HR
  icases HR with ⟨Hb, HR⟩
  isplitl [Hb]
  · iexact Hb
  iintro Hb
  isplitl [HR Hb Hg]
  · isplitl [HR Hb]
    · iapply HR; iexact Hb
    iexact Hg
  isplitl [HO] <;> iassumption

/-! ## The run -/

variable (m : (ℓ : Loc nD τ sig) → Buf (Elt F) ℓ) (ρ : Dev nD → PrngReg)

/-- The proof's data: the arrays as the call finds them, nothing said of what the body leaves in a buffer, and between
grid points the scratch buffers at any contents. -/
def rdat (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body table's row at a grid point is the kernel's body over that point's buffers. -/
theorem row (t : Fin cfg0.N) : defs₀ (F := F) .tc cfg0.body (cfg0.bodyArgs t (cfg0.slots t)) = bodyAt0 t := by
  unfold defs₀; rw [Defs.onTc_tc]

/-- The body at any grid point gives back all it was handed. -/
theorem keeps_point (c : Dev nD) (O : sProp 𝕄) (t : Fin cfg0.N) : Keeps (F := F) c (held c O t) (bodyAt0 t) := by
  unfold bodyAt0
  apply keeps_body
  · exact has_stage c O t 0
  · exact has_stage c O t 1
  · exact has_stage c O t 2
  · exact has_stage c O t 3
  · exact has_stage c O t 4
  · exact has_stage c O t 5
  · exact has_stage c O t 6
  · exact has_stage c O t 7
  · exact has_stage c O t 8
  · exact has_stage c O t 9
  · exact has_stage c O t 10
  · exact has_stage c O t 11
  · exact has_stage c O t 12
  · exact has_stage c O t 13
  all_goals exact has_scratch c O t _ _ (by decide)

/-- A buffer owned at named contents is owned at some contents. -/
theorem loosen (c : Dev nD) {sp : Space} {sh : Shape} {e : EltTy} (m : Memref sig .tc sp sh e) (Y : sh.Idx → Elt F e) :
    (owns (c : Thread nD τ) m fullShare Y : sProp 𝕄) ⊢ iprop(∃ X, ⌜True⌝ ∗ owns (c : Thread nD τ) m fullShare X) := by
  iintro H
  iexists Y
  isplitr
  · ipureintro; trivial
  iexact H

/-- The obligation of the body at every grid point. -/
theorem body_obligation (c : Dev nD) :
    (rdat m c).BodyObligation (defs₀ (F := F)) Variants.none () Set.univ := by
  intro t Y _
  rw [row]
  refine BIBase.Entails.trans ?_ (keeps_point c ((rdat m c).owesAt () t.castSucc) t)
  unfold held
  refine sep_mono .rfl (sep_mono .rfl (bigSep_mono fun w _ => loosen c _ (Y w)))

set_option backward.isDefEq.respectTransparency.types false in
/-- The launch: every execution terminates, with the arrays as the proof's data say and every counter at zero. -/
theorem run : θ_run defs (onTc (τ := τ) (main (F := F))) (s₀ m ρ)
    (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hΦ := fun _ _ => rfl)

/-- An argument the call does not stage ends as launched. -/
theorem rest_eq {r : PUnit × MemSt nD τ sig (Elt F)} (h : Pipeline.RDat.FramePost cfg0 (rdat m) (V m) r) (c : Dev nD)
    (b : Ref sig .tc) (hb : b ∈ Pipeline.restRefs sig spec0) (hV : V m c b = m ((c : Thread nD τ).loc b)) :
    r.2.mem ((c : Thread nD τ).loc b) = m ((c : Thread nD τ).loc b) :=
  ((h c).2 b hb).trans hV

/-- Every execution of the call terminates, with every argument array as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c =>
    ⟨(Pipeline.RDat.FramePost.arr_in h.1 c 0 rfl).trans (V_main_arg0 m c),
      rest_eq m h.1 c main_arg1 (Pipeline.mem_restRefs_of main_arg1 (by decide) (by decide)) (V_main_arg1 m c),
      rest_eq m h.1 c main_arg2 (Pipeline.mem_restRefs_of main_arg2 (by decide) (by decide)) (V_main_arg2 m c),
      rest_eq m h.1 c main_arg3 (Pipeline.mem_restRefs_of main_arg3 (by decide) (by decide)) (V_main_arg3 m c),
      rest_eq m h.1 c main_arg4 (Pipeline.mem_restRefs_of main_arg4 (by decide) (by decide)) (V_main_arg4 m c),
      rest_eq m h.1 c main_arg5 (Pipeline.mem_restRefs_of main_arg5 (by decide) (by decide)) (V_main_arg5 m c),
      rest_eq m h.1 c main_arg6 (Pipeline.mem_restRefs_of main_arg6 (by decide) (by decide)) (V_main_arg6 m c),
      rest_eq m h.1 c main_arg7 (Pipeline.mem_restRefs_of main_arg7 (by decide) (by decide)) (V_main_arg7 m c),
      rest_eq m h.1 c main_arg8 (Pipeline.mem_restRefs_of main_arg8 (by decide) (by decide)) (V_main_arg8 m c),
      rest_eq m h.1 c main_arg9 (Pipeline.mem_restRefs_of main_arg9 (by decide) (by decide)) (V_main_arg9 m c),
      rest_eq m h.1 c main_arg10 (Pipeline.mem_restRefs_of main_arg10 (by decide) (by decide)) (V_main_arg10 m c),
      rest_eq m h.1 c main_arg11 (Pipeline.mem_restRefs_of main_arg11 (by decide) (by decide)) (V_main_arg11 m c)⟩, h.2⟩) (run m ρ)

end Cert.Kernel6.Dsa

end
-- ==== Proof.lean ====
/-
  The proof of `Cert.Claim` (proofs.«01_k».proof.Defs): for every program of the statement the frame claims, and
  for the first five what the idealizer preserves and the algebraic claim against the reference, each proved in a module
  of its own.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.SsdClaims
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.FfnClaims
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.InProj
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.ProjLn
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.AttnProj
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.DsaFrame
public import Idealize.ShloMosaic.Lib.Quiescent

@[expose] public section

noncomputable section

namespace Cert.Proof

open Idealize.ShloMosaic Idealize.SL.Sem

/-- Every claim of the statement, in the order it states them. -/
theorem claim : Cert.Claim := ⟨
  Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  SsdClaims.frame_kernel,
  SsdClaims.frame_ideal,
  SsdClaims.frame_reference,
  FfnClaims.frame_kernel,
  FfnClaims.frame_ideal,
  FfnClaims.frame_reference,
  InProjClaims.frame_kernel,
  InProjClaims.frame_ideal,
  InProjClaims.frame_reference,
  ProjLnClaims.frame_kernel,
  ProjLnClaims.frame_ideal,
  ProjLnClaims.frame_reference,
  AttnProjClaims.frame_kernel,
  AttnProjClaims.frame_ideal,
  AttnProjClaims.frame_reference,
  fun m ρ _ => Cert.Kernel6.Dsa.frame m ρ,
  SsdClaims.preserves,
  SsdClaims.algebraic,
  FfnClaims.preserves,
  FfnClaims.algebraic,
  InProjClaims.preserves,
  InProjClaims.algebraic,
  ProjLnClaims.preserves,
  ProjLnClaims.algebraic,
  AttnProjClaims.preserves,
  AttnProjClaims.algebraic⟩

end Cert.Proof

end
